-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x8 : Shape := ⟨2, ![32, 8]⟩
abbrev S32x2048x256 : Shape := ⟨3, ![32, 2048, 256]⟩
abbrev S8x40 : Shape := ⟨2, ![8, 40]⟩
abbrev S40 : Shape := ⟨1, ![40]⟩
abbrev S40x20 : Shape := ⟨2, ![40, 20]⟩
abbrev S20 : Shape := ⟨1, ![20]⟩
abbrev S1044x256 : Shape := ⟨2, ![1044, 256]⟩
abbrev S256 : Shape := ⟨1, ![256]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel
  bcast_S_S32x2048x256 : S_.BroadcastsInDim S32x2048x256 (![] : Fin 0 → Fin S32x2048x256.rank)
  reducesTo_S32x2048x256_S_d0_1_2 : S32x2048x256.ReducesTo [0, 1, 2] S_
  bcast_S_S8x40 : S_.BroadcastsInDim S8x40 (![] : Fin 0 → Fin S8x40.rank)
  reducesTo_S8x40_S_d0_1 : S8x40.ReducesTo [0, 1] S_
  bcast_S_S40 : S_.BroadcastsInDim S40 (![] : Fin 0 → Fin S40.rank)
  reducesTo_S40_S_d0 : S40.ReducesTo [0] S_
  bcast_S_S40x20 : S_.BroadcastsInDim S40x20 (![] : Fin 0 → Fin S40x20.rank)
  reducesTo_S40x20_S_d0_1 : S40x20.ReducesTo [0, 1] S_
  bcast_S_S20 : S_.BroadcastsInDim S20 (![] : Fin 0 → Fin S20.rank)
  reducesTo_S20_S_d0 : S20.ReducesTo [0] S_
  bcast_S_S1044x256 : S_.BroadcastsInDim S1044x256 (![] : Fin 0 → Fin S1044x256.rank)
  reducesTo_S1044x256_S_d0_1 : S1044x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v49 : IVec S_ 1) (main_v50 : FVec F S256 .f32) : IVec S_ 1 :=
  let main_cst_19 : FVec F S_ .f32 := constant S_ .f32 0x7F800000#32
  let main_v51 : FVec F S256 .f32 := broadcastInDim S256 ![] bcast_S_S256 main_cst_19
  let main_v52 : IVec S256 1 := cmpf .olt main_v50 main_v51
  let main_c_20 : IVec S_ 1 := constantI S_ 1 1#1
  let main_v53 : IVec S_ 1 := (fun x v => Host.reduce IntOp.andi x v reducesTo_S256_S_d0 h_S_) main_v52 main_c_20
  let main_v54 : IVec S_ 1 := andi main_v49 main_v53
  main_v54

def fn_part2 {F : FTy → Type} [FloatOps F] (main_arg7 : FVec F S40x20 .f32) (main_arg8 : FVec F S20 .f32) (main_arg9 : FVec F S1044x256 .f32) (main_arg10 : FVec F S256 .f32) (main_v29 : IVec S_ 1) (main_v32 : IVec S40 1) (main_c_12 : IVec S_ 1) : IVec S_ 1 :=
  let main_v33 : IVec S_ 1 := (fun x v => Host.reduce IntOp.andi x v reducesTo_S40_S_d0 h_S_) main_v32 main_c_12
  let main_v34 : IVec S_ 1 := andi main_v29 main_v33
  let main_v35 : FVec F S40x20 .f32 := Host.absf main_arg7
  let main_cst_13 : FVec F S_ .f32 := constant S_ .f32 0x7F800000#32
  let main_v36 : FVec F S40x20 .f32 := broadcastInDim S40x20 ![] bcast_S_S40x20 main_cst_13
  let main_v37 : IVec S40x20 1 := cmpf .olt main_v35 main_v36
  let main_c_14 : IVec S_ 1 := constantI S_ 1 1#1
  let main_v38 : IVec S_ 1 := (fun x v => Host.reduce IntOp.andi x v reducesTo_S40x20_S_d0_1 h_S_) main_v37 main_c_14
  let main_v39 : IVec S_ 1 := andi main_v34 main_v38
  let main_v40 : FVec F S20 .f32 := Host.absf main_arg8
  let main_cst_15 : FVec F S_ .f32 := constant S_ .f32 0x7F800000#32
  let main_v41 : FVec F S20 .f32 := broadcastInDim S20 ![] bcast_S_S20 main_cst_15
  let main_v42 : IVec S20 1 := cmpf .olt main_v40 main_v41
  let main_c_16 : IVec S_ 1 := constantI S_ 1 1#1
  let main_v43 : IVec S_ 1 := (fun x v => Host.reduce IntOp.andi x v reducesTo_S20_S_d0 h_S_) main_v42 main_c_16
  let main_v44 : IVec S_ 1 := andi main_v39 main_v43
  let main_v45 : FVec F S1044x256 .f32 := Host.absf main_arg9
  let main_cst_17 : FVec F S_ .f32 := constant S_ .f32 0x7F800000#32
  let main_v46 : FVec F S1044x256 .f32 := broadcastInDim S1044x256 ![] bcast_S_S1044x256 main_cst_17
  let main_v47 : IVec S1044x256 1 := cmpf .olt main_v45 main_v46
  let main_c_18 : IVec S_ 1 := constantI S_ 1 1#1
  let main_v48 : IVec S_ 1 := (fun x v => Host.reduce IntOp.andi x v reducesTo_S1044x256_S_d0_1 h_S_) main_v47 main_c_18
  let main_v49 : IVec S_ 1 := andi main_v44 main_v48
  let main_v50 : FVec F S256 .f32 := Host.absf main_arg10
  fn_part3 (F := F) main_v49 main_v50

def fn_part1 {F : FTy → Type} [FloatOps F] (main_arg4 : FVec F S32x2048x256 .f32) (main_arg5 : FVec F S8x40 .f32) (main_arg6 : FVec F S40 .f32) (main_arg7 : FVec F S40x20 .f32) (main_arg8 : FVec F S20 .f32) (main_arg9 : FVec F S1044x256 .f32) (main_arg10 : FVec F S256 .f32) (main_v14 : IVec S_ 1) (main_v15 : FVec F S32x2048x256 .f32) (main_cst_5 : FVec F S_ .f32) : IVec S_ 1 :=
  let main_v16 : FVec F S32x2048x256 .f32 := broadcastInDim S32x2048x256 ![] bcast_S_S32x2048x256 main_cst_5
  let main_v17 : IVec S32x2048x256 1 := cmpf .olt main_v15 main_v16
  let main_c_6 : IVec S_ 1 := constantI S_ 1 1#1
  let main_v18 : IVec S_ 1 := (fun x v => Host.reduce IntOp.andi x v reducesTo_S32x2048x256_S_d0_1_2 h_S_) main_v17 main_c_6
  let main_v19 : IVec S_ 1 := andi main_v14 main_v18
  let main_v20 : FVec F S32x2048x256 .f32 := Host.absf main_arg4
  let main_cst_7 : FVec F S_ .f32 := constant S_ .f32 0x7F800000#32
  let main_v21 : FVec F S32x2048x256 .f32 := broadcastInDim S32x2048x256 ![] bcast_S_S32x2048x256 main_cst_7
  let main_v22 : IVec S32x2048x256 1 := cmpf .olt main_v20 main_v21
  let main_c_8 : IVec S_ 1 := constantI S_ 1 1#1
  let main_v23 : IVec S_ 1 := (fun x v => Host.reduce IntOp.andi x v reducesTo_S32x2048x256_S_d0_1_2 h_S_) main_v22 main_c_8
  let main_v24 : IVec S_ 1 := andi main_v19 main_v23
  let main_v25 : FVec F S8x40 .f32 := Host.absf main_arg5
  let main_cst_9 : FVec F S_ .f32 := constant S_ .f32 0x7F800000#32
  let main_v26 : FVec F S8x40 .f32 := broadcastInDim S8x40 ![] bcast_S_S8x40 main_cst_9
  let main_v27 : IVec S8x40 1 := cmpf .olt main_v25 main_v26
  let main_c_10 : IVec S_ 1 := constantI S_ 1 1#1
  let main_v28 : IVec S_ 1 := (fun x v => Host.reduce IntOp.andi x v reducesTo_S8x40_S_d0_1 h_S_) main_v27 main_c_10
  let main_v29 : IVec S_ 1 := andi main_v24 main_v28
  let main_v30 : FVec F S40 .f32 := Host.absf main_arg6
  let main_cst_11 : FVec F S_ .f32 := constant S_ .f32 0x7F800000#32
  let main_v31 : FVec F S40 .f32 := broadcastInDim S40 ![] bcast_S_S40 main_cst_11
  let main_v32 : IVec S40 1 := cmpf .olt main_v30 main_v31
  let main_c_12 : IVec S_ 1 := constantI S_ 1 1#1
  fn_part2 (F := F) main_arg7 main_arg8 main_arg9 main_arg10 main_v29 main_v32 main_c_12

def fn {F : FTy → Type} [FloatOps F] (main_arg0 : FVec F S32x8 .f32) (main_arg1 : FVec F S32x2048x256 .f32) (main_arg2 : FVec F S32x2048x256 .f32) (main_arg3 : FVec F S32x2048x256 .f32) (main_arg4 : FVec F S32x2048x256 .f32) (main_arg5 : FVec F S8x40 .f32) (main_arg6 : FVec F S40 .f32) (main_arg7 : FVec F S40x20 .f32) (main_arg8 : FVec F S20 .f32) (main_arg9 : FVec F S1044x256 .f32) (main_arg10 : FVec F S256 .f32) : IVec S_ 1 :=
  let main_v0 : FVec F S32x8 .f32 := Host.absf main_arg0
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_c : IVec S_ 1 := constantI S_ 1 1#1
  let main_v3 : IVec S_ 1 := (fun x v => Host.reduce IntOp.andi x v reducesTo_S32x8_S_d0_1 h_S_) main_v2 main_c
  let main_c_0 : IVec S_ 1 := constantI S_ 1 1#1
  let main_v4 : IVec S_ 1 := andi main_c_0 main_v3
  let main_v5 : FVec F S32x2048x256 .f32 := Host.absf main_arg1
  let main_cst_1 : FVec F S_ .f32 := constant S_ .f32 0x7F800000#32
  let main_v6 : FVec F S32x2048x256 .f32 := broadcastInDim S32x2048x256 ![] bcast_S_S32x2048x256 main_cst_1
  let main_v7 : IVec S32x2048x256 1 := cmpf .olt main_v5 main_v6
  let main_c_2 : IVec S_ 1 := constantI S_ 1 1#1
  let main_v8 : IVec S_ 1 := (fun x v => Host.reduce IntOp.andi x v reducesTo_S32x2048x256_S_d0_1_2 h_S_) main_v7 main_c_2
  let main_v9 : IVec S_ 1 := andi main_v4 main_v8
  let main_v10 : FVec F S32x2048x256 .f32 := Host.absf main_arg2
  let main_cst_3 : FVec F S_ .f32 := constant S_ .f32 0x7F800000#32
  let main_v11 : FVec F S32x2048x256 .f32 := broadcastInDim S32x2048x256 ![] bcast_S_S32x2048x256 main_cst_3
  let main_v12 : IVec S32x2048x256 1 := cmpf .olt main_v10 main_v11
  let main_c_4 : IVec S_ 1 := constantI S_ 1 1#1
  let main_v13 : IVec S_ 1 := (fun x v => Host.reduce IntOp.andi x v reducesTo_S32x2048x256_S_d0_1_2 h_S_) main_v12 main_c_4
  let main_v14 : IVec S_ 1 := andi main_v9 main_v13
  let main_v15 : FVec F S32x2048x256 .f32 := Host.absf main_arg3
  let main_cst_5 : FVec F S_ .f32 := constant S_ .f32 0x7F800000#32
  fn_part1 (F := F) main_arg4 main_arg5 main_arg6 main_arg7 main_arg8 main_arg9 main_arg10 main_v14 main_v15 main_cst_5
-- ==== Kernel.lean ====
abbrev S32x8 : Shape := ⟨2, ![32, 8]⟩
abbrev S32x2048x256 : Shape := ⟨3, ![32, 2048, 256]⟩
abbrev S8x40 : Shape := ⟨2, ![8, 40]⟩
abbrev S40 : Shape := ⟨1, ![40]⟩
abbrev S40x20 : Shape := ⟨2, ![40, 20]⟩
abbrev S20 : Shape := ⟨1, ![20]⟩
abbrev S1044x256 : Shape := ⟨2, ![1044, 256]⟩
abbrev S256 : Shape := ⟨1, ![256]⟩
abbrev S_ : Shape := ⟨0, ![]⟩
abbrev S128x128 : Shape := ⟨2, ![128, 128]⟩
abbrev S1x40 : Shape := ⟨2, ![1, 40]⟩
abbrev S1x20 : Shape := ⟨2, ![1, 20]⟩
abbrev S1x256 : Shape := ⟨2, ![1, 256]⟩
abbrev S788x4x16x8x128 : Shape := ⟨5, ![788, 4, 16, 8, 128]⟩
abbrev S32x256x2048 : Shape := ⟨3, ![32, 256, 2048]⟩
abbrev S8x128x256 : Shape := ⟨3, ![8, 128, 256]⟩
abbrev S8x256x128 : Shape := ⟨3, ![8, 256, 128]⟩
abbrev S8x256 : Shape := ⟨2, ![8, 256]⟩
abbrev S8x20 : Shape := ⟨2, ![8, 20]⟩
abbrev S2x8x788x128 : Shape := ⟨4, ![2, 8, 788, 128]⟩
abbrev S2 : Shape := ⟨1, ![2]⟩
abbrev S1 : Shape := ⟨1, ![1]⟩
abbrev S788x1x1x1x128 : Shape := ⟨5, ![788, 1, 1, 1, 128]⟩
abbrev S788x128 : Shape := ⟨2, ![788, 128]⟩
abbrev S1x1x788x128 : Shape := ⟨4, ![1, 1, 788, 128]⟩
abbrev S32x40 : Shape := ⟨2, ![32, 40]⟩
abbrev S32x20 : Shape := ⟨2, ![32, 20]⟩
abbrev S4x8x20 : Shape := ⟨3, ![4, 8, 20]⟩
abbrev S20x256 : Shape := ⟨2, ![20, 256]⟩
abbrev S1024x256 : Shape := ⟨2, ![1024, 256]⟩
abbrev S256x256 : Shape := ⟨2, ![256, 256]⟩
abbrev S8x1x256 : Shape := ⟨3, ![8, 1, 256]⟩
abbrev S128x256 : Shape := ⟨2, ![128, 256]⟩
abbrev S8x127x256 : Shape := ⟨3, ![8, 127, 256]⟩
abbrev S8x2x256 : Shape := ⟨3, ![8, 2, 256]⟩
abbrev S8x126x256 : Shape := ⟨3, ![8, 126, 256]⟩
abbrev S8x4x256 : Shape := ⟨3, ![8, 4, 256]⟩
abbrev S8x124x256 : Shape := ⟨3, ![8, 124, 256]⟩
abbrev S8x8x256 : Shape := ⟨3, ![8, 8, 256]⟩
abbrev S8x120x256 : Shape := ⟨3, ![8, 120, 256]⟩
abbrev S8x16x256 : Shape := ⟨3, ![8, 16, 256]⟩
abbrev S8x112x256 : Shape := ⟨3, ![8, 112, 256]⟩
abbrev S8x32x256 : Shape := ⟨3, ![8, 32, 256]⟩
abbrev S8x96x256 : Shape := ⟨3, ![8, 96, 256]⟩
abbrev S8x64x256 : Shape := ⟨3, ![8, 64, 256]⟩
abbrev S8x128 : Shape := ⟨2, ![8, 128]⟩
abbrev S8x1x128 : Shape := ⟨3, ![8, 1, 128]⟩
abbrev S1x8x256x128 : Shape := ⟨4, ![1, 8, 256, 128]⟩
abbrev S20x8 : Shape := ⟨2, ![20, 8]⟩
abbrev S20x1 : Shape := ⟨2, ![20, 1]⟩
abbrev S20x128 : Shape := ⟨2, ![20, 128]⟩
abbrev S1x1x20x128 : Shape := ⟨4, ![1, 1, 20, 128]⟩
abbrev S4x8x16x128x788 : Shape := ⟨5, ![4, 8, 16, 128, 788]⟩
abbrev S32x2048x788 : Shape := ⟨3, ![32, 2048, 788]⟩

abbrev nBuf : Space → Nat
  | .hbm => 31
  | .vmem => 26
  | .smem => 0
  | _ => 0

abbrev bufTy : (tb : Table) → Fin (tcTables nBuf tb) → BufTy
  | .hbm, ⟨0, _⟩ => ⟨S32x8, .f32⟩
  | .hbm, ⟨1, _⟩ => ⟨S32x2048x256, .f32⟩
  | .hbm, ⟨2, _⟩ => ⟨S32x2048x256, .f32⟩
  | .hbm, ⟨3, _⟩ => ⟨S32x2048x256, .f32⟩
  | .hbm, ⟨4, _⟩ => ⟨S32x2048x256, .f32⟩
  | .hbm, ⟨5, _⟩ => ⟨S8x40, .f32⟩
  | .hbm, ⟨6, _⟩ => ⟨S40, .f32⟩
  | .hbm, ⟨7, _⟩ => ⟨S40x20, .f32⟩
  | .hbm, ⟨8, _⟩ => ⟨S20, .f32⟩
  | .hbm, ⟨9, _⟩ => ⟨S1044x256, .f32⟩
  | .hbm, ⟨10, _⟩ => ⟨S256, .f32⟩
  | .hbm, ⟨11, _⟩ => ⟨S_, .f32⟩
  | .hbm, ⟨12, _⟩ => ⟨S128x128, .f32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .bf16⟩
  | .hbm, ⟨23, _⟩ => ⟨S1x40, .f32⟩
  | .hbm, ⟨24, _⟩ => ⟨S1x20, .f32⟩
  | .hbm, ⟨25, _⟩ => ⟨S1x256, .f32⟩
  | .hbm, ⟨26, _⟩ => ⟨S788x4x16x8x128, .f32⟩
  | .hbm, ⟨27, _⟩ => ⟨S32x256x2048, .i32⟩
  | .hbm, ⟨28, _⟩ => ⟨S32x256x2048, .f32⟩
  | .hbm, ⟨29, _⟩ => ⟨S4x8x16x128x788, .f32⟩
  | .hbm, ⟨30, _⟩ => ⟨S32x2048x788, .f32⟩
  | .local _ .vmem, ⟨0, _⟩ => ⟨S32x8, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x40, .f32⟩
  | .local _ .vmem, ⟨10, _⟩ => ⟨S1x40, .f32⟩
  | .local _ .vmem, ⟨11, _⟩ => ⟨S40x20, .f32⟩
  | .local _ .vmem, ⟨12, _⟩ => ⟨S1x20, .f32⟩
  | .local _ .vmem, ⟨13, _⟩ => ⟨S1044x256, .f32⟩
  | .local _ .vmem, ⟨14, _⟩ => ⟨S1x256, .f32⟩
  | .local _ .vmem, ⟨15, _⟩ => ⟨S128x128, .bf16⟩
  | .local _ .vmem, ⟨16, _⟩ => ⟨S8x256x128, .i32⟩
  | .local _ .vmem, ⟨17, _⟩ => ⟨S8x256x128, .i32⟩
  | .local _ .vmem, ⟨18, _⟩ => ⟨S8x256x128, .f32⟩
  | .local _ .vmem, ⟨19, _⟩ => ⟨S8x256x128, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x20, .f32⟩
  | .local _ .vmem, ⟨24, _⟩ => ⟨S8x256, .f32⟩
  | .local _ .vmem, ⟨25, _⟩ => ⟨S2x8x788x128, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev main_v6_2 : Ref sig .tc := ⟨.hbm, 28, rfl⟩
abbrev main_v7 : Ref sig .tc := ⟨.hbm, 29, rfl⟩
abbrev main_v8 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_0 : BitVec 32 := 2#32
  let v3 : BitVec 1 := Scalar.cmpi .sge v1 c2_i32_0
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 5 → Nat :=
  let c0_i32_165 : BitVec 32 := 0#32
  let arg0 : BitVec 32 := BitVec.ofNat 32 (i 0).val
  let arg1 : BitVec 32 := BitVec.ofNat 32 (i 1).val
  let c0_i32_164 : BitVec 32 := 0#32
  let c0_i32_166 : BitVec 32 := 0#32
  ![0, arg0.toNat, arg1.toNat, 0, 0]
def k0_off3 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_163 : BitVec 32 := 0#32
  let c0_i32_167 : BitVec 32 := 0#32
  let c0_i32_168 : BitVec 32 := 0#32
  ![v2.toNat, 0, 0, 0]
def k0_off4 (i : grid0.Coords) : Fin 5 → Nat :=
  let c0_i32_171 : BitVec 32 := 0#32
  let arg0 : BitVec 32 := BitVec.ofNat 32 (i 0).val
  let arg1 : BitVec 32 := BitVec.ofNat 32 (i 1).val
  let c1_i32_170 : BitVec 32 := 1#32
  let c0_i32_172 : BitVec 32 := 0#32
  ![0, arg0.toNat, arg1.toNat, 1, 0]
def k0_off5 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_169 : BitVec 32 := 1#32
  let c0_i32_173 : BitVec 32 := 0#32
  let c0_i32_174 : BitVec 32 := 0#32
  ![v2.toNat, 1, 0, 0]
def k0_off6 (i : grid0.Coords) : Fin 5 → Nat :=
  let c0_i32_177 : BitVec 32 := 0#32
  let arg0 : BitVec 32 := BitVec.ofNat 32 (i 0).val
  let arg1 : BitVec 32 := BitVec.ofNat 32 (i 1).val
  let c2_i32_176 : BitVec 32 := 2#32
  let c0_i32_178 : BitVec 32 := 0#32
  ![0, arg0.toNat, arg1.toNat, 2, 0]
def k0_off7 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_175 : BitVec 32 := 2#32
  let c0_i32_179 : BitVec 32 := 0#32
  let c0_i32_180 : BitVec 32 := 0#32
  ![v2.toNat, 2, 0, 0]
def k0_off8 (i : grid0.Coords) : Fin 5 → Nat :=
  let c0_i32_183 : BitVec 32 := 0#32
  let arg0 : BitVec 32 := BitVec.ofNat 32 (i 0).val
  let arg1 : BitVec 32 := BitVec.ofNat 32 (i 1).val
  let c3_i32_182 : BitVec 32 := 3#32
  let c0_i32_184 : BitVec 32 := 0#32
  ![0, arg0.toNat, arg1.toNat, 3, 0]
def k0_off9 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_181 : BitVec 32 := 3#32
  let c0_i32_185 : BitVec 32 := 0#32
  let c0_i32_186 : BitVec 32 := 0#32
  ![v2.toNat, 3, 0, 0]
def k0_off10 (i : grid0.Coords) : Fin 5 → Nat :=
  let c0_i32_189 : BitVec 32 := 0#32
  let arg0 : BitVec 32 := BitVec.ofNat 32 (i 0).val
  let arg1 : BitVec 32 := BitVec.ofNat 32 (i 1).val
  let c4_i32_188 : BitVec 32 := 4#32
  let c0_i32_190 : BitVec 32 := 0#32
  ![0, arg0.toNat, arg1.toNat, 4, 0]
def k0_off11 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32_187 : BitVec 32 := 4#32
  let c0_i32_191 : BitVec 32 := 0#32
  let c0_i32_192 : BitVec 32 := 0#32
  ![v2.toNat, 4, 0, 0]
def k0_off12 (i : grid0.Coords) : Fin 5 → Nat :=
  let c0_i32_195 : BitVec 32 := 0#32
  let arg0 : BitVec 32 := BitVec.ofNat 32 (i 0).val
  let arg1 : BitVec 32 := BitVec.ofNat 32 (i 1).val
  let c5_i32_194 : BitVec 32 := 5#32
  let c0_i32_196 : BitVec 32 := 0#32
  ![0, arg0.toNat, arg1.toNat, 5, 0]
def k0_off13 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32_193 : BitVec 32 := 5#32
  let c0_i32_197 : BitVec 32 := 0#32
  let c0_i32_198 : BitVec 32 := 0#32
  ![v2.toNat, 5, 0, 0]
def k0_off14 (i : grid0.Coords) : Fin 5 → Nat :=
  let c0_i32_201 : BitVec 32 := 0#32
  let arg0 : BitVec 32 := BitVec.ofNat 32 (i 0).val
  let arg1 : BitVec 32 := BitVec.ofNat 32 (i 1).val
  let c6_i32_200 : BitVec 32 := 6#32
  let c0_i32_202 : BitVec 32 := 0#32
  ![0, arg0.toNat, arg1.toNat, 6, 0]
def k0_off15 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32_199 : BitVec 32 := 6#32
  let c0_i32_203 : BitVec 32 := 0#32
  let c0_i32_204 : BitVec 32 := 0#32
  ![v2.toNat, 6, 0, 0]
def k0_off16 (i : grid0.Coords) : Fin 5 → Nat :=
  let c0_i32_207 : BitVec 32 := 0#32
  let arg0 : BitVec 32 := BitVec.ofNat 32 (i 0).val
  let arg1 : BitVec 32 := BitVec.ofNat 32 (i 1).val
  let c7_i32_206 : BitVec 32 := 7#32
  let c0_i32_208 : BitVec 32 := 0#32
  ![0, arg0.toNat, arg1.toNat, 7, 0]
def k0_off17 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32_205 : BitVec 32 := 7#32
  let c0_i32_209 : BitVec 32 := 0#32
  let c0_i32_210 : BitVec 32 := 0#32
  ![v2.toNat, 7, 0, 0]
def k0_off18 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v282 : Index := Scalar.indexCast v2
  let c0_94 : Index := 0#32
  let c0_95 : Index := 0#32
  let c0_96 : Index := 0#32
  ![v282.toNat, 0, 0, 0]
def k0_off19 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v286 : Index := Scalar.indexCast v2
  let c0_97 : Index := 0#32
  let c256_98 : Index := 256#32
  let c0_99 : Index := 0#32
  ![v286.toNat, 0, 256, 0]
def k0_off20 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v290 : Index := Scalar.indexCast v2
  let c0_100 : Index := 0#32
  let c512_101 : Index := 512#32
  let c0_102 : Index := 0#32
  ![v290.toNat, 0, 512, 0]
def k0_off21 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v298 : Index := Scalar.indexCast v2
  let c0_103 : Index := 0#32
  let c768_104 : Index := 768#32
  let c0_105 : Index := 0#32
  ![v298.toNat, 0, 768, 0]
def k0_off22 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v305 : Index := Scalar.indexCast v2
  let c1 : Index := 1#32
  let c768_106 : Index := 768#32
  let c0_107 : Index := 0#32
  ![v305.toNat, 1, 768, 0]
def k0_off23 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v312 : Index := Scalar.indexCast v2
  let c2 : Index := 2#32
  let c768_108 : Index := 768#32
  let c0_109 : Index := 0#32
  ![v312.toNat, 2, 768, 0]
def k0_off24 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v319 : Index := Scalar.indexCast v2
  let c3 : Index := 3#32
  let c768_110 : Index := 768#32
  let c0_111 : Index := 0#32
  ![v319.toNat, 3, 768, 0]
def k0_off25 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v326 : Index := Scalar.indexCast v2
  let c4 : Index := 4#32
  let c768_112 : Index := 768#32
  let c0_113 : Index := 0#32
  ![v326.toNat, 4, 768, 0]
def k0_off26 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v333 : Index := Scalar.indexCast v2
  let c5 : Index := 5#32
  let c768_114 : Index := 768#32
  let c0_115 : Index := 0#32
  ![v333.toNat, 5, 768, 0]
def k0_off27 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v340 : Index := Scalar.indexCast v2
  let c6 : Index := 6#32
  let c768_116 : Index := 768#32
  let c0_117 : Index := 0#32
  ![v340.toNat, 6, 768, 0]
def k0_off28 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v347 : Index := Scalar.indexCast v2
  let c7 : Index := 7#32
  let c768_118 : Index := 768#32
  let c0_119 : Index := 0#32
  ![v347.toNat, 7, 768, 0]
def k0_off29 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off30 (i : grid0.Coords) : Fin 5 → Nat :=
  let c0_i32_122 : BitVec 32 := 0#32
  let arg0 : BitVec 32 := BitVec.ofNat 32 (i 0).val
  let arg1 : BitVec 32 := BitVec.ofNat 32 (i 1).val
  let c0_i32_121 : BitVec 32 := 0#32
  let c0_i32_123 : BitVec 32 := 0#32
  ![0, arg0.toNat, arg1.toNat, 0, 0]
def k0_off31 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_120 : BitVec 32 := 0#32
  let c0_i32_124 : BitVec 32 := 0#32
  let c0_i32_125 : BitVec 32 := 0#32
  ![v2.toNat, 0, 0, 0]
def k0_off32 (i : grid0.Coords) : Fin 5 → Nat :=
  let c0_i32_127 : BitVec 32 := 0#32
  let arg0 : BitVec 32 := BitVec.ofNat 32 (i 0).val
  let arg1 : BitVec 32 := BitVec.ofNat 32 (i 1).val
  let c1_i32_126 : BitVec 32 := 1#32
  let c0_i32_128 : BitVec 32 := 0#32
  ![0, arg0.toNat, arg1.toNat, 1, 0]
def k0_off33 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32 : BitVec 32 := 1#32
  let c0_i32_129 : BitVec 32 := 0#32
  let c0_i32_130 : BitVec 32 := 0#32
  ![v2.toNat, 1, 0, 0]
def k0_off34 (i : grid0.Coords) : Fin 5 → Nat :=
  let c0_i32_133 : BitVec 32 := 0#32
  let arg0 : BitVec 32 := BitVec.ofNat 32 (i 0).val
  let arg1 : BitVec 32 := BitVec.ofNat 32 (i 1).val
  let c2_i32_132 : BitVec 32 := 2#32
  let c0_i32_134 : BitVec 32 := 0#32
  ![0, arg0.toNat, arg1.toNat, 2, 0]
def k0_off35 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_131 : BitVec 32 := 2#32
  let c0_i32_135 : BitVec 32 := 0#32
  let c0_i32_136 : BitVec 32 := 0#32
  ![v2.toNat, 2, 0, 0]
def k0_off36 (i : grid0.Coords) : Fin 5 → Nat :=
  let c0_i32_138 : BitVec 32 := 0#32
  let arg0 : BitVec 32 := BitVec.ofNat 32 (i 0).val
  let arg1 : BitVec 32 := BitVec.ofNat 32 (i 1).val
  let c3_i32_137 : BitVec 32 := 3#32
  let c0_i32_139 : BitVec 32 := 0#32
  ![0, arg0.toNat, arg1.toNat, 3, 0]
def k0_off37 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32 : BitVec 32 := 3#32
  let c0_i32_140 : BitVec 32 := 0#32
  let c0_i32_141 : BitVec 32 := 0#32
  ![v2.toNat, 3, 0, 0]
def k0_off38 (i : grid0.Coords) : Fin 5 → Nat :=
  let c0_i32_143 : BitVec 32 := 0#32
  let arg0 : BitVec 32 := BitVec.ofNat 32 (i 0).val
  let arg1 : BitVec 32 := BitVec.ofNat 32 (i 1).val
  let c4_i32_142 : BitVec 32 := 4#32
  let c0_i32_144 : BitVec 32 := 0#32
  ![0, arg0.toNat, arg1.toNat, 4, 0]
def k0_off39 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32 : BitVec 32 := 4#32
  let c0_i32_145 : BitVec 32 := 0#32
  let c0_i32_146 : BitVec 32 := 0#32
  ![v2.toNat, 4, 0, 0]
def k0_off40 (i : grid0.Coords) : Fin 5 → Nat :=
  let c0_i32_148 : BitVec 32 := 0#32
  let arg0 : BitVec 32 := BitVec.ofNat 32 (i 0).val
  let arg1 : BitVec 32 := BitVec.ofNat 32 (i 1).val
  let c5_i32_147 : BitVec 32 := 5#32
  let c0_i32_149 : BitVec 32 := 0#32
  ![0, arg0.toNat, arg1.toNat, 5, 0]
def k0_off41 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32 : BitVec 32 := 5#32
  let c0_i32_150 : BitVec 32 := 0#32
  let c0_i32_151 : BitVec 32 := 0#32
  ![v2.toNat, 5, 0, 0]
def k0_off42 (i : grid0.Coords) : Fin 5 → Nat :=
  let c0_i32_153 : BitVec 32 := 0#32
  let arg0 : BitVec 32 := BitVec.ofNat 32 (i 0).val
  let arg1 : BitVec 32 := BitVec.ofNat 32 (i 1).val
  let c6_i32_152 : BitVec 32 := 6#32
  let c0_i32_154 : BitVec 32 := 0#32
  ![0, arg0.toNat, arg1.toNat, 6, 0]
def k0_off43 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32 : BitVec 32 := 6#32
  let c0_i32_155 : BitVec 32 := 0#32
  let c0_i32_156 : BitVec 32 := 0#32
  ![v2.toNat, 6, 0, 0]
def k0_off44 (i : grid0.Coords) : Fin 5 → Nat :=
  let c0_i32_158 : BitVec 32 := 0#32
  let arg0 : BitVec 32 := BitVec.ofNat 32 (i 0).val
  let arg1 : BitVec 32 := BitVec.ofNat 32 (i 1).val
  let c7_i32_157 : BitVec 32 := 7#32
  let c0_i32_159 : BitVec 32 := 0#32
  ![0, arg0.toNat, arg1.toNat, 7, 0]
def k0_off45 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32 : BitVec 32 := 7#32
  let c0_i32_160 : BitVec 32 := 0#32
  let c0_i32_161 : BitVec 32 := 0#32
  ![v2.toNat, 7, 0, 0]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c63_i32 : BitVec 32 := 63#32
  let v399 : BitVec 1 := Scalar.cmpi .eq v1 c63_i32
  let v400 : BitVec 32 := Scalar.extui v399
  let c0_i32_162 : BitVec 32 := 0#32
  let v401 : BitVec 1 := Scalar.cmpi .ne v400 c0_i32_162
  v401

def k0_off46 (i : grid0.Coords) : Fin 1 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  ![v402.toNat]
def k0_off47 (i : grid0.Coords) : Fin 5 → Nat :=
  let c0_i32_166 : BitVec 32 := 0#32
  let arg0 : BitVec 32 := BitVec.ofNat 32 (i 0).val
  let arg1 : BitVec 32 := BitVec.ofNat 32 (i 1).val
  let c0_i32_165 : BitVec 32 := 0#32
  let c0_i32_167 : BitVec 32 := 0#32
  ![0, arg0.toNat, arg1.toNat, 0, 0]
def k0_off48 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c0_i32_164 : BitVec 32 := 0#32
  let c0_i32_168 : BitVec 32 := 0#32
  let c0_i32_169 : BitVec 32 := 0#32
  ![v402.toNat, 0, 0, 0]
def k0_off49 (i : grid0.Coords) : Fin 5 → Nat :=
  let c0_i32_172 : BitVec 32 := 0#32
  let arg0 : BitVec 32 := BitVec.ofNat 32 (i 0).val
  let arg1 : BitVec 32 := BitVec.ofNat 32 (i 1).val
  let c1_i32_171 : BitVec 32 := 1#32
  let c0_i32_173 : BitVec 32 := 0#32
  ![0, arg0.toNat, arg1.toNat, 1, 0]
def k0_off50 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c1_i32_170 : BitVec 32 := 1#32
  let c0_i32_174 : BitVec 32 := 0#32
  let c0_i32_175 : BitVec 32 := 0#32
  ![v402.toNat, 1, 0, 0]
def k0_off51 (i : grid0.Coords) : Fin 5 → Nat :=
  let c0_i32_178 : BitVec 32 := 0#32
  let arg0 : BitVec 32 := BitVec.ofNat 32 (i 0).val
  let arg1 : BitVec 32 := BitVec.ofNat 32 (i 1).val
  let c2_i32_177 : BitVec 32 := 2#32
  let c0_i32_179 : BitVec 32 := 0#32
  ![0, arg0.toNat, arg1.toNat, 2, 0]
def k0_off52 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c2_i32_176 : BitVec 32 := 2#32
  let c0_i32_180 : BitVec 32 := 0#32
  let c0_i32_181 : BitVec 32 := 0#32
  ![v402.toNat, 2, 0, 0]
def k0_off53 (i : grid0.Coords) : Fin 5 → Nat :=
  let c0_i32_184 : BitVec 32 := 0#32
  let arg0 : BitVec 32 := BitVec.ofNat 32 (i 0).val
  let arg1 : BitVec 32 := BitVec.ofNat 32 (i 1).val
  let c3_i32_183 : BitVec 32 := 3#32
  let c0_i32_185 : BitVec 32 := 0#32
  ![0, arg0.toNat, arg1.toNat, 3, 0]
def k0_off54 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c3_i32_182 : BitVec 32 := 3#32
  let c0_i32_186 : BitVec 32 := 0#32
  let c0_i32_187 : BitVec 32 := 0#32
  ![v402.toNat, 3, 0, 0]
def k0_off55 (i : grid0.Coords) : Fin 5 → Nat :=
  let c0_i32_190 : BitVec 32 := 0#32
  let arg0 : BitVec 32 := BitVec.ofNat 32 (i 0).val
  let arg1 : BitVec 32 := BitVec.ofNat 32 (i 1).val
  let c4_i32_189 : BitVec 32 := 4#32
  let c0_i32_191 : BitVec 32 := 0#32
  ![0, arg0.toNat, arg1.toNat, 4, 0]
def k0_off56 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c4_i32_188 : BitVec 32 := 4#32
  let c0_i32_192 : BitVec 32 := 0#32
  let c0_i32_193 : BitVec 32 := 0#32
  ![v402.toNat, 4, 0, 0]
def k0_off57 (i : grid0.Coords) : Fin 5 → Nat :=
  let c0_i32_196 : BitVec 32 := 0#32
  let arg0 : BitVec 32 := BitVec.ofNat 32 (i 0).val
  let arg1 : BitVec 32 := BitVec.ofNat 32 (i 1).val
  let c5_i32_195 : BitVec 32 := 5#32
  let c0_i32_197 : BitVec 32 := 0#32
  ![0, arg0.toNat, arg1.toNat, 5, 0]
def k0_off58 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c5_i32_194 : BitVec 32 := 5#32
  let c0_i32_198 : BitVec 32 := 0#32
  let c0_i32_199 : BitVec 32 := 0#32
  ![v402.toNat, 5, 0, 0]
def k0_off59 (i : grid0.Coords) : Fin 5 → Nat :=
  let c0_i32_202 : BitVec 32 := 0#32
  let arg0 : BitVec 32 := BitVec.ofNat 32 (i 0).val
  let arg1 : BitVec 32 := BitVec.ofNat 32 (i 1).val
  let c6_i32_201 : BitVec 32 := 6#32
  let c0_i32_203 : BitVec 32 := 0#32
  ![0, arg0.toNat, arg1.toNat, 6, 0]
def k0_off60 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c6_i32_200 : BitVec 32 := 6#32
  let c0_i32_204 : BitVec 32 := 0#32
  let c0_i32_205 : BitVec 32 := 0#32
  ![v402.toNat, 6, 0, 0]
def k0_off61 (i : grid0.Coords) : Fin 5 → Nat :=
  let c0_i32_208 : BitVec 32 := 0#32
  let arg0 : BitVec 32 := BitVec.ofNat 32 (i 0).val
  let arg1 : BitVec 32 := BitVec.ofNat 32 (i 1).val
  let c7_i32_207 : BitVec 32 := 7#32
  let c0_i32_209 : BitVec 32 := 0#32
  ![0, arg0.toNat, arg1.toNat, 7, 0]
def k0_off62 (i : grid0.Coords) : Fin 4 → Nat :=
  let c1_i32_163 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v402 : BitVec 32 := Scalar.subi c1_i32_163 v2
  let c7_i32_206 : BitVec 32 := 7#32
  let c0_i32_210 : BitVec 32 := 0#32
  let c0_i32_211 : BitVec 32 := 0#32
  ![v402.toNat, 7, 0, 0]
def k0_off63 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off64 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_212 : BitVec 32 := 0#32
  let c0_i32_216 : BitVec 32 := 0#32
  let c0_i32_217 : BitVec 32 := 0#32
  ![v2.toNat, 0, 0, 0]
def k0_off65 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_218 : BitVec 32 := 1#32
  let c0_i32_222 : BitVec 32 := 0#32
  let c0_i32_223 : BitVec 32 := 0#32
  ![v2.toNat, 1, 0, 0]
def k0_off66 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_224 : BitVec 32 := 2#32
  let c0_i32_228 : BitVec 32 := 0#32
  let c0_i32_229 : BitVec 32 := 0#32
  ![v2.toNat, 2, 0, 0]
def k0_off67 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_230 : BitVec 32 := 3#32
  let c0_i32_234 : BitVec 32 := 0#32
  let c0_i32_235 : BitVec 32 := 0#32
  ![v2.toNat, 3, 0, 0]
def k0_off68 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32_236 : BitVec 32 := 4#32
  let c0_i32_240 : BitVec 32 := 0#32
  let c0_i32_241 : BitVec 32 := 0#32
  ![v2.toNat, 4, 0, 0]
def k0_off69 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32_242 : BitVec 32 := 5#32
  let c0_i32_246 : BitVec 32 := 0#32
  let c0_i32_247 : BitVec 32 := 0#32
  ![v2.toNat, 5, 0, 0]
def k0_off70 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32_248 : BitVec 32 := 6#32
  let c0_i32_252 : BitVec 32 := 0#32
  let c0_i32_253 : BitVec 32 := 0#32
  ![v2.toNat, 6, 0, 0]
def k0_off71 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32_254 : BitVec 32 := 7#32
  let c0_i32_258 : BitVec 32 := 0#32
  let c0_i32_259 : BitVec 32 := 0#32
  ![v2.toNat, 7, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S40x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1044x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x256x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S32x8 : Shape := ⟨2, ![32, 8]⟩
abbrev S32x2048x256 : Shape := ⟨3, ![32, 2048, 256]⟩
abbrev S8x40 : Shape := ⟨2, ![8, 40]⟩
abbrev S40 : Shape := ⟨1, ![40]⟩
abbrev S40x20 : Shape := ⟨2, ![40, 20]⟩
abbrev S20 : Shape := ⟨1, ![20]⟩
abbrev S1044x256 : Shape := ⟨2, ![1044, 256]⟩
abbrev S256 : Shape := ⟨1, ![256]⟩
abbrev S32x40 : Shape := ⟨2, ![32, 40]⟩
abbrev S1x40 : Shape := ⟨2, ![1, 40]⟩
abbrev S_ : Shape := ⟨0, ![]⟩
abbrev S32x20 : Shape := ⟨2, ![32, 20]⟩
abbrev S1x20 : Shape := ⟨2, ![1, 20]⟩
abbrev S32x1x20 : Shape := ⟨3, ![32, 1, 20]⟩
abbrev S32x2048x20 : Shape := ⟨3, ![32, 2048, 20]⟩
abbrev S32x2048x1044 : Shape := ⟨3, ![32, 2048, 1044]⟩
abbrev S1x1x256 : Shape := ⟨3, ![1, 1, 256]⟩
abbrev S2048 : Shape := ⟨1, ![2048]⟩
abbrev S1x2048x1 : Shape := ⟨3, ![1, 2048, 1]⟩
abbrev S32x1x256 : Shape := ⟨3, ![32, 1, 256]⟩
abbrev S32x256 : Shape := ⟨2, ![32, 256]⟩
abbrev S2048x32x256 : Shape := ⟨3, ![2048, 32, 256]⟩
abbrev S1x32x256 : Shape := ⟨3, ![1, 32, 256]⟩
abbrev S32x256x2048 : Shape := ⟨3, ![32, 256, 2048]⟩
abbrev S32x2048 : Shape := ⟨2, ![32, 2048]⟩
abbrev S32x2048x1 : Shape := ⟨3, ![32, 2048, 1]⟩
abbrev S32x2048x788 : Shape := ⟨3, ![32, 2048, 788]⟩

abbrev nBuf : Space → Nat
  | .hbm => 179
  | .vmem => 0
  | .smem => 0
  | _ => 0

abbrev hbmTy0_0 (i : Nat) : BufTy := match i % 128 with
  | 0 => ⟨S32x8, .f32⟩
  | 1 => ⟨S32x2048x256, .f32⟩
  | 2 => ⟨S32x2048x256, .f32⟩
  | 3 => ⟨S32x2048x256, .f32⟩
  | 4 => ⟨S32x2048x256, .f32⟩
  | 5 => ⟨S8x40, .f32⟩
  | 6 => ⟨S40, .f32⟩
  | 7 => ⟨S40x20, .f32⟩
  | 8 => ⟨S20, .f32⟩
  | 9 => ⟨S1044x256, .f32⟩
  | 10 => ⟨S256, .f32⟩
  | 11 => ⟨S32x40, .f32⟩
  | 12 => ⟨S1x40, .f32⟩
  | 13 => ⟨S32x40, .f32⟩
  | 14 => ⟨S32x40, .f32⟩
  | 15 => ⟨S_, .f32⟩
  | 16 => ⟨S32x40, .f32⟩
  | 17 => ⟨S32x40, .f32⟩
  | 18 => ⟨S32x20, .f32⟩
  | 19 => ⟨S1x20, .f32⟩
  | 20 => ⟨S32x20, .f32⟩
  | 21 => ⟨S32x20, .f32⟩
  | 22 => ⟨S_, .f32⟩
  | 23 => ⟨S32x20, .f32⟩
  | 24 => ⟨S32x20, .f32⟩
  | 25 => ⟨S32x1x20, .f32⟩
  | 26 => ⟨S32x2048x20, .f32⟩
  | 27 => ⟨S32x2048x1044, .f32⟩
  | 28 => ⟨S32x2048x256, .f32⟩
  | 29 => ⟨S1x1x256, .f32⟩
  | 30 => ⟨S32x2048x256, .f32⟩
  | 31 => ⟨S32x2048x256, .f32⟩
  | 32 => ⟨S2048, .i32⟩
  | 33 => ⟨S1x2048x1, .i32⟩
  | 34 => ⟨S_, .i32⟩
  | 35 => ⟨S1x2048x1, .i32⟩
  | 36 => ⟨S1x2048x1, .i1⟩
  | 37 => ⟨S32x1x256, .f32⟩
  | 38 => ⟨S32x256, .f32⟩
  | 39 => ⟨S_, .i32⟩
  | 40 => ⟨S32x256, .i32⟩
  | 41 => ⟨S2048x32x256, .f32⟩
  | 42 => ⟨S_, .i32⟩
  | 43 => ⟨S_, .f32⟩
  | 44 => ⟨S2048x32x256, .f32⟩
  | 45 => ⟨S_, .i32⟩
  | 46 => ⟨S2048x32x256, .i32⟩
  | 47 => ⟨S_, .i32⟩
  | 48 => ⟨S2048x32x256, .f32⟩
  | 49 => ⟨S_, .i32⟩
  | 50 => ⟨S32x256, .f32⟩
  | 51 => ⟨S32x256, .i32⟩
  | 52 => ⟨S_, .i32⟩
  | 53 => ⟨S2048x32x256, .f32⟩
  | 54 => ⟨S2048x32x256, .i32⟩
  | 55 => ⟨S_, .i32⟩
  | 56 => ⟨S_, .i1⟩
  | 57 => ⟨S_, .i32⟩
  | 58 => ⟨S_, .i32⟩
  | 59 => ⟨S1x32x256, .f32⟩
  | 60 => ⟨S32x256, .f32⟩
  | 61 => ⟨S32x256, .i1⟩
  | 62 => ⟨S32x256, .f32⟩
  | 63 => ⟨S32x256, .i32⟩
  | 64 => ⟨S32x256, .i32⟩
  | 65 => ⟨S_, .i32⟩
  | 66 => ⟨S_, .i32⟩
  | 67 => ⟨S1x32x256, .f32⟩
  | 68 => ⟨S_, .i32⟩
  | 69 => ⟨S_, .i32⟩
  | 70 => ⟨S2048x32x256, .f32⟩
  | 71 => ⟨S1x32x256, .i32⟩
  | 72 => ⟨S_, .i32⟩
  | 73 => ⟨S_, .i32⟩
  | 74 => ⟨S2048x32x256, .i32⟩
  | 75 => ⟨S_, .i32⟩
  | 76 => ⟨S_, .i32⟩
  | 77 => ⟨S32x2048x256, .f32⟩
  | 78 => ⟨S32x2048x256, .i32⟩
  | 79 => ⟨S_, .f32⟩
  | 80 => ⟨S32x2048x256, .f32⟩
  | 81 => ⟨S32x2048x256, .f32⟩
  | 82 => ⟨S32x2048x256, .i1⟩
  | 83 => ⟨S32x2048x256, .f32⟩
  | 84 => ⟨S_, .f32⟩
  | 85 => ⟨S32x2048x256, .f32⟩
  | 86 => ⟨S32x2048x256, .i1⟩
  | 87 => ⟨S32x2048x256, .i1⟩
  | 88 => ⟨S32x2048x256, .i1⟩
  | 89 => ⟨S_, .i32⟩
  | 90 => ⟨S1x2048x1, .i32⟩
  | 91 => ⟨S1x2048x1, .i32⟩
  | 92 => ⟨S32x2048x256, .i32⟩
  | 93 => ⟨S32x2048x256, .i32⟩
  | 94 => ⟨S_, .f32⟩
  | 95 => ⟨S_, .f32⟩
  | 96 => ⟨S32x2048x256, .f32⟩
  | 97 => ⟨S_, .f32⟩
  | 98 => ⟨S32x2048x256, .f32⟩
  | 99 => ⟨S32x2048x256, .f32⟩
  | 100 => ⟨S_, .i32⟩
  | 101 => ⟨S1x2048x1, .i32⟩
  | 102 => ⟨S1x2048x1, .i32⟩
  | 103 => ⟨S1x2048x1, .f32⟩
  | 104 => ⟨S1x2048x1, .f32⟩
  | 105 => ⟨S32x2048x256, .f32⟩
  | 106 => ⟨S32x2048x256, .f32⟩
  | 107 => ⟨S32x256x2048, .f32⟩
  | 108 => ⟨S32x256x2048, .i32⟩
  | 109 => ⟨S_, .f32⟩
  | 110 => ⟨S32x2048, .f32⟩
  | 111 => ⟨S32x2048x1, .f32⟩
  | 112 => ⟨S_, .f32⟩
  | 113 => ⟨S32x2048x1, .f32⟩
  | 114 => ⟨S32x2048x1, .f32⟩
  | 115 => ⟨S32x2048x256, .f32⟩
  | 116 => ⟨S32x2048x256, .f32⟩
  | 117 => ⟨S32x2048x256, .f32⟩
  | 118 => ⟨S_, .f32⟩
  | 119 => ⟨S32x2048, .f32⟩
  | 120 => ⟨S32x2048x1, .f32⟩
  | 121 => ⟨S_, .f32⟩
  | 122 => ⟨S32x2048x1, .f32⟩
  | 123 => ⟨S32x2048x1, .f32⟩
  | 124 => ⟨S32x2048x256, .f32⟩
  | 125 => ⟨S32x2048x256, .f32⟩
  | 126 => ⟨S_, .f32⟩
  | 127 => ⟨S32x2048x1, .f32⟩
  | _ => ⟨S32x8, .f32⟩

abbrev hbmTy0_1 (i : Nat) : BufTy := match i % 128 with
  | 0 => ⟨S32x2048x1, .f32⟩
  | 1 => ⟨S32x2048x1, .f32⟩
  | 2 => ⟨S32x2048x256, .f32⟩
  | 3 => ⟨S32x2048x256, .f32⟩
  | 4 => ⟨S_, .f32⟩
  | 5 => ⟨S32x2048, .f32⟩
  | 6 => ⟨S32x2048x1, .f32⟩
  | 7 => ⟨S_, .f32⟩
  | 8 => ⟨S32x2048x1, .f32⟩
  | 9 => ⟨S32x2048x1, .f32⟩
  | 10 => ⟨S32x2048x256, .f32⟩
  | 11 => ⟨S32x2048x256, .f32⟩
  | 12 => ⟨S32x2048x256, .f32⟩
  | 13 => ⟨S_, .f32⟩
  | 14 => ⟨S32x2048, .f32⟩
  | 15 => ⟨S32x2048x1, .f32⟩
  | 16 => ⟨S_, .f32⟩
  | 17 => ⟨S32x2048x1, .f32⟩
  | 18 => ⟨S32x2048x1, .f32⟩
  | 19 => ⟨S32x2048x256, .f32⟩
  | 20 => ⟨S32x2048x256, .f32⟩
  | 21 => ⟨S_, .f32⟩
  | 22 => ⟨S32x2048x1, .f32⟩
  | 23 => ⟨S32x2048x1, .f32⟩
  | 24 => ⟨S32x2048x1, .f32⟩
  | 25 => ⟨S32x2048x256, .f32⟩
  | 26 => ⟨S32x2048x256, .f32⟩
  | 27 => ⟨S_, .f32⟩
  | 28 => ⟨S32x2048, .f32⟩
  | 29 => ⟨S32x2048x1, .f32⟩
  | 30 => ⟨S_, .f32⟩
  | 31 => ⟨S32x2048x1, .f32⟩
  | 32 => ⟨S32x2048x1, .f32⟩
  | 33 => ⟨S32x2048x256, .f32⟩
  | 34 => ⟨S32x2048x256, .f32⟩
  | 35 => ⟨S32x2048x256, .f32⟩
  | 36 => ⟨S_, .f32⟩
  | 37 => ⟨S32x2048, .f32⟩
  | 38 => ⟨S32x2048x1, .f32⟩
  | 39 => ⟨S_, .f32⟩
  | 40 => ⟨S32x2048x1, .f32⟩
  | 41 => ⟨S32x2048x1, .f32⟩
  | 42 => ⟨S32x2048x256, .f32⟩
  | 43 => ⟨S32x2048x256, .f32⟩
  | 44 => ⟨S_, .f32⟩
  | 45 => ⟨S32x2048x1, .f32⟩
  | 46 => ⟨S32x2048x1, .f32⟩
  | 47 => ⟨S32x2048x1, .f32⟩
  | 48 => ⟨S32x2048x256, .f32⟩
  | 49 => ⟨S32x2048x256, .f32⟩
  | 50 => ⟨S32x2048x788, .f32⟩
  | _ => ⟨S32x8, .f32⟩

abbrev hbmTy (i : Nat) : BufTy := match i / 128 with
  | 0 => hbmTy0_0 i
  | 1 => hbmTy0_1 i
  | _ => ⟨S32x8, .f32⟩

abbrev bufTy : (tb : Table) → Fin (tcTables nBuf tb) → BufTy
  | .hbm, ⟨i, _⟩ => hbmTy i
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_0 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_cst : Ref sig .tc := ⟨.hbm, 43, rfl⟩
abbrev main_v25 : Ref sig .tc := ⟨.hbm, 44, rfl⟩
abbrev main_c_2 : Ref sig .tc := ⟨.hbm, 45, rfl⟩
abbrev main_v26 : Ref sig .tc := ⟨.hbm, 46, rfl⟩
abbrev main_c_3 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev main_v27_3 : Ref sig .tc := ⟨.hbm, 51, rfl⟩
abbrev main_v27_4 : Ref sig .tc := ⟨.hbm, 52, rfl⟩
abbrev main_v27_5 : Ref sig .tc := ⟨.hbm, 53, rfl⟩
abbrev main_v27_6 : Ref sig .tc := ⟨.hbm, 54, rfl⟩
abbrev main_while0c_c_30 : Ref sig .tc := ⟨.hbm, 55, rfl⟩
abbrev main_while0c_v106 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_v0 : Ref sig .tc := ⟨.hbm, 59, rfl⟩
abbrev main_while0b_v106 : Ref sig .tc := ⟨.hbm, 60, rfl⟩
abbrev main_while0b_v107 : Ref sig .tc := ⟨.hbm, 61, rfl⟩
abbrev main_while0b_v108 : Ref sig .tc := ⟨.hbm, 62, rfl⟩
abbrev main_while0b_call4_v0 : Ref sig .tc := ⟨.hbm, 63, rfl⟩
abbrev main_while0b_v109 : Ref sig .tc := ⟨.hbm, 64, rfl⟩
abbrev main_while0b_c_30 : Ref sig .tc := ⟨.hbm, 65, rfl⟩
abbrev main_while0b_v110 : Ref sig .tc := ⟨.hbm, 66, rfl⟩
abbrev main_while0b_call5_v0 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_v111 : Ref sig .tc := ⟨.hbm, 70, rfl⟩
abbrev main_while0b_call6_v0 : Ref sig .tc := ⟨.hbm, 71, rfl⟩
abbrev main_while0b_call6_c : Ref sig .tc := ⟨.hbm, 72, rfl⟩
abbrev main_while0b_call6_c_0 : Ref sig .tc := ⟨.hbm, 73, rfl⟩
abbrev main_while0b_v112 : Ref sig .tc := ⟨.hbm, 74, rfl⟩
abbrev main_while0b_c_31 : Ref sig .tc := ⟨.hbm, 75, rfl⟩
abbrev main_while0b_v113 : Ref sig .tc := ⟨.hbm, 76, rfl⟩
abbrev main_v28 : Ref sig .tc := ⟨.hbm, 77, rfl⟩
abbrev main_v29 : Ref sig .tc := ⟨.hbm, 78, rfl⟩
abbrev main_cst_4 : Ref sig .tc := ⟨.hbm, 79, rfl⟩
abbrev main_v30 : Ref sig .tc := ⟨.hbm, 80, rfl⟩
abbrev main_v31 : Ref sig .tc := ⟨.hbm, 81, rfl⟩
abbrev main_call7_v0 : Ref sig .tc := ⟨.hbm, 82, rfl⟩
abbrev main_v32 : Ref sig .tc := ⟨.hbm, 83, rfl⟩
abbrev main_cst_5 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_6 : Ref sig .tc := ⟨.hbm, 89, rfl⟩
abbrev main_v37 : Ref sig .tc := ⟨.hbm, 90, rfl⟩
abbrev main_v38 : Ref sig .tc := ⟨.hbm, 91, rfl⟩
abbrev main_call8_v0 : Ref sig .tc := ⟨.hbm, 92, rfl⟩
abbrev main_v39 : Ref sig .tc := ⟨.hbm, 93, rfl⟩
abbrev main_call9_call0_cst : Ref sig .tc := ⟨.hbm, 94, rfl⟩
abbrev main_call9_call0_v0 : Ref sig .tc := ⟨.hbm, 95, rfl⟩
abbrev main_v40 : Ref sig .tc := ⟨.hbm, 96, rfl⟩
abbrev main_cst_7 : Ref sig .tc := ⟨.hbm, 97, rfl⟩
abbrev main_v41 : Ref sig .tc := ⟨.hbm, 98, rfl⟩
abbrev main_v42 : Ref sig .tc := ⟨.hbm, 99, rfl⟩
abbrev main_c_8 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_9 : Ref sig .tc := ⟨.hbm, 109, rfl⟩
abbrev main_v51 : Ref sig .tc := ⟨.hbm, 110, rfl⟩
abbrev main_v52 : Ref sig .tc := ⟨.hbm, 111, rfl⟩
abbrev main_cst_10 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_11 : Ref sig .tc := ⟨.hbm, 118, rfl⟩
abbrev main_v58 : Ref sig .tc := ⟨.hbm, 119, rfl⟩
abbrev main_v59 : Ref sig .tc := ⟨.hbm, 120, rfl⟩
abbrev main_cst_12 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_13 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_14 : Ref sig .tc := ⟨.hbm, 132, rfl⟩
abbrev main_v69 : Ref sig .tc := ⟨.hbm, 133, rfl⟩
abbrev main_v70 : Ref sig .tc := ⟨.hbm, 134, rfl⟩
abbrev main_cst_15 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_16 : Ref sig .tc := ⟨.hbm, 141, rfl⟩
abbrev main_v76 : Ref sig .tc := ⟨.hbm, 142, rfl⟩
abbrev main_v77 : Ref sig .tc := ⟨.hbm, 143, rfl⟩
abbrev main_cst_17 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_cst_18 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_cst_19 : Ref sig .tc := ⟨.hbm, 155, rfl⟩
abbrev main_v87 : Ref sig .tc := ⟨.hbm, 156, rfl⟩
abbrev main_v88 : Ref sig .tc := ⟨.hbm, 157, rfl⟩
abbrev main_cst_20 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_21 : Ref sig .tc := ⟨.hbm, 164, rfl⟩
abbrev main_v94 : Ref sig .tc := ⟨.hbm, 165, rfl⟩
abbrev main_v95 : Ref sig .tc := ⟨.hbm, 166, rfl⟩
abbrev main_cst_22 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_23 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩

abbrev nD : Nat := 1
abbrev τ : Topo := Topo.v7x

variable {F : FTy → Type} [FloatOps F]

abbrev main_while0_count : Scf.Loop 32 := ⟨0#32, 2048#32, 1#32⟩
-- ==== Proof.KernelIdeal.Ring.lean ====
/- The write-behind ring of the encoder's output: sixty-four steps, two slots of eight tiles each.
   At step `u` the body packs the eight tiles of slot `u mod 2`, starts eight copies of them into the output array
   (one per batch member), and waits for them two steps later.  This module states the pieces of that protocol with
   the CONTENTS named: what each tile holds when its copy starts, and what each piece of the output array holds
   once its copy has been waited for. -/
module

public import proofs.«01_k».proof.Proof.Gen.KernelIdeal.Frame
public import proofs.«01_k».proof.Proof.Gen.KernelIdeal.Skeleton
public import Idealize.ShloMosaic.Lib.Batch
public import Idealize.ShloMosaic.Lib.Ring.WriteBehind
public import Idealize.ShloMosaic.Lib.Pipeline.FrameSuffixV
public import Idealize.ShloMosaic.Lib.WordCmp

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The scratch buffers and the output array, as the body receives them -/

/-- The carried sums. -/
abbrev scM0 : Memref sig .tc .vmem S8x256 .f32 := Memref.whole cc0_scratch0
/-- The carried maxima. -/
abbrev scM1 : Memref sig .tc .vmem S8x256 .f32 := Memref.whole cc0_scratch1
/-- The carried positions of the maxima. -/
abbrev scM2 : Memref sig .tc .vmem S8x256 .f32 := Memref.whole cc0_scratch2
/-- The encoded demographics of the eight batch members. -/
abbrev scM3 : Memref sig .tc .vmem S8x20 .f32 := Memref.whole cc0_scratch3
/-- The demographics' part of the linear layer, bias included. -/
abbrev scM4 : Memref sig .tc .vmem S8x256 .f32 := Memref.whole cc0_scratch4
/-- The ring's two slots of eight tiles. -/
abbrev scM5 : Memref sig .tc .vmem S2x8x788x128 .f32 := Memref.whole cc0_scratch5
/-- The output array the body's own copies write. -/
abbrev hbM : Memref sig .tc .hbm S788x4x16x8x128 .f32 := Memref.whole main_v6_0

/-- The contents type of a memref's buffer on core `c`. -/
abbrev HbBuf (c : Dev nD) {sp : Space} {S : Shape} {e : EltTy} (M : Memref sig .tc sp S e) : Type := Buf (Elt F) (M.view.loc (c : Thread nD τ))

/-- The ring's two semaphore cells. -/
abbrev osem : Fin 2 → SemLoc sig := fun j => (![SemLoc.dma 20, SemLoc.dma 21] : Fin 2 → SemLoc sig) j
/-- Neither cell is a window's. -/
theorem ownSemFacts : Pipeline.OwnSemFacts spec0 osem := by decide
/-- The array the body's copies write, as the one-element set the launch is told. -/
def R : Finset (Ref sig .tc) := {main_v6_0}
/-- No array left in HBM is only read by the body. -/
def H : Finset (Ref sig .tc) := {}
/-- The read-only set lies outside the windows' arrays. -/
theorem H_sub : H ⊆ Pipeline.restRefs sig spec0 := by decide
/-- The written array is outside the windows' arrays and outside the read-only set. -/
theorem R_sub : R ⊆ Pipeline.restRefs sig spec0 \ H := by decide

/-! ## The names of the tiles, pieces and cells -/

/-- The grid has steps. -/
instance : NeZero grid0.N := ⟨by rw [N_0]; decide⟩
/-- Tile `(g, m)` lies inside the scratch. -/
theorem inb_tile (g : Fin 2) (m : Fin 8) : ∀ a, (![g.val, m.val, 0, 0] : Fin 4 → Nat) a + S1x1x788x128.size a ≤ S2x8x788x128.size a := by
  have := g.isLt; have := m.isLt; intro a; fin_cases a <;> simp <;> omega
/-- Piece `(u, m)` lies inside the output array. -/
theorem inb_piece (u : Fin 64) (m : Fin 8) : ∀ a, (![0, (u.val / 16), (u.val % 16), m.val, 0] : Fin 5 → Nat) a + S788x1x1x1x128.size a ≤ S788x4x16x8x128.size a := by
  have := u.isLt; have := m.isLt; intro a; fin_cases a <;> simp <;> omega
/-- Cell `g` lies inside the semaphore array. -/
theorem inb_cell (g : Fin 2) : ∀ a, (![g.val] : Fin 1 → Nat) a + S1.size a ≤ S2.size a := by
  have := g.isLt; intro a; fin_cases a <;> simp <;> omega
/-- Tile `(g, m)`: member `m` of slot `g`, as the copies name their source. -/
def tile (g : Fin 2) (m : Fin 8) : Memref sig .tc .vmem S788x128 .f32 :=
  (scM5.slice (Rect.unit (s := S2x8x788x128) ![g.val, m.val, 0, 0] S1x1x788x128.size (inb_tile g m)) (fun _ => rfl)).squeeze S788x128 squeezes_S1x1x788x128_S788x128
/-- Piece `(u, m)` of the output array: what step `u` writes for member `m`, as the copies name their destination. -/
def piece (u : Fin 64) (m : Fin 8) : Memref sig .tc .hbm S788x128 .f32 :=
  (hbM.slice (Rect.unit (s := S788x4x16x8x128) ![0, (u.val / 16), (u.val % 16), m.val, 0] S788x1x1x1x128.size (inb_piece u m)) (fun _ => rfl)).squeeze S788x128 squeezes_S788x1x1x1x128_S788x128
/-- Cell `g` of the ring's semaphores, as the body names it. -/
def cellA (g : Fin 2) : DmaSems sig S_ := (cc0_scratch6.slice (Rect.unit (s := S2) ![g.val] S1.size (inb_cell g))).squeeze S_ squeezes_S1_S_
/-- The same cell's place in the pool. -/
abbrev cellR (g : Fin 2) : SemLoc sig := SemLoc.dma (cellA g).sem
/-- The slot's semaphore, by its number. -/
theorem cellR_0 : cellR 0 = SemLoc.dma 20 := by decide
/-- The slot's semaphore, by its number. -/
theorem cellR_1 : cellR 1 = SemLoc.dma 21 := by decide

/-! ## Where the tiles and pieces lie -/

/-- A tile's corner in the scratch buffer. -/
abbrev tileOff (i : Fin 2 × Fin 8) : Fin 4 → Nat := ![i.1.val, i.2.val, 0, 0]
/-- It lies in the buffer. -/
theorem inb_tile' (i : Fin 2 × Fin 8) : ∀ a, tileOff i a + S1x1x788x128.size a ≤ S2x8x788x128.size a := inb_tile i.1 i.2
/-- The elements of a tile. -/
abbrev tileSet (i : Fin 2 × Fin 8) : Finset S2x8x788x128.Idx := (Rect.unit (s := S2x8x788x128) (tileOff i) S1x1x788x128.size (inb_tile' i)).set
/-- The view's elements are the rectangle's. -/
theorem tileSet_eq (g : Fin 2) (m : Fin 8) : (tile g m).view.set = tileSet (g, m) := by
  simp only [tile, Memref.view_squeeze, View.set_reshape]; exact View.set_slice_whole _ _
/-- A tile's corner in the scratch buffer. -/
def tileIx (i : Fin 2 × Fin 8) : Fin 4 → ℕ := ![i.1.val, i.2.val, 0, 0]
/-- The index back from a corner. -/
def tileUn (v : Fin 4 → ℕ) : Fin 2 × Fin 8 := (Fin.ofNat 2 (v 0), Fin.ofNat 8 (v 1))
/-- Different indices have different corners. -/
theorem tileUn_left : ∀ i : Fin 2 × Fin 8, tileUn (tileIx i) = i := by decide +kernel
/-- Different tiles share no element. -/
theorem tiles_disjoint (i i' : Fin 2 × Fin 8) (h : i ≠ i') : Disjoint (tileSet i) (tileSet i') :=
  Ring.boxes_disjoint (s := S2x8x788x128) S1x1x788x128.size tileOff inb_tile' tileIx
    (fun i a => by fin_cases a <;> simp [tileOff, tileIx] <;> omega) tileUn tileUn_left i i' h
/-- A piece's corner in the output. -/
abbrev pieceOff (i : Fin 64 × Fin 8) : Fin 5 → Nat := ![0, (i.1.val / 16), (i.1.val % 16), i.2.val, 0]
/-- It lies in the buffer. -/
theorem inb_piece' (i : Fin 64 × Fin 8) : ∀ a, pieceOff i a + S788x1x1x1x128.size a ≤ S788x4x16x8x128.size a := inb_piece i.1 i.2
/-- The elements of a piece. -/
abbrev pieceSet (i : Fin 64 × Fin 8) : Finset S788x4x16x8x128.Idx := (Rect.unit (s := S788x4x16x8x128) (pieceOff i) S788x1x1x1x128.size (inb_piece' i)).set
/-- The view's elements are the rectangle's. -/
theorem pieceSet_eq (u : Fin 64) (m : Fin 8) : (piece u m).view.set = pieceSet (u, m) := by
  simp only [piece, Memref.view_squeeze, View.set_reshape]; exact View.set_slice_whole _ _
/-- A piece's corner in the output. -/
def pieceIx (i : Fin 64 × Fin 8) : Fin 5 → ℕ := ![0, (i.1.val / 16), (i.1.val % 16), i.2.val, 0]
/-- The index back from a corner. -/
def pieceUn (v : Fin 5 → ℕ) : Fin 64 × Fin 8 := (Fin.ofNat 64 (16 * (v 1) + v 2), Fin.ofNat 8 (v 3))
/-- Different indices have different corners. -/
theorem pieceUn_left : ∀ i : Fin 64 × Fin 8, pieceUn (pieceIx i) = i := by decide +kernel
/-- Different pieces share no element. -/
theorem pieces_disjoint (i i' : Fin 64 × Fin 8) (h : i ≠ i') : Disjoint (pieceSet i) (pieceSet i') :=
  Ring.boxes_disjoint (s := S788x4x16x8x128) S788x1x1x1x128.size pieceOff inb_piece' pieceIx
    (fun i a => by fin_cases a <;> simp [pieceOff, pieceIx] <;> omega) pieceUn pieceUn_left i i' h
/-- Element `i` of the output array lies in exactly the piece its step and member coordinates name. -/
theorem mem_pieceSet (q : Fin 64 × Fin 8) (i : S788x4x16x8x128.Idx) :
    i ∈ pieceSet q ↔ (i 1).val = q.1.val / 16 ∧ (i 2).val = q.1.val % 16 ∧ (i 3).val = q.2.val := by
  have h0 := (i 0).isLt; have h4 := (i 4).isLt
  rw [Rect.mem_set_unit]
  constructor
  · intro h; have h1 := h 1; have h2 := h 2; have h3 := h 3
    simp [pieceOff] at h1 h2 h3; omega
  · rintro ⟨h1, h2, h3⟩ a
    fin_cases a <;> simp [pieceOff] <;> simp at h0 h4 <;> omega
/-- The step and member of an element of the output array. -/
def stepOf (i : S788x4x16x8x128.Idx) : Fin 64 := ⟨16 * (i 1).val + (i 2).val, by have h1 : (i 1).val < 4 := (i 1).isLt; have h2 : (i 2).val < 16 := (i 2).isLt; omega⟩
/-- The group member an output element belongs to. -/
def membOf (i : S788x4x16x8x128.Idx) : Fin 8 := ⟨(i 3).val, (i 3).isLt⟩
/-- The pieces fill the output array. -/
theorem pieces_cover : Finset.univ.biUnion pieceSet = Finset.univ := by
  ext i; simp only [Finset.mem_biUnion, Finset.mem_univ, true_and, iff_true]
  refine ⟨(stepOf i, membOf i), (mem_pieceSet _ i).2 ?_⟩
  have h1 : (i 1).val < 4 := (i 1).isLt; have h2 : (i 2).val < 16 := (i 2).isLt
  simp [stepOf, membOf]; omega

/-! ## The slots -/

/-- A slot's shape in the scratch. -/
abbrev S1x8x788x128 : Shape := ⟨4, ![1, 8, 788, 128]⟩
/-- It lies in the buffer. -/
theorem inb_slab (g : Fin 2) : ∀ a, (![g.val, 0, 0, 0] : Fin 4 → Nat) a + S1x8x788x128.size a ≤ S2x8x788x128.size a := by
  have := g.isLt; intro a; fin_cases a <;> simp <;> omega
/-- A slot's corner in the scratch buffer. -/
abbrev slabOff (g : Fin 2) : Fin 4 → Nat := ![g.val, 0, 0, 0]
/-- The elements of slot `g`: its eight tiles. -/
abbrev slabSet (g : Fin 2) : Finset S2x8x788x128.Idx := (Rect.unit (s := S2x8x788x128) (slabOff g) S1x8x788x128.size (inb_slab g)).set
/-- A slot's elements are its tiles'. -/
theorem bands_cover (g : Fin 2) : Finset.univ.biUnion (fun m : Fin 8 => tileSet (g, m)) = slabSet g :=
  Ring.boxes_cover_box (s := S2x8x788x128) (1 : Fin 4) 1 (fun m => tileOff (g, m)) S1x1x788x128.size (fun m => inb_tile' (g, m))
    (slabOff g) S1x8x788x128.size (inb_slab g)
    (fun m => by show m.val = 0 + 1 * m.val; omega)
    (fun m a ha => by fin_cases a <;> first | exact absurd rfl ha | rfl) rfl
    (fun a ha => by fin_cases a <;> first | exact absurd rfl ha | rfl) rfl
/-- A box that lies in slot `g` along the slot axis has its elements in the slot's. -/
theorem box_sub_slab (g : Fin 2) (off size : Fin 4 → Nat) (h : ∀ a, off a + size a ≤ S2x8x788x128.size a) (h0 : off 0 = g.val) (h1 : size 0 = 1) :
    (scM5.access (Rect.unit (s := S2x8x788x128) off size h)).set ⊆ slabSet g := by
  have e : (scM5.access (Rect.unit (s := S2x8x788x128) off size h)).set = (Rect.unit (s := S2x8x788x128) off size h).set := View.set_slice_whole _ _
  rw [e]
  intro i hi
  rw [Rect.mem_set_unit] at hi ⊢
  intro a
  have hb := (i a).isLt; have ha := hi a; have hi0 := hi 0
  fin_cases a <;> simp [slabOff] at * <;> omega

section Ring
variable (c : Dev nD)
/-- Tile `(g, m)` held at `e`; piece `(u, m)` held at `f`; slot `g` held at `e`; cell `g` at zero. -/
abbrev tileP (g : Fin 2) (m : Fin 8) (e : HbBuf (F := F) c (tile g m)) : sProp 𝕄 := (tile g m).view.loc (c : Thread nD τ) ↦[(tile g m).view.set]{fullShare} e
/-- A piece of the output, owned. -/
abbrev pieceP (u : Fin 64) (m : Fin 8) (f : HbBuf (F := F) c (piece u m)) : sProp 𝕄 := (piece u m).view.loc (c : Thread nD τ) ↦[(piece u m).view.set]{fullShare} f
/-- A slot's slab of the scratch buffer, owned. -/
abbrev slabP (g : Fin 2) (e : HbBuf (F := F) c scM5) : sProp 𝕄 := scM5.view.loc (c : Thread nD τ) ↦[slabSet g]{fullShare} e
/-- A slot's semaphore, at zero. -/
abbrev cellP (g : Fin 2) : sProp 𝕄 := semVal ((c : Thread nD τ), cellR g) 0
/-- Its ownership over the whole buffer's location. -/
theorem tileP_eq (g : Fin 2) (m : Fin 8) (e) : tileP (F := F) c g m e = (((c : Thread nD τ).loc cc0_scratch5) ↦[tileSet (g, m)]{fullShare} e : sProp 𝕄) := by
  unfold tileP; rw [tileSet_eq]; rfl
/-- Its ownership over the whole buffer's location. -/
theorem pieceP_eq (u : Fin 64) (m : Fin 8) (f) : pieceP (F := F) c u m f = (((c : Thread nD τ).loc main_v6_0) ↦[pieceSet (u, m)]{fullShare} f : sProp 𝕄) := by
  unfold pieceP; rw [pieceSet_eq]; rfl
omit [FloatOps F] in
/-- The slot's semaphore at zero, by its number. -/
theorem cellP_0 : cellP (F := F) c 0 = semVal ((c : Thread nD τ), SemLoc.dma 20) 0 := congrArg (fun x => (semVal ((c : Thread nD τ), x) 0 : sProp 𝕄)) cellR_0
omit [FloatOps F] in
/-- The slot's semaphore at zero, by its number. -/
theorem cellP_1 : cellP (F := F) c 1 = semVal ((c : Thread nD τ), SemLoc.dma 21) 0 := congrArg (fun x => (semVal ((c : Thread nD τ), x) 0 : sProp 𝕄)) cellR_1

/-! ## The ring's roles, with contents: `v0` is the output array at the start, `E u` the scratch as step `u` leaves it -/

variable (v0 : HbBuf (F := F) c hbM) (E : Fin 64 → HbBuf (F := F) c scM5)
/-- What piece `(u, m)` holds once step `u`'s copy of tile `(g, m)` has landed. -/
def landed (u : Fin 64) (g : Fin 2) (m : Fin 8) : HbBuf (F := F) c (piece u m) :=
  (piece u m).view.writes (Elt F) v0 [⟨Rect.whole S788x128, (tile g m).view.read (Elt F) (E u)⟩]
/-- One copy's transfer amount. -/
abbrev amt : ℕ := (piece 0 0).view.amount (cellR 0)
/-- Copy `m`'s delivery at step `u` from slot `g`: its piece at the tile's contents, and the tile back. -/
abbrev dlv (u : Fin 64) (g : Fin 2) : Fin 8 → sProp 𝕄 := fun m =>
  iprop(pieceP c u m (landed c v0 E u g m) ∗ tileP c g m (E u))
/-- Slot `g` in flight with step `u`'s eight copies, none waited for. -/
abbrev infl (g : Fin 2) (u : Fin 64) : sProp 𝕄 := Transfers.Batch countersEmb (c : Thread nD τ) (cellR g) default amt (dlv c v0 E u g) 8 0
/-- A points-to can be stored in the transfer's invariant. -/
theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
/-- So can a delivery. -/
theorem storable_dlv (u : Fin 64) (g : Fin 2) : ∀ j, Storable (upEmb : UEmb _ 𝕄) (dlv (F := F) c v0 E u g j) := by
  intro j; exact @Storable.sep _ _ _ _ _ _ _ _ (storable_pt _ _ _ _) (storable_pt _ _ _ _)
/-- The eight tiles of slot `g`, each at anything. -/
abbrev tilesAny (g : Fin 2) : sProp 𝕄 := iprop((∃ e, tileP c g 0 e) ∗ (∃ e, tileP c g 1 e) ∗ (∃ e, tileP c g 2 e) ∗ (∃ e, tileP c g 3 e) ∗ (∃ e, tileP c g 4 e) ∗ (∃ e, tileP c g 5 e) ∗ (∃ e, tileP c g 6 e) ∗ (∃ e, tileP c g 7 e))
/-- Slot `g` free: its cell at zero, its tiles at anything. -/
abbrev free (g : Fin 2) : sProp 𝕄 := iprop(cellP c g ∗ tilesAny (F := F) c g)
/-- Step `u`'s pieces not yet written. -/
abbrev ahead (u : Fin 64) : sProp 𝕄 := iprop(pieceP c u 0 v0 ∗ pieceP c u 1 v0 ∗ pieceP c u 2 v0 ∗ pieceP c u 3 v0 ∗ pieceP c u 4 v0 ∗ pieceP c u 5 v0 ∗ pieceP c u 6 v0 ∗ pieceP c u 7 v0)
/-- Step `u`'s pieces written and waited for. -/
abbrev behind (u : Fin 64) : sProp 𝕄 := iprop(pieceP c u 0 (landed c v0 E u (Ring.sl 2 u.val) 0) ∗ pieceP c u 1 (landed c v0 E u (Ring.sl 2 u.val) 1) ∗ pieceP c u 2 (landed c v0 E u (Ring.sl 2 u.val) 2) ∗ pieceP c u 3 (landed c v0 E u (Ring.sl 2 u.val) 3) ∗ pieceP c u 4 (landed c v0 E u (Ring.sl 2 u.val) 4) ∗ pieceP c u 5 (landed c v0 E u (Ring.sl 2 u.val) 5) ∗ pieceP c u 6 (landed c v0 E u (Ring.sl 2 u.val) 6) ∗ pieceP c u 7 (landed c v0 E u (Ring.sl 2 u.val) 7))
/-- The ring before its step `k`. -/
def ringAt (k : ℕ) : sProp 𝕄 := Ring.AtBΦ 2 (free c) (infl c v0 E) (ahead c v0) (behind c v0 E) k

/-- A slot's eight tiles, written out one by one. -/
theorem tilesAny_eq (g : Fin 2) : (bigSep Finset.univ (fun m : Fin 8 => iprop(∃ e, tileP (F := F) c g m e)) : sProp 𝕄) = tilesAny c g := by
  rw [BI.bigSep_eq_bigSepL_of_eq [0, 1, 2, 3, 4, 5, 6, 7] (by decide) (by decide)]; rfl
/-- A step's eight pieces before its copies, written out one by one. -/
theorem ahead_eq (u : Fin 64) : (bigSep Finset.univ (fun m : Fin 8 => pieceP (F := F) c u m v0) : sProp 𝕄) = ahead c v0 u := by
  rw [BI.bigSep_eq_bigSepL_of_eq [0, 1, 2, 3, 4, 5, 6, 7] (by decide) (by decide)]; rfl
/-- A step's eight pieces after its copies landed, written out one by one. -/
theorem behind_eq (u : Fin 64) : (bigSep Finset.univ (fun m : Fin 8 => pieceP (F := F) c u m (landed c v0 E u (Ring.sl 2 u.val) m)) : sProp 𝕄) = behind c v0 E u := by
  rw [BI.bigSep_eq_bigSepL_of_eq [0, 1, 2, 3, 4, 5, 6, 7] (by decide) (by decide)]; rfl
/-- A slot's tiles, each at the same buffer's contents, as the slot's stores leave them. -/
abbrev tilesAt (g : Fin 2) (e : HbBuf (F := F) c scM5) : sProp 𝕄 := iprop(tileP c g 0 e ∗ tileP c g 1 e ∗ tileP c g 2 e ∗ tileP c g 3 e ∗ tileP c g 4 e ∗ tileP c g 5 e ∗ tileP c g 6 e ∗ tileP c g 7 e)
/-- A slot held at `e` is its tiles held at `e`. -/
theorem slab_split (g : Fin 2) (e : HbBuf (F := F) c scM5) : slabP c g e ⊢ tilesAt c g e := by
  have h : (slabP (F := F) c g e) = bigSep Finset.univ (fun m : Fin 8 => tileP (F := F) c g m e) := by
    unfold slabP; rw [← bands_cover g]
    refine (pointsTo_biUnion (ℓ := (c : Thread nD τ).loc cc0_scratch5) Finset.univ (fun m : Fin 8 => tileSet (g, m)) (fun m _ m' _ h => tiles_disjoint (g, m) (g, m') fun h' => h (congrArg Prod.snd h'))).trans ?_
    exact BI.bigSep_congr fun m _ => (tileP_eq c g m e).symm
  rw [h, BI.bigSep_eq_bigSepL_of_eq [0, 1, 2, 3, 4, 5, 6, 7] (by decide) (by decide)]; exact Entails.rfl
/-- A slot's tiles, each at anything, are the slot at something. -/
theorem slab_join (g : Fin 2) : tilesAny (F := F) c g ⊢ iprop(∃ e, slabP (F := F) c g e) := by
  rw [← tilesAny_eq]
  exact Ring.slab_join (U := Pipeline.UD sig nD τ) (ℓ := (c : Thread nD τ).loc cc0_scratch5) (q := fullShare) (fun m => tileSet (g, m))
    (fun m m' h => tiles_disjoint (g, m) (g, m') fun h' => h (congrArg Prod.snd h')) (slabSet g) (bands_cover g)
    (fun m e => tileP c g m e) (fun m e => tileP_eq c g m e) (fun e => slabP c g e) (fun e => rfl)

/-! ## Into the ring and out of it -/

/-- The scratch's elements outside every tile (there are none to speak of: carried along unnamed). -/
abbrev tileSpare : sProp 𝕄 := iprop(∃ f : Buf (Elt F) ((c : Thread nD τ).loc cc0_scratch5), ((c : Thread nD τ).loc cc0_scratch5) ↦[Finset.univ \ Finset.univ.biUnion tileSet]{fullShare} f)
/-- The scratch buffer falls into its tiles. -/
theorem tiles_in : iprop(∃ d, owns (c : Thread nD τ) scM5 fullShare d) ⊢ (iprop(bigSep Finset.univ (fun i : Fin 2 × Fin 8 => iprop(∃ e, tileP (F := F) c i.1 i.2 e)) ∗ tileSpare c) : sProp 𝕄) := by
  simp only [scM5, owns_whole]
  exact Ring.pieces_split_spare (U := Pipeline.UD sig nD τ) (ℓ := (c : Thread nD τ).loc cc0_scratch5) (q := fullShare) tileSet tiles_disjoint
    (fun i e => tileP c i.1 i.2 e) (fun i e => tileP_eq c i.1 i.2 e)
/-- The tiles make up the scratch buffer. -/
theorem tiles_out : (iprop(bigSep Finset.univ (fun i : Fin 2 × Fin 8 => iprop(∃ e, tileP (F := F) c i.1 i.2 e)) ∗ tileSpare c) : sProp 𝕄) ⊢ iprop(∃ d, owns (c : Thread nD τ) scM5 fullShare d) := by
  simp only [scM5, owns_whole]
  exact Ring.pieces_join_spare (U := Pipeline.UD sig nD τ) (ℓ := (c : Thread nD τ).loc cc0_scratch5) (q := fullShare) tileSet tiles_disjoint
    (fun i e => tileP c i.1 i.2 e) (fun i e => tileP_eq c i.1 i.2 e)
/-- The two semaphores, written out. -/
theorem cells_eq : (bigSep Finset.univ (fun g : Fin 2 => cellP (F := F) c g) : sProp 𝕄) = iprop(semVal ((c : Thread nD τ), SemLoc.dma 20) 0 ∗ semVal ((c : Thread nD τ), SemLoc.dma 21) 0) := by
  rw [BI.bigSep_eq_bigSepL_of_eq [0, 1] (by decide) (by decide)]; simp only [BI.bigSepL_cons_cons, BI.bigSepL_singleton, cellP_0, cellP_1]; rfl
/-- A free slot: its semaphore at zero and its tiles. -/
theorem free_eq (g : Fin 2) : iprop(cellP (F := F) c g ∗ bigSep Finset.univ (fun m : Fin 8 => iprop(∃ e, tileP (F := F) c g m e))) = free c g := by
  rw [tilesAny_eq]
/-- Both slots free. -/
theorem frees_eq : iprop(bigSep Finset.univ (fun g : Fin 2 => cellP (F := F) c g) ∗ bigSep Finset.univ (fun i : Fin 2 × Fin 8 => iprop(∃ e, tileP (F := F) c i.1 i.2 e))) = (bigSep Finset.univ (free c) : sProp 𝕄) := by
  rw [BI.bigSep_univ_prod (fun i : Fin 2 × Fin 8 => iprop(∃ e, tileP (F := F) c i.1 i.2 e))]
  exact (BI.bigSep_sep Finset.univ (fun g : Fin 2 => cellP (F := F) c g) (fun g => bigSep Finset.univ fun m => iprop(∃ e, tileP (F := F) c g m e))).symm.trans (BI.bigSep_congr fun g _ => free_eq c g)
/-- The output array whole at `f` is its pieces at `f`. -/
theorem pieces_whole (f : HbBuf (F := F) c hbM) :
    (((c : Thread nD τ).loc main_v6_0) ↦{fullShare} f : sProp 𝕄) = bigSep Finset.univ (fun i : Fin 64 × Fin 8 => pieceP (F := F) c i.1 i.2 f) := by
  have h := pointsTo_biUnion (Ix := Unit) (Name := ℕ) (U := Pipeline.UD sig nD τ) (Lvl := ℕ) (q := fullShare) (f := f) (ℓ := (c : Thread nD τ).loc main_v6_0) Finset.univ pieceSet (fun i _ i' _ h => pieces_disjoint i i' h)
  rw [pieces_cover] at h
  exact h.trans (BI.bigSep_congr fun i _ => (pieceP_eq c i.1 i.2 f).symm)
/-- The output array as the whole run leaves it: each element what its step's copy put there. -/
def outAll : HbBuf (F := F) c hbM := fun i => landed c v0 E (stepOf i) (Ring.sl 2 (stepOf i).val) (membOf i) i
/-- A written piece at its landed contents is the piece at the whole array's. -/
theorem piece_outAll (u : Fin 64) (m : Fin 8) : pieceP (F := F) c u m (landed c v0 E u (Ring.sl 2 u.val) m) = pieceP c u m (outAll c v0 E) := by
  refine (pieceP_eq c u m _).trans (Eq.trans ?_ (pieceP_eq c u m _).symm)
  refine pointsTo_congr fun i hi => ?_
  obtain ⟨h1, h2, h3⟩ := (mem_pieceSet (u, m) i).1 hi
  have hu : stepOf i = u := Fin.ext (by simp only [stepOf] at *; simp at h1 h2; omega)
  have hm : membOf i = m := Fin.ext (by simpa [membOf] using h3)
  unfold outAll; rw [hu, hm]
/-- Into the ring: the scratch at anything, the cells at zero, the output array at `v0`. -/
theorem ring_in :
    iprop((∃ d, owns (c : Thread nD τ) scM5 fullShare d) ∗ (semVal ((c : Thread nD τ), SemLoc.dma 20) 0 ∗ semVal ((c : Thread nD τ), SemLoc.dma 21) 0) ∗ (((c : Thread nD τ).loc main_v6_0) ↦{fullShare} v0))
      ⊢ iprop(ringAt (F := F) c v0 E 0 ∗ tileSpare c) := by
  unfold ringAt; rw [Ring.AtBΦ_lt _ _ _ _ _ 0 (by decide), Ring.AtB_zero]; unfold Ring.AtB₀
  rw [pieces_whole, ← frees_eq, cells_eq, BI.bigSep_univ_prod (fun i : Fin 64 × Fin 8 => pieceP (F := F) c i.1 i.2 v0)]
  iintro ⟨HS, HQ, HP⟩
  ihave HS' := (tiles_in (F := F) c) $$ HS
  icases HS' with ⟨HT, HTsp⟩
  isplitl [HP HQ HT]
  · isplitl [HP]
    · iapply (Entails.of_eq (BI.bigSep_congr (s := Finset.univ) fun u _ => ahead_eq c v0 u)); iexact HP
    isplitl [HQ]
    · iexact HQ
    iexact HT
  iexact HTsp
/-- Out of the ring after its last step: the output array whole, at what the copies put there. -/
theorem ring_out :
    iprop(ringAt (F := F) c v0 E 64 ∗ tileSpare c)
      ⊢ iprop((∃ d, owns (c : Thread nD τ) scM5 fullShare d) ∗ (semVal ((c : Thread nD τ), SemLoc.dma 20) 0 ∗ semVal ((c : Thread nD τ), SemLoc.dma 21) 0) ∗ (((c : Thread nD τ).loc main_v6_0) ↦{fullShare} outAll c v0 E)) := by
  unfold ringAt; rw [Ring.AtBΦ_ge _ _ _ _ _ 64 (by decide)]; unfold Ring.AtBEnd
  rw [pieces_whole, ← frees_eq, cells_eq, BI.bigSep_univ_prod (fun i : Fin 64 × Fin 8 => pieceP (F := F) c i.1 i.2 (outAll c v0 E))]
  iintro ⟨⟨HP, HQ, HT⟩, HTsp⟩
  isplitl [HT HTsp]
  · iapply (tiles_out (F := F) c)
    isplitl [HT]
    · iexact HT
    iexact HTsp
  isplitl [HQ]
  · iexact HQ
  iapply (Entails.of_eq (BI.bigSep_congr (s := Finset.univ) fun u _ => (behind_eq c v0 E u).symm.trans (BI.bigSep_congr fun m _ => piece_outAll c v0 E u m))); iexact HP
end Ring

/-! ## The body's own spellings of tiles, pieces and cells -/

section Canon
omit [FloatOps F]
/-- The kernel's index arithmetic in closed form. -/
theorem off1_eq : ∀ t : Fin grid0.N, k0_cond1 (grid0.coords t) = 1#1 → k0_off1 (grid0.coords t) = ![(Ring.sl 2 t.val).val] := by decide +kernel
@[sl_canon] theorem canon1 (t : Fin grid0.N) (h : k0_cond1 (grid0.coords t) = 1#1) :
    (cc0_scratch6.slice (Rect.unit (s := S2) (k0_off1 (grid0.coords t)) S1.size (k0_off1_inb (grid0.coords t) h))).squeeze S_ squeezes_S1_S_ = cellA (Ring.sl 2 t.val) :=
  congrArg (fun A : DmaSems sig S1 => A.squeeze S_ squeezes_S1_S_) (SemArray.slice_unit_congr _ (off1_eq t h) _ _)
@[sl_canon] theorem canon1' (t : Fin grid0.N) (h : k0_cond1 (grid0.coords t) = 1#1) :
    (cc0_scratch6.slice (Rect.unit (s := S2) (k0_off1 (grid0.coords t)) ![1] (k0_off1_inb (grid0.coords t) h))).squeeze S_ squeezes_S1_S_ = cellA (Ring.sl 2 t.val) :=
  canon1 t h
/-- The kernel's index arithmetic in closed form. -/
theorem off29_eq : ∀ t : Fin grid0.N, k0_off29 (grid0.coords t) = ![(Ring.sl 2 t.val).val] := by decide +kernel
@[sl_canon] theorem canon29 (t : Fin grid0.N) :
    (cc0_scratch6.slice (Rect.unit (s := S2) (k0_off29 (grid0.coords t)) S1.size (k0_off29_inb (grid0.coords t)))).squeeze S_ squeezes_S1_S_ = cellA (Ring.sl 2 t.val) :=
  congrArg (fun A : DmaSems sig S1 => A.squeeze S_ squeezes_S1_S_) (SemArray.slice_unit_congr _ (off29_eq t) _ _)
@[sl_canon] theorem canon29' (t : Fin grid0.N) :
    (cc0_scratch6.slice (Rect.unit (s := S2) (k0_off29 (grid0.coords t)) ![1] (k0_off29_inb (grid0.coords t)))).squeeze S_ squeezes_S1_S_ = cellA (Ring.sl 2 t.val) :=
  canon29 t
/-- The kernel's index arithmetic in closed form. -/
theorem off46_eq : ∀ t : Fin grid0.N, k0_cond3 (grid0.coords t) = 1#1 → k0_off46 (grid0.coords t) = ![(Ring.sl 2 (t.val + 1)).val] := by decide +kernel
@[sl_canon] theorem canon46 (t : Fin grid0.N) (h : k0_cond3 (grid0.coords t) = 1#1) :
    (cc0_scratch6.slice (Rect.unit (s := S2) (k0_off46 (grid0.coords t)) S1.size (k0_off46_inb (grid0.coords t) h))).squeeze S_ squeezes_S1_S_ = cellA (Ring.sl 2 (t.val + 1)) :=
  congrArg (fun A : DmaSems sig S1 => A.squeeze S_ squeezes_S1_S_) (SemArray.slice_unit_congr _ (off46_eq t h) _ _)
@[sl_canon] theorem canon46' (t : Fin grid0.N) (h : k0_cond3 (grid0.coords t) = 1#1) :
    (cc0_scratch6.slice (Rect.unit (s := S2) (k0_off46 (grid0.coords t)) ![1] (k0_off46_inb (grid0.coords t) h))).squeeze S_ squeezes_S1_S_ = cellA (Ring.sl 2 (t.val + 1)) :=
  canon46 t h
/-- The kernel's index arithmetic in closed form. -/
theorem off63_eq : ∀ t : Fin grid0.N, k0_cond3 (grid0.coords t) = 1#1 → k0_off63 (grid0.coords t) = ![(Ring.sl 2 t.val).val] := by decide +kernel
@[sl_canon] theorem canon63 (t : Fin grid0.N) (h : k0_cond3 (grid0.coords t) = 1#1) :
    (cc0_scratch6.slice (Rect.unit (s := S2) (k0_off63 (grid0.coords t)) S1.size (k0_off63_inb (grid0.coords t) h))).squeeze S_ squeezes_S1_S_ = cellA (Ring.sl 2 t.val) :=
  congrArg (fun A : DmaSems sig S1 => A.squeeze S_ squeezes_S1_S_) (SemArray.slice_unit_congr _ (off63_eq t h) _ _)
@[sl_canon] theorem canon63' (t : Fin grid0.N) (h : k0_cond3 (grid0.coords t) = 1#1) :
    (cc0_scratch6.slice (Rect.unit (s := S2) (k0_off63 (grid0.coords t)) ![1] (k0_off63_inb (grid0.coords t) h))).squeeze S_ squeezes_S1_S_ = cellA (Ring.sl 2 t.val) :=
  canon63 t h
/-- The kernel's index arithmetic in closed form. -/
theorem off31_eq : ∀ t : Fin grid0.N, k0_off31 (grid0.coords t) = ![(Ring.sl 2 t.val).val, 0, 0, 0] := by decide +kernel
@[sl_canon] theorem canon31 (t : Fin grid0.N) :
    (scM5.slice (Rect.unit (s := S2x8x788x128) (k0_off31 (grid0.coords t)) S1x1x788x128.size (k0_off31_inb (grid0.coords t))) (fun _ => rfl)).squeeze S788x128 squeezes_S1x1x788x128_S788x128 = tile (Ring.sl 2 t.val) 0 :=
  congrArg (fun M : Memref sig .tc .vmem S1x1x788x128 .f32 => M.squeeze S788x128 squeezes_S1x1x788x128_S788x128) (Memref.slice_unit_congr _ (off31_eq t) _ _ (fun _ => rfl) (fun _ => rfl))
@[sl_canon] theorem canon31' (t : Fin grid0.N) :
    (scM5.slice (Rect.unit (s := S2x8x788x128) (k0_off31 (grid0.coords t)) ![1, 1, 788, 128] (k0_off31_inb (grid0.coords t))) (fun _ => rfl)).squeeze S788x128 squeezes_S1x1x788x128_S788x128 = tile (Ring.sl 2 t.val) 0 :=
  canon31 t
/-- The kernel's index arithmetic in closed form. -/
theorem off30_eq : ∀ t : Fin grid0.N, k0_off30 (grid0.coords t) = ![0, ((Ring.bk 64 t.val).val / 16), ((Ring.bk 64 t.val).val % 16), 0, 0] := by decide +kernel
@[sl_canon] theorem canon30 (t : Fin grid0.N) :
    (hbM.slice (Rect.unit (s := S788x4x16x8x128) (k0_off30 (grid0.coords t)) S788x1x1x1x128.size (k0_off30_inb (grid0.coords t))) (fun _ => rfl)).squeeze S788x128 squeezes_S788x1x1x1x128_S788x128 = piece (Ring.bk 64 t.val) 0 :=
  congrArg (fun M : Memref sig .tc .hbm S788x1x1x1x128 .f32 => M.squeeze S788x128 squeezes_S788x1x1x1x128_S788x128) (Memref.slice_unit_congr _ (off30_eq t) _ _ (fun _ => rfl) (fun _ => rfl))
@[sl_canon] theorem canon30' (t : Fin grid0.N) :
    (hbM.slice (Rect.unit (s := S788x4x16x8x128) (k0_off30 (grid0.coords t)) ![788, 1, 1, 1, 128] (k0_off30_inb (grid0.coords t))) (fun _ => rfl)).squeeze S788x128 squeezes_S788x1x1x1x128_S788x128 = piece (Ring.bk 64 t.val) 0 :=
  canon30 t
/-- The kernel's index arithmetic in closed form. -/
theorem off33_eq : ∀ t : Fin grid0.N, k0_off33 (grid0.coords t) = ![(Ring.sl 2 t.val).val, 1, 0, 0] := by decide +kernel
@[sl_canon] theorem canon33 (t : Fin grid0.N) :
    (scM5.slice (Rect.unit (s := S2x8x788x128) (k0_off33 (grid0.coords t)) S1x1x788x128.size (k0_off33_inb (grid0.coords t))) (fun _ => rfl)).squeeze S788x128 squeezes_S1x1x788x128_S788x128 = tile (Ring.sl 2 t.val) 1 :=
  congrArg (fun M : Memref sig .tc .vmem S1x1x788x128 .f32 => M.squeeze S788x128 squeezes_S1x1x788x128_S788x128) (Memref.slice_unit_congr _ (off33_eq t) _ _ (fun _ => rfl) (fun _ => rfl))
@[sl_canon] theorem canon33' (t : Fin grid0.N) :
    (scM5.slice (Rect.unit (s := S2x8x788x128) (k0_off33 (grid0.coords t)) ![1, 1, 788, 128] (k0_off33_inb (grid0.coords t))) (fun _ => rfl)).squeeze S788x128 squeezes_S1x1x788x128_S788x128 = tile (Ring.sl 2 t.val) 1 :=
  canon33 t
/-- The kernel's index arithmetic in closed form. -/
theorem off32_eq : ∀ t : Fin grid0.N, k0_off32 (grid0.coords t) = ![0, ((Ring.bk 64 t.val).val / 16), ((Ring.bk 64 t.val).val % 16), 1, 0] := by decide +kernel
@[sl_canon] theorem canon32 (t : Fin grid0.N) :
    (hbM.slice (Rect.unit (s := S788x4x16x8x128) (k0_off32 (grid0.coords t)) S788x1x1x1x128.size (k0_off32_inb (grid0.coords t))) (fun _ => rfl)).squeeze S788x128 squeezes_S788x1x1x1x128_S788x128 = piece (Ring.bk 64 t.val) 1 :=
  congrArg (fun M : Memref sig .tc .hbm S788x1x1x1x128 .f32 => M.squeeze S788x128 squeezes_S788x1x1x1x128_S788x128) (Memref.slice_unit_congr _ (off32_eq t) _ _ (fun _ => rfl) (fun _ => rfl))
@[sl_canon] theorem canon32' (t : Fin grid0.N) :
    (hbM.slice (Rect.unit (s := S788x4x16x8x128) (k0_off32 (grid0.coords t)) ![788, 1, 1, 1, 128] (k0_off32_inb (grid0.coords t))) (fun _ => rfl)).squeeze S788x128 squeezes_S788x1x1x1x128_S788x128 = piece (Ring.bk 64 t.val) 1 :=
  canon32 t
/-- The kernel's index arithmetic in closed form. -/
theorem off35_eq : ∀ t : Fin grid0.N, k0_off35 (grid0.coords t) = ![(Ring.sl 2 t.val).val, 2, 0, 0] := by decide +kernel
@[sl_canon] theorem canon35 (t : Fin grid0.N) :
    (scM5.slice (Rect.unit (s := S2x8x788x128) (k0_off35 (grid0.coords t)) S1x1x788x128.size (k0_off35_inb (grid0.coords t))) (fun _ => rfl)).squeeze S788x128 squeezes_S1x1x788x128_S788x128 = tile (Ring.sl 2 t.val) 2 :=
  congrArg (fun M : Memref sig .tc .vmem S1x1x788x128 .f32 => M.squeeze S788x128 squeezes_S1x1x788x128_S788x128) (Memref.slice_unit_congr _ (off35_eq t) _ _ (fun _ => rfl) (fun _ => rfl))
@[sl_canon] theorem canon35' (t : Fin grid0.N) :
    (scM5.slice (Rect.unit (s := S2x8x788x128) (k0_off35 (grid0.coords t)) ![1, 1, 788, 128] (k0_off35_inb (grid0.coords t))) (fun _ => rfl)).squeeze S788x128 squeezes_S1x1x788x128_S788x128 = tile (Ring.sl 2 t.val) 2 :=
  canon35 t
/-- The kernel's index arithmetic in closed form. -/
theorem off34_eq : ∀ t : Fin grid0.N, k0_off34 (grid0.coords t) = ![0, ((Ring.bk 64 t.val).val / 16), ((Ring.bk 64 t.val).val % 16), 2, 0] := by decide +kernel
@[sl_canon] theorem canon34 (t : Fin grid0.N) :
    (hbM.slice (Rect.unit (s := S788x4x16x8x128) (k0_off34 (grid0.coords t)) S788x1x1x1x128.size (k0_off34_inb (grid0.coords t))) (fun _ => rfl)).squeeze S788x128 squeezes_S788x1x1x1x128_S788x128 = piece (Ring.bk 64 t.val) 2 :=
  congrArg (fun M : Memref sig .tc .hbm S788x1x1x1x128 .f32 => M.squeeze S788x128 squeezes_S788x1x1x1x128_S788x128) (Memref.slice_unit_congr _ (off34_eq t) _ _ (fun _ => rfl) (fun _ => rfl))
@[sl_canon] theorem canon34' (t : Fin grid0.N) :
    (hbM.slice (Rect.unit (s := S788x4x16x8x128) (k0_off34 (grid0.coords t)) ![788, 1, 1, 1, 128] (k0_off34_inb (grid0.coords t))) (fun _ => rfl)).squeeze S788x128 squeezes_S788x1x1x1x128_S788x128 = piece (Ring.bk 64 t.val) 2 :=
  canon34 t
/-- The kernel's index arithmetic in closed form. -/
theorem off37_eq : ∀ t : Fin grid0.N, k0_off37 (grid0.coords t) = ![(Ring.sl 2 t.val).val, 3, 0, 0] := by decide +kernel
@[sl_canon] theorem canon37 (t : Fin grid0.N) :
    (scM5.slice (Rect.unit (s := S2x8x788x128) (k0_off37 (grid0.coords t)) S1x1x788x128.size (k0_off37_inb (grid0.coords t))) (fun _ => rfl)).squeeze S788x128 squeezes_S1x1x788x128_S788x128 = tile (Ring.sl 2 t.val) 3 :=
  congrArg (fun M : Memref sig .tc .vmem S1x1x788x128 .f32 => M.squeeze S788x128 squeezes_S1x1x788x128_S788x128) (Memref.slice_unit_congr _ (off37_eq t) _ _ (fun _ => rfl) (fun _ => rfl))
@[sl_canon] theorem canon37' (t : Fin grid0.N) :
    (scM5.slice (Rect.unit (s := S2x8x788x128) (k0_off37 (grid0.coords t)) ![1, 1, 788, 128] (k0_off37_inb (grid0.coords t))) (fun _ => rfl)).squeeze S788x128 squeezes_S1x1x788x128_S788x128 = tile (Ring.sl 2 t.val) 3 :=
  canon37 t
/-- The kernel's index arithmetic in closed form. -/
theorem off36_eq : ∀ t : Fin grid0.N, k0_off36 (grid0.coords t) = ![0, ((Ring.bk 64 t.val).val / 16), ((Ring.bk 64 t.val).val % 16), 3, 0] := by decide +kernel
@[sl_canon] theorem canon36 (t : Fin grid0.N) :
    (hbM.slice (Rect.unit (s := S788x4x16x8x128) (k0_off36 (grid0.coords t)) S788x1x1x1x128.size (k0_off36_inb (grid0.coords t))) (fun _ => rfl)).squeeze S788x128 squeezes_S788x1x1x1x128_S788x128 = piece (Ring.bk 64 t.val) 3 :=
  congrArg (fun M : Memref sig .tc .hbm S788x1x1x1x128 .f32 => M.squeeze S788x128 squeezes_S788x1x1x1x128_S788x128) (Memref.slice_unit_congr _ (off36_eq t) _ _ (fun _ => rfl) (fun _ => rfl))
@[sl_canon] theorem canon36' (t : Fin grid0.N) :
    (hbM.slice (Rect.unit (s := S788x4x16x8x128) (k0_off36 (grid0.coords t)) ![788, 1, 1, 1, 128] (k0_off36_inb (grid0.coords t))) (fun _ => rfl)).squeeze S788x128 squeezes_S788x1x1x1x128_S788x128 = piece (Ring.bk 64 t.val) 3 :=
  canon36 t
/-- The kernel's index arithmetic in closed form. -/
theorem off39_eq : ∀ t : Fin grid0.N, k0_off39 (grid0.coords t) = ![(Ring.sl 2 t.val).val, 4, 0, 0] := by decide +kernel
@[sl_canon] theorem canon39 (t : Fin grid0.N) :
    (scM5.slice (Rect.unit (s := S2x8x788x128) (k0_off39 (grid0.coords t)) S1x1x788x128.size (k0_off39_inb (grid0.coords t))) (fun _ => rfl)).squeeze S788x128 squeezes_S1x1x788x128_S788x128 = tile (Ring.sl 2 t.val) 4 :=
  congrArg (fun M : Memref sig .tc .vmem S1x1x788x128 .f32 => M.squeeze S788x128 squeezes_S1x1x788x128_S788x128) (Memref.slice_unit_congr _ (off39_eq t) _ _ (fun _ => rfl) (fun _ => rfl))
@[sl_canon] theorem canon39' (t : Fin grid0.N) :
    (scM5.slice (Rect.unit (s := S2x8x788x128) (k0_off39 (grid0.coords t)) ![1, 1, 788, 128] (k0_off39_inb (grid0.coords t))) (fun _ => rfl)).squeeze S788x128 squeezes_S1x1x788x128_S788x128 = tile (Ring.sl 2 t.val) 4 :=
  canon39 t
/-- The kernel's index arithmetic in closed form. -/
theorem off38_eq : ∀ t : Fin grid0.N, k0_off38 (grid0.coords t) = ![0, ((Ring.bk 64 t.val).val / 16), ((Ring.bk 64 t.val).val % 16), 4, 0] := by decide +kernel
@[sl_canon] theorem canon38 (t : Fin grid0.N) :
    (hbM.slice (Rect.unit (s := S788x4x16x8x128) (k0_off38 (grid0.coords t)) S788x1x1x1x128.size (k0_off38_inb (grid0.coords t))) (fun _ => rfl)).squeeze S788x128 squeezes_S788x1x1x1x128_S788x128 = piece (Ring.bk 64 t.val) 4 :=
  congrArg (fun M : Memref sig .tc .hbm S788x1x1x1x128 .f32 => M.squeeze S788x128 squeezes_S788x1x1x1x128_S788x128) (Memref.slice_unit_congr _ (off38_eq t) _ _ (fun _ => rfl) (fun _ => rfl))
@[sl_canon] theorem canon38' (t : Fin grid0.N) :
    (hbM.slice (Rect.unit (s := S788x4x16x8x128) (k0_off38 (grid0.coords t)) ![788, 1, 1, 1, 128] (k0_off38_inb (grid0.coords t))) (fun _ => rfl)).squeeze S788x128 squeezes_S788x1x1x1x128_S788x128 = piece (Ring.bk 64 t.val) 4 :=
  canon38 t
/-- The kernel's index arithmetic in closed form. -/
theorem off41_eq : ∀ t : Fin grid0.N, k0_off41 (grid0.coords t) = ![(Ring.sl 2 t.val).val, 5, 0, 0] := by decide +kernel
@[sl_canon] theorem canon41 (t : Fin grid0.N) :
    (scM5.slice (Rect.unit (s := S2x8x788x128) (k0_off41 (grid0.coords t)) S1x1x788x128.size (k0_off41_inb (grid0.coords t))) (fun _ => rfl)).squeeze S788x128 squeezes_S1x1x788x128_S788x128 = tile (Ring.sl 2 t.val) 5 :=
  congrArg (fun M : Memref sig .tc .vmem S1x1x788x128 .f32 => M.squeeze S788x128 squeezes_S1x1x788x128_S788x128) (Memref.slice_unit_congr _ (off41_eq t) _ _ (fun _ => rfl) (fun _ => rfl))
@[sl_canon] theorem canon41' (t : Fin grid0.N) :
    (scM5.slice (Rect.unit (s := S2x8x788x128) (k0_off41 (grid0.coords t)) ![1, 1, 788, 128] (k0_off41_inb (grid0.coords t))) (fun _ => rfl)).squeeze S788x128 squeezes_S1x1x788x128_S788x128 = tile (Ring.sl 2 t.val) 5 :=
  canon41 t
/-- The kernel's index arithmetic in closed form. -/
theorem off40_eq : ∀ t : Fin grid0.N, k0_off40 (grid0.coords t) = ![0, ((Ring.bk 64 t.val).val / 16), ((Ring.bk 64 t.val).val % 16), 5, 0] := by decide +kernel
@[sl_canon] theorem canon40 (t : Fin grid0.N) :
    (hbM.slice (Rect.unit (s := S788x4x16x8x128) (k0_off40 (grid0.coords t)) S788x1x1x1x128.size (k0_off40_inb (grid0.coords t))) (fun _ => rfl)).squeeze S788x128 squeezes_S788x1x1x1x128_S788x128 = piece (Ring.bk 64 t.val) 5 :=
  congrArg (fun M : Memref sig .tc .hbm S788x1x1x1x128 .f32 => M.squeeze S788x128 squeezes_S788x1x1x1x128_S788x128) (Memref.slice_unit_congr _ (off40_eq t) _ _ (fun _ => rfl) (fun _ => rfl))
@[sl_canon] theorem canon40' (t : Fin grid0.N) :
    (hbM.slice (Rect.unit (s := S788x4x16x8x128) (k0_off40 (grid0.coords t)) ![788, 1, 1, 1, 128] (k0_off40_inb (grid0.coords t))) (fun _ => rfl)).squeeze S788x128 squeezes_S788x1x1x1x128_S788x128 = piece (Ring.bk 64 t.val) 5 :=
  canon40 t
/-- The kernel's index arithmetic in closed form. -/
theorem off43_eq : ∀ t : Fin grid0.N, k0_off43 (grid0.coords t) = ![(Ring.sl 2 t.val).val, 6, 0, 0] := by decide +kernel
@[sl_canon] theorem canon43 (t : Fin grid0.N) :
    (scM5.slice (Rect.unit (s := S2x8x788x128) (k0_off43 (grid0.coords t)) S1x1x788x128.size (k0_off43_inb (grid0.coords t))) (fun _ => rfl)).squeeze S788x128 squeezes_S1x1x788x128_S788x128 = tile (Ring.sl 2 t.val) 6 :=
  congrArg (fun M : Memref sig .tc .vmem S1x1x788x128 .f32 => M.squeeze S788x128 squeezes_S1x1x788x128_S788x128) (Memref.slice_unit_congr _ (off43_eq t) _ _ (fun _ => rfl) (fun _ => rfl))
@[sl_canon] theorem canon43' (t : Fin grid0.N) :
    (scM5.slice (Rect.unit (s := S2x8x788x128) (k0_off43 (grid0.coords t)) ![1, 1, 788, 128] (k0_off43_inb (grid0.coords t))) (fun _ => rfl)).squeeze S788x128 squeezes_S1x1x788x128_S788x128 = tile (Ring.sl 2 t.val) 6 :=
  canon43 t
/-- The kernel's index arithmetic in closed form. -/
theorem off42_eq : ∀ t : Fin grid0.N, k0_off42 (grid0.coords t) = ![0, ((Ring.bk 64 t.val).val / 16), ((Ring.bk 64 t.val).val % 16), 6, 0] := by decide +kernel
@[sl_canon] theorem canon42 (t : Fin grid0.N) :
    (hbM.slice (Rect.unit (s := S788x4x16x8x128) (k0_off42 (grid0.coords t)) S788x1x1x1x128.size (k0_off42_inb (grid0.coords t))) (fun _ => rfl)).squeeze S788x128 squeezes_S788x1x1x1x128_S788x128 = piece (Ring.bk 64 t.val) 6 :=
  congrArg (fun M : Memref sig .tc .hbm S788x1x1x1x128 .f32 => M.squeeze S788x128 squeezes_S788x1x1x1x128_S788x128) (Memref.slice_unit_congr _ (off42_eq t) _ _ (fun _ => rfl) (fun _ => rfl))
@[sl_canon] theorem canon42' (t : Fin grid0.N) :
    (hbM.slice (Rect.unit (s := S788x4x16x8x128) (k0_off42 (grid0.coords t)) ![788, 1, 1, 1, 128] (k0_off42_inb (grid0.coords t))) (fun _ => rfl)).squeeze S788x128 squeezes_S788x1x1x1x128_S788x128 = piece (Ring.bk 64 t.val) 6 :=
  canon42 t
/-- The kernel's index arithmetic in closed form. -/
theorem off45_eq : ∀ t : Fin grid0.N, k0_off45 (grid0.coords t) = ![(Ring.sl 2 t.val).val, 7, 0, 0] := by decide +kernel
@[sl_canon] theorem canon45 (t : Fin grid0.N) :
    (scM5.slice (Rect.unit (s := S2x8x788x128) (k0_off45 (grid0.coords t)) S1x1x788x128.size (k0_off45_inb (grid0.coords t))) (fun _ => rfl)).squeeze S788x128 squeezes_S1x1x788x128_S788x128 = tile (Ring.sl 2 t.val) 7 :=
  congrArg (fun M : Memref sig .tc .vmem S1x1x788x128 .f32 => M.squeeze S788x128 squeezes_S1x1x788x128_S788x128) (Memref.slice_unit_congr _ (off45_eq t) _ _ (fun _ => rfl) (fun _ => rfl))
@[sl_canon] theorem canon45' (t : Fin grid0.N) :
    (scM5.slice (Rect.unit (s := S2x8x788x128) (k0_off45 (grid0.coords t)) ![1, 1, 788, 128] (k0_off45_inb (grid0.coords t))) (fun _ => rfl)).squeeze S788x128 squeezes_S1x1x788x128_S788x128 = tile (Ring.sl 2 t.val) 7 :=
  canon45 t
/-- The kernel's index arithmetic in closed form. -/
theorem off44_eq : ∀ t : Fin grid0.N, k0_off44 (grid0.coords t) = ![0, ((Ring.bk 64 t.val).val / 16), ((Ring.bk 64 t.val).val % 16), 7, 0] := by decide +kernel
@[sl_canon] theorem canon44 (t : Fin grid0.N) :
    (hbM.slice (Rect.unit (s := S788x4x16x8x128) (k0_off44 (grid0.coords t)) S788x1x1x1x128.size (k0_off44_inb (grid0.coords t))) (fun _ => rfl)).squeeze S788x128 squeezes_S788x1x1x1x128_S788x128 = piece (Ring.bk 64 t.val) 7 :=
  congrArg (fun M : Memref sig .tc .hbm S788x1x1x1x128 .f32 => M.squeeze S788x128 squeezes_S788x1x1x1x128_S788x128) (Memref.slice_unit_congr _ (off44_eq t) _ _ (fun _ => rfl) (fun _ => rfl))
@[sl_canon] theorem canon44' (t : Fin grid0.N) :
    (hbM.slice (Rect.unit (s := S788x4x16x8x128) (k0_off44 (grid0.coords t)) ![788, 1, 1, 1, 128] (k0_off44_inb (grid0.coords t))) (fun _ => rfl)).squeeze S788x128 squeezes_S788x1x1x1x128_S788x128 = piece (Ring.bk 64 t.val) 7 :=
  canon44 t
/-- The kernel's index arithmetic in closed form. -/
theorem off18_eq : ∀ t : Fin grid0.N, k0_off18 (grid0.coords t) = ![(Ring.sl 2 t.val).val, 0, 0, 0] := by decide +kernel
/-- The kernel's index arithmetic in closed form. -/
theorem off19_eq : ∀ t : Fin grid0.N, k0_off19 (grid0.coords t) = ![(Ring.sl 2 t.val).val, 0, 256, 0] := by decide +kernel
/-- The kernel's index arithmetic in closed form. -/
theorem off20_eq : ∀ t : Fin grid0.N, k0_off20 (grid0.coords t) = ![(Ring.sl 2 t.val).val, 0, 512, 0] := by decide +kernel
/-- The kernel's index arithmetic in closed form. -/
theorem off21_eq : ∀ t : Fin grid0.N, k0_off21 (grid0.coords t) = ![(Ring.sl 2 t.val).val, 0, 768, 0] := by decide +kernel
/-- The kernel's index arithmetic in closed form. -/
theorem off22_eq : ∀ t : Fin grid0.N, k0_off22 (grid0.coords t) = ![(Ring.sl 2 t.val).val, 1, 768, 0] := by decide +kernel
/-- The kernel's index arithmetic in closed form. -/
theorem off23_eq : ∀ t : Fin grid0.N, k0_off23 (grid0.coords t) = ![(Ring.sl 2 t.val).val, 2, 768, 0] := by decide +kernel
/-- The kernel's index arithmetic in closed form. -/
theorem off24_eq : ∀ t : Fin grid0.N, k0_off24 (grid0.coords t) = ![(Ring.sl 2 t.val).val, 3, 768, 0] := by decide +kernel
/-- The kernel's index arithmetic in closed form. -/
theorem off25_eq : ∀ t : Fin grid0.N, k0_off25 (grid0.coords t) = ![(Ring.sl 2 t.val).val, 4, 768, 0] := by decide +kernel
/-- The kernel's index arithmetic in closed form. -/
theorem off26_eq : ∀ t : Fin grid0.N, k0_off26 (grid0.coords t) = ![(Ring.sl 2 t.val).val, 5, 768, 0] := by decide +kernel
/-- The kernel's index arithmetic in closed form. -/
theorem off27_eq : ∀ t : Fin grid0.N, k0_off27 (grid0.coords t) = ![(Ring.sl 2 t.val).val, 6, 768, 0] := by decide +kernel
/-- The kernel's index arithmetic in closed form. -/
theorem off28_eq : ∀ t : Fin grid0.N, k0_off28 (grid0.coords t) = ![(Ring.sl 2 t.val).val, 7, 768, 0] := by decide +kernel
end Canon

end Cert.KernelIdeal.Enc

end

end
-- ==== Proof.KernelIdeal.Values.lean ====
module

public import proofs.«01_k».proof.Proof.KernelIdeal.Ring

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- What one grid point reads of its twelve input windows. -/
structure Ins (F : FTy → Type) where
  x0 : Vec F S32x8 .f32
  x1 : Vec F S8x128x256 .f32
  x2 : Vec F S8x128x256 .f32
  x3 : Vec F S8x128x256 .f32
  x4 : Vec F S8x128x256 .f32
  x5 : Vec F S8x40 .f32
  x6 : Vec F S1x40 .f32
  x7 : Vec F S40x20 .f32
  x8 : Vec F S1x20 .f32
  x9 : Vec F S1044x256 .f32
  x10 : Vec F S1x256 .f32
  x11 : Vec F S128x128 .bf16

/-- The five carried scratch buffers: running sum, running maximum, its time, the demography, and its part of the linear layer. -/
structure St (F : FTy → Type) where
  s0 : Vec F S8x256 .f32
  s1 : Vec F S8x256 .f32
  s2 : Vec F S8x256 .f32
  s3 : Vec F S8x20 .f32
  s4 : Vec F S8x256 .f32

namespace Ins
variable (X : Ins F)
/-- Rows 0 … of the linear layer's weights. -/
def w0 : Vec F S256x256 .f32 := fun i => X.x9 ((Rect.unit (s := S1044x256) ![0, 0] S256x256.size inb_S1044x256_S256x256_0_0).toLoadRect.idx i)
/-- Rows 256 … of the linear layer's weights. -/
def w1 : Vec F S256x256 .f32 := fun i => X.x9 ((Rect.unit (s := S1044x256) ![256, 0] S256x256.size inb_S1044x256_S256x256_256_0).toLoadRect.idx i)
/-- Rows 512 … of the linear layer's weights. -/
def w2 : Vec F S256x256 .f32 := fun i => X.x9 ((Rect.unit (s := S1044x256) ![512, 0] S256x256.size inb_S1044x256_S256x256_512_0).toLoadRect.idx i)
/-- Rows 768 … of the linear layer's weights. -/
def w3 : Vec F S256x256 .f32 := fun i => X.x9 ((Rect.unit (s := S1044x256) ![768, 0] S256x256.size inb_S1044x256_S256x256_768_0).toLoadRect.idx i)
/-- Rows 1024 … of the linear layer's weights. -/
def w4 : Vec F S20x256 .f32 := fun i => X.x9 ((Rect.unit (s := S1044x256) ![1024, 0] S20x256.size inb_S1044x256_S20x256_1024_0).toLoadRect.idx i)
/-- The demography layer's output at every block of subjects. -/
def dem : FVec F S4x8x20 .f32 := k0_pay4 X.x0 X.x5 X.x6 X.x7 X.x8
end Ins

/-- The state a new block of subjects starts from. -/
def reset (i : grid0.Coords) (X : Ins F) : St F where
  s0 := k0_pay1
  s1 := k0_pay2
  s2 := k0_pay3
  s3 := k0_pay6 i X.dem
  s4 := k0_pay7 i X.dem X.w4 X.x10

/-- The time-block number, as the kernel's word. -/
abbrev jw (i : grid0.Coords) : BitVec 32 := BitVec.ofNat 32 (i 1).val

section Step
variable (i : grid0.Coords) (X : Ins F) (S : St F)

/-- The linear layer's values on this block. -/
def xt : FVec F S8x128x256 .f32 := k0_pay11 (k0_pay8 X.x3) (k0_pay9 X.x4) (k0_pay10 X.x1 X.x2 X.w0 X.w1) X.w2 X.w3 S.s4
/-- Their bfloat16 part, -/
def xhi : FVec F S1024x256 .bf16 := k0_pay13 (k0_pay8 X.x3) (k0_pay9 X.x4) (k0_pay10 X.x1 X.x2 X.w0 X.w1) X.w2 X.w3 S.s4
/-- and the bfloat16 part of the rest. -/
def xlo : FVec F S1024x256 .bf16 := k0_pay14 (k0_pay8 X.x3) (k0_pay9 X.x4) (k0_pay10 X.x1 X.x2 X.w0 X.w1) X.w2 X.w3 S.s4
/-- The triangle. -/
def tri : FVec F S128x128 .bf16 := k0_pay15 X.x11
/-- Subject `b`'s running sums. -/
def cu0 : FVec F S128x256 .f32 := k0_pay16 (k0_pay8 X.x3) (k0_pay9 X.x4) (k0_pay10 X.x1 X.x2 X.w0 X.w1) X.w2 X.w3 S.s4 X.x11 S.s0
@[inherit_doc cu0] def cu1 : FVec F S128x256 .f32 := k0_pay18 (k0_pay8 X.x3) (k0_pay9 X.x4) (k0_pay10 X.x1 X.x2 X.w0 X.w1) X.w2 X.w3 S.s4 X.x11 S.s0
@[inherit_doc cu0] def cu2 : FVec F S128x256 .f32 := k0_pay22 S.s0 (k0_pay20 (k0_pay8 X.x3) (k0_pay9 X.x4) (k0_pay10 X.x1 X.x2 X.w0 X.w1) X.w2 X.w3 S.s4 X.x11) (k0_pay21 (k0_pay8 X.x3) (k0_pay9 X.x4) (k0_pay10 X.x1 X.x2 X.w0 X.w1) X.w2 X.w3 S.s4 X.x11)
@[inherit_doc cu0] def cu3 : FVec F S128x256 .f32 := k0_pay24 (xhi X S) (xlo X S) (tri X) S.s0
@[inherit_doc cu0] def cu4 : FVec F S128x256 .f32 := k0_pay26 (xhi X S) (xlo X S) (tri X) S.s0
@[inherit_doc cu0] def cu5 : FVec F S128x256 .f32 := k0_pay28 (xhi X S) (xlo X S) (tri X) S.s0
@[inherit_doc cu0] def cu6 : FVec F S128x256 .f32 := k0_pay30 (xhi X S) (xlo X S) (tri X) S.s0
@[inherit_doc cu0] def cu7 : FVec F S128x256 .f32 := k0_pay32 (xhi X S) (xlo X S) (tri X) S.s0
/-- The running sums of the eight subjects, over the block. -/
def cum : FVec F S8x128x256 .f32 := k0_pay34 (cu0 X S) (cu1 X S) (cu2 X S) (cu3 X S) (cu4 X S) (cu5 X S) (cu6 X S) (cu7 X S)
/-- The running sums at the block's end. -/
def ns0 : FVec F S8x256 .f32 := k0_pay35
  (k0_pay17 (k0_pay8 X.x3) (k0_pay9 X.x4) (k0_pay10 X.x1 X.x2 X.w0 X.w1) X.w2 X.w3 S.s4 X.x11 S.s0)
  (k0_pay19 (k0_pay8 X.x3) (k0_pay9 X.x4) (k0_pay10 X.x1 X.x2 X.w0 X.w1) X.w2 X.w3 S.s4 X.x11 S.s0)
  (k0_pay23 S.s0 (k0_pay20 (k0_pay8 X.x3) (k0_pay9 X.x4) (k0_pay10 X.x1 X.x2 X.w0 X.w1) X.w2 X.w3 S.s4 X.x11) (k0_pay21 (k0_pay8 X.x3) (k0_pay9 X.x4) (k0_pay10 X.x1 X.x2 X.w0 X.w1) X.w2 X.w3 S.s4 X.x11))
  (k0_pay25 (xhi X S) (xlo X S) (tri X) S.s0) (k0_pay27 (xhi X S) (xlo X S) (tri X) S.s0) (k0_pay29 (xhi X S) (xlo X S) (tri X) S.s0)
  (k0_pay31 (xhi X S) (xlo X S) (tri X) S.s0) (k0_pay33 (xhi X S) (xlo X S) (tri X) S.s0)
/-- The running maxima, -/
def cmx : FVec F S8x128x256 .f32 := k0_pay37 (xt X S) S.s1
/-- those before each time, -/
def pmx : FVec F S8x128x256 .f32 := k0_pay38 (xt X S) S.s1
/-- and the times they were first met. -/
def cti : FVec F S8x128x256 .f32 := k0_pay40 (jw i) (xt X S) (pmx X S) S.s2
/-- The activation the kernel writes. -/
def act : FVec F S8x256x128 .f32 := k0_pay45 (jw i) (cmx X S)
/-- The index the kernel writes. -/
def idx : IVec S8x256x128 32 := k0_pay46 (jw i) (cmx X S) (cti i X S)
/-- The running sums with time last. -/
def cumT : FVec F S8x256x128 .f32 := k0_pay42 (cum X S)
/-- The state after the block. -/
def next : St F where
  s0 := ns0 X S
  s1 := k0_pay39 (xt X S) S.s1
  s2 := k0_pay41 (jw i) (xt X S) (pmx X S) S.s2
  s3 := S.s3
  s4 := S.s4
end Step

/-- The eleven boxes a grid point stores into its slot of the scratch ring, the newest first. -/
def slabL (t : Fin grid0.N) (X : Ins F) (S : St F) : List (View.Piece (Elt F) S2x8x788x128 .f32) :=
  [⟨Rect.unit (s := S2x8x788x128) (k0_off28 (grid0.coords t)) S1x1x20x128.size (k0_off28_inb (grid0.coords t)), k0_pay64 (k0_pay55 S.s3)⟩,
   ⟨Rect.unit (s := S2x8x788x128) (k0_off27 (grid0.coords t)) S1x1x20x128.size (k0_off27_inb (grid0.coords t)), k0_pay63 (k0_pay55 S.s3)⟩,
   ⟨Rect.unit (s := S2x8x788x128) (k0_off26 (grid0.coords t)) S1x1x20x128.size (k0_off26_inb (grid0.coords t)), k0_pay62 (k0_pay61 (k0_pay55 S.s3))⟩,
   ⟨Rect.unit (s := S2x8x788x128) (k0_off25 (grid0.coords t)) S1x1x20x128.size (k0_off25_inb (grid0.coords t)), k0_pay60 (k0_pay55 S.s3)⟩,
   ⟨Rect.unit (s := S2x8x788x128) (k0_off24 (grid0.coords t)) S1x1x20x128.size (k0_off24_inb (grid0.coords t)), k0_pay59 (k0_pay55 S.s3)⟩,
   ⟨Rect.unit (s := S2x8x788x128) (k0_off23 (grid0.coords t)) S1x1x20x128.size (k0_off23_inb (grid0.coords t)), k0_pay58 (k0_pay55 S.s3)⟩,
   ⟨Rect.unit (s := S2x8x788x128) (k0_off22 (grid0.coords t)) S1x1x20x128.size (k0_off22_inb (grid0.coords t)), k0_pay57 (k0_pay55 S.s3)⟩,
   ⟨Rect.unit (s := S2x8x788x128) (k0_off21 (grid0.coords t)) S1x1x20x128.size (k0_off21_inb (grid0.coords t)), k0_pay56 (k0_pay55 S.s3)⟩,
   ⟨Rect.unit (s := S2x8x788x128) (k0_off20 (grid0.coords t)) S1x8x256x128.size (k0_off20_inb (grid0.coords t)), k0_pay54 (k0_pay49 (cumT X S)) (k0_pay51 (jw (grid0.coords t)) (cumT X S))⟩,
   ⟨Rect.unit (s := S2x8x788x128) (k0_off19 (grid0.coords t)) S1x8x256x128.size (k0_off19_inb (grid0.coords t)), k0_pay53 (k0_pay50 (cumT X S))⟩,
   ⟨Rect.unit (s := S2x8x788x128) (k0_off18 (grid0.coords t)) S1x8x256x128.size (k0_off18_inb (grid0.coords t)), k0_pay52 (act (grid0.coords t) X S)⟩]

/-- A slot's contents after a grid point's stores. -/
def slabVal (c : Dev nD) (t : Fin grid0.N) (X : Ins F) (S : St F) : HbBuf (F := F) c scM5 :=
  scM5.view.writes (Elt F) (fun _ => (FloatOps.ofBits .f32 0#32 : F .f32)) (slabL t X S)

set_option maxHeartbeats 2000000 in
/-- The eleven boxes fill the slot. -/
theorem slabL_cover (t : Fin grid0.N) (X : Ins F) (S : St F) (i : S2x8x788x128.Idx) (hi : i ∈ slabSet (Ring.sl 2 t.val)) :
    ∃ p ∈ slabL t X S, i ∈ p.1.set := by
  rw [Rect.mem_set_unit] at hi
  have h0 := hi 0; have h1 := (i 1).isLt; have h2 := (i 2).isLt; have h3 := (i 3).isLt
  simp [slabOff] at h0 h1 h2 h3
  by_cases c0 : (i 2).val < 256
  · refine ⟨_, by unfold slabL; simp only [List.mem_cons]; iterate 10 right
                  left; rfl, ?_⟩
    rw [Rect.mem_set_unit, off18_eq]; intro a; fin_cases a <;> simp <;> omega
  by_cases c1 : (i 2).val < 512
  · refine ⟨_, by unfold slabL; simp only [List.mem_cons]; iterate 9 right
                  left; rfl, ?_⟩
    rw [Rect.mem_set_unit, off19_eq]; intro a; fin_cases a <;> simp <;> omega
  by_cases c2 : (i 2).val < 768
  · refine ⟨_, by unfold slabL; simp only [List.mem_cons]; iterate 8 right
                  left; rfl, ?_⟩
    rw [Rect.mem_set_unit, off20_eq]; intro a; fin_cases a <;> simp <;> omega
  by_cases d0 : (i 1).val = 0
  · refine ⟨_, by unfold slabL; simp only [List.mem_cons]; iterate 7 right
                  left; rfl, ?_⟩
    rw [Rect.mem_set_unit, off21_eq]; intro a; fin_cases a <;> simp <;> omega
  by_cases d1 : (i 1).val = 1
  · refine ⟨_, by unfold slabL; simp only [List.mem_cons]; iterate 6 right
                  left; rfl, ?_⟩
    rw [Rect.mem_set_unit, off22_eq]; intro a; fin_cases a <;> simp <;> omega
  by_cases d2 : (i 1).val = 2
  · refine ⟨_, by unfold slabL; simp only [List.mem_cons]; iterate 5 right
                  left; rfl, ?_⟩
    rw [Rect.mem_set_unit, off23_eq]; intro a; fin_cases a <;> simp <;> omega
  by_cases d3 : (i 1).val = 3
  · refine ⟨_, by unfold slabL; simp only [List.mem_cons]; iterate 4 right
                  left; rfl, ?_⟩
    rw [Rect.mem_set_unit, off24_eq]; intro a; fin_cases a <;> simp <;> omega
  by_cases d4 : (i 1).val = 4
  · refine ⟨_, by unfold slabL; simp only [List.mem_cons]; iterate 3 right
                  left; rfl, ?_⟩
    rw [Rect.mem_set_unit, off25_eq]; intro a; fin_cases a <;> simp <;> omega
  by_cases d5 : (i 1).val = 5
  · refine ⟨_, by unfold slabL; simp only [List.mem_cons]; iterate 2 right
                  left; rfl, ?_⟩
    rw [Rect.mem_set_unit, off26_eq]; intro a; fin_cases a <;> simp <;> omega
  by_cases d6 : (i 1).val = 6
  · refine ⟨_, by unfold slabL; simp only [List.mem_cons]; iterate 1 right
                  left; rfl, ?_⟩
    rw [Rect.mem_set_unit, off27_eq]; intro a; fin_cases a <;> simp <;> omega
  · refine ⟨_, by unfold slabL; simp only [List.mem_cons]; left; rfl, ?_⟩
    rw [Rect.mem_set_unit, off28_eq]; intro a; fin_cases a <;> simp <;> omega

/-- A written element does not depend on what was there before. -/
theorem scM5_writes_congr (c : Dev nD) (L : List (View.Piece (Elt F) S2x8x788x128 .f32)) (f f' : HbBuf (F := F) c scM5) (i : S2x8x788x128.Idx)
    (h : ∃ p ∈ L, i ∈ p.1.set) : scM5.view.writes (Elt F) f L i = scM5.view.writes (Elt F) f' L i := by
  have e := View.read_writes_apply_eq scM5.view f scM5.view f' i L h
  exact e

/-- So whatever the slot held before, after the stores it holds `slabVal`. -/
theorem slab_congr (c : Dev nD) (t : Fin grid0.N) (X : Ins F) (S : St F) (f : HbBuf (F := F) c scM5) (i : S2x8x788x128.Idx)
    (hi : i ∈ slabSet (Ring.sl 2 t.val)) : scM5.view.writes (Elt F) f (slabL t X S) i = slabVal c t X S i := by
  unfold slabVal
  generalize hL : slabL t X S = L
  have h := slabL_cover t X S i hi
  rw [hL] at h
  exact scM5_writes_congr c L _ _ i h

/-- A slot's elements as the set of a load's rectangle. -/
theorem slabR_eq (g : Fin 2) : slabSet g = scM5.view.setOn (Rect.unit (s := S2x8x788x128) (slabOff g) S1x8x788x128.size (inb_slab g)).toLoadRect.set := (Finset.map_refl).symm
/-- The offset's closed form. -/
instance (t : Fin cfg0.N) : ClosedOff (k0_off18 (grid0.coords t)) := ⟨![(Ring.sl 2 t.val).val, 0, 0, 0], off18_eq t⟩
/-- The offset's closed form. -/
instance (t : Fin cfg0.N) : ClosedOff (k0_off19 (grid0.coords t)) := ⟨![(Ring.sl 2 t.val).val, 0, 256, 0], off19_eq t⟩
/-- The offset's closed form. -/
instance (t : Fin cfg0.N) : ClosedOff (k0_off20 (grid0.coords t)) := ⟨![(Ring.sl 2 t.val).val, 0, 512, 0], off20_eq t⟩
/-- The offset's closed form. -/
instance (t : Fin cfg0.N) : ClosedOff (k0_off21 (grid0.coords t)) := ⟨![(Ring.sl 2 t.val).val, 0, 768, 0], off21_eq t⟩
/-- The offset's closed form. -/
instance (t : Fin cfg0.N) : ClosedOff (k0_off22 (grid0.coords t)) := ⟨![(Ring.sl 2 t.val).val, 1, 768, 0], off22_eq t⟩
/-- The offset's closed form. -/
instance (t : Fin cfg0.N) : ClosedOff (k0_off23 (grid0.coords t)) := ⟨![(Ring.sl 2 t.val).val, 2, 768, 0], off23_eq t⟩
/-- The offset's closed form. -/
instance (t : Fin cfg0.N) : ClosedOff (k0_off24 (grid0.coords t)) := ⟨![(Ring.sl 2 t.val).val, 3, 768, 0], off24_eq t⟩
/-- The offset's closed form. -/
instance (t : Fin cfg0.N) : ClosedOff (k0_off25 (grid0.coords t)) := ⟨![(Ring.sl 2 t.val).val, 4, 768, 0], off25_eq t⟩
/-- The offset's closed form. -/
instance (t : Fin cfg0.N) : ClosedOff (k0_off26 (grid0.coords t)) := ⟨![(Ring.sl 2 t.val).val, 5, 768, 0], off26_eq t⟩
/-- The offset's closed form. -/
instance (t : Fin cfg0.N) : ClosedOff (k0_off27 (grid0.coords t)) := ⟨![(Ring.sl 2 t.val).val, 6, 768, 0], off27_eq t⟩
/-- The offset's closed form. -/
instance (t : Fin cfg0.N) : ClosedOff (k0_off28 (grid0.coords t)) := ⟨![(Ring.sl 2 t.val).val, 7, 768, 0], off28_eq t⟩
/-- The offset's closed form. -/
instance (g : Fin 2) : ClosedOff (slabOff g) := ⟨![g.val, 0, 0, 0], rfl⟩

end Cert.KernelIdeal.Enc

end

end
-- ==== Proof.KernelIdeal.RunKit.lean ====
module

public import proofs.«01_k».proof.Proof.KernelIdeal.Values

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A load of a whole buffer reads its contents. -/
theorem readAt_full {s : Shape} {e : EltTy} (m : Memref sig .tc .vmem s e) (hm : m.IsWhole) (x : Vec F s e) (off : Fin s.rank → Nat)
    (inb : ∀ a, off a + s.size a ≤ s.size a) (h0 : ∀ a, off a = 0) :
    m.view.readAt (Elt F) (Rect.unit (s := s) off s.size inb).toLoadRect (hm.unread x) = x := by
  funext i
  rw [View.readAt_apply, hm.read_unread]
  refine congrArg x (funext fun a => Fin.ext ?_)
  show off a + 1 * (i a).val = (i a).val
  rw [h0]; omega

/-- A load of a box of a whole buffer reads its contents there. -/
theorem readAt_part {s : Shape} {e : EltTy} (m : Memref sig .tc .vmem s e) (hm : m.IsWhole) (x : Vec F s e) (r : LoadRect s) (y : r.shape.Idx → Elt F e ) (hy : y = fun i => x (r.idx i)) :
    m.view.readAt (Elt F) r (hm.unread x) = y := by
  subst hy
  funext i
  rw [View.readAt_apply, hm.read_unread]

/-- A whole buffer whose last store filled it reads that store's payload. -/
theorem read_full_cons {s : Shape} {e : EltTy} (m : Memref sig .tc .vmem s e) (f : m.view.ty.Contents (Elt F)) (off : Fin s.rank → Nat)
    (inb : ∀ a, off a + s.size a ≤ s.size a) (w : Vec F s e) (L : List (View.Piece (Elt F) s e)) (h0 : ∀ a, off a = 0) :
    m.view.read (Elt F) (m.view.writes (Elt F) f (⟨Rect.unit (s := s) off s.size inb, w⟩ :: L)) = w := by
  funext i
  have e : (Rect.unit (s := s) off s.size inb).emb i = i := funext fun a => Fin.ext (by
    show off a + 1 * (i a).val = (i a).val
    rw [h0]; omega)
  have h := View.read_writes_cons_emb m.view f (Rect.unit (s := s) off s.size inb) w L i
  rw [e] at h
  exact h

/-- A load of a whole buffer whose last store filled it reads that store's payload. -/
theorem readAt_full_cons {s : Shape} {e : EltTy} (m : Memref sig .tc .vmem s e) (f : m.view.ty.Contents (Elt F)) (off : Fin s.rank → Nat)
    (inb : ∀ a, off a + s.size a ≤ s.size a) (w : Vec F s e) (L : List (View.Piece (Elt F) s e)) (h0 : ∀ a, off a = 0) :
    m.view.readAt (Elt F) (Rect.unit (s := s) off s.size inb).toLoadRect (m.view.writes (Elt F) f (⟨Rect.unit (s := s) off s.size inb, w⟩ :: L)) = w := by
  funext i
  exact View.read_writes_cons_emb m.view f (Rect.unit (s := s) off s.size inb) w L i

/-- The stored slot, told by `slabVal`. -/
theorem slab_same (c : Dev nD) (t : Fin grid0.N) (X : Ins F) (S : St F) (es : HbBuf (F := F) c scM5) :
    (scM5.view.loc (c : Thread nD τ) ↦[slabSet (Ring.sl 2 t.val)]{fullShare} (scM5.view.writes (Elt F) es (slabL t X S) : HbBuf (F := F) c scM5) : sProp 𝕄)
      ⊢ slabP c (Ring.sl 2 t.val) (slabVal c t X S) :=
  Entails.of_eq (pointsTo_congr fun i hi => slab_congr c t X S es i hi)

/-- The eight pieces of step `u`, written from slot `g`. -/
abbrev piecesAt (c : Dev nD) (v0 : HbBuf (F := F) c hbM) (E : Fin 64 → HbBuf (F := F) c scM5) (g : Fin 2) (u : Fin 64) : sProp 𝕄 :=
  iprop(pieceP c u 0 (landed c v0 E u g 0) ∗ pieceP c u 1 (landed c v0 E u g 1) ∗ pieceP c u 2 (landed c v0 E u g 2) ∗ pieceP c u 3 (landed c v0 E u g 3) ∗ pieceP c u 4 (landed c v0 E u g 4) ∗ pieceP c u 5 (landed c v0 E u g 5) ∗ pieceP c u 6 (landed c v0 E u g 6) ∗ pieceP c u 7 (landed c v0 E u g 7))

end Cert.KernelIdeal.Enc

end

end
-- ==== Proof.KernelIdeal.RunA.lean ====
module

public import proofs.«01_k».proof.Proof.KernelIdeal.RunKit

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 3000000 in
/-- The first grid point: no copy to wait for, and the carried state starts anew. -/
theorem runA (c : Dev nD) (t : Fin cfg0.N) (arg2 : Memref sig .tc .vmem S32x8 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x40 .f32) (harg7 : arg7.IsWhole) (arg8 : Memref sig .tc .vmem S1x40 .f32) (harg8 : arg8.IsWhole) (arg9 : Memref sig .tc .vmem S40x20 .f32) (harg9 : arg9.IsWhole) (arg10 : Memref sig .tc .vmem S1x20 .f32) (harg10 : arg10.IsWhole) (arg11 : Memref sig .tc .vmem S1044x256 .f32) (harg11 : arg11.IsWhole) (arg12 : Memref sig .tc .vmem S1x256 .f32) (harg12 : arg12.IsWhole) (arg13 : Memref sig .tc .vmem S128x128 .bf16) (harg13 : arg13.IsWhole) (arg15 : Memref sig .tc .vmem S8x256x128 .i32) (harg15 : arg15.IsWhole) (arg16 : Memref sig .tc .vmem S8x256x128 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x20 .f32) (harg20 : arg20.IsWhole) (arg21 : Memref sig .tc .vmem S8x256 .f32) (harg21 : arg21.IsWhole)
    (hc1 : ¬ k0_cond1 (grid0.coords t) = 1#1) (hc2 : Scalar.cmpi .ne (Scalar.extui (Scalar.cmpi .eq (BitVec.ofNat 32 ((grid0.coords t) 1).val) 0#32) : BitVec 32) 0#32 = 1#1) (hc3 : ¬ k0_cond3 (grid0.coords t) = 1#1)
    (v0 : HbBuf (F := F) c hbM) (E : Fin 64 → HbBuf (F := F) c scM5) (X : Ins F)
    (hE : E (Ring.bk 64 t.val) = slabVal c t X (reset (grid0.coords t) X)) (W : Waits sig Unit) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (ahead c v0 (Ring.bk 64 t.val) ∗ free c (Ring.sl 2 t.val)) ∗ owes (c : Thread nD τ) 0 W
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ owns (c : Thread nD τ) arg15 fullShare (idx (grid0.coords t) X (reset (grid0.coords t) X)) ∗ owns (c : Thread nD τ) arg16 fullShare (act (grid0.coords t) X (reset (grid0.coords t) X)) ∗ owns (c : Thread nD τ) arg17 fullShare (next (grid0.coords t) X (reset (grid0.coords t) X)).s0 ∗ owns (c : Thread nD τ) arg18 fullShare (next (grid0.coords t) X (reset (grid0.coords t) X)).s1 ∗ owns (c : Thread nD τ) arg19 fullShare (next (grid0.coords t) X (reset (grid0.coords t) X)).s2 ∗ owns (c : Thread nD τ) arg20 fullShare (next (grid0.coords t) X (reset (grid0.coords t) X)).s3 ∗ owns (c : Thread nD τ) arg21 fullShare (next (grid0.coords t) X (reset (grid0.coords t) X)).s4 ∗ (infl c v0 E (Ring.sl 2 t.val) (Ring.bk 64 t.val)) ∗ (∃ W1, owes (c : Thread nD τ) 0 W1)) -∗ K ⟨⟩)) ⊢ wp frame (wpE (defs₀ (F := F)) Variants.none c none) Set.univ (cc0_deep_pool_encoder (grid0.coords t) arg2 harg2 arg3 harg3 arg4 harg4 arg5 harg5 arg6 harg6 arg7 harg7 arg8 harg8 arg9 harg9 arg10 harg10 arg11 harg11 arg12 harg12 arg13 harg13 (Memref.whole main_v6_0) (Memref.isWhole_whole _) arg15 harg15 arg16 harg16 arg17 harg17 arg18 harg18 arg19 harg19 arg20 harg20 arg21 harg21 scM5 (Memref.isWhole_whole _) cc0_scratch6) K := by
    simp only [cc0_deep_pool_encoder_eq_skeleton]; unfold cc0_deep_pool_encoder_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨⟨Hp0, Hp1, Hp2, Hp3, Hp4, Hp5, Hp6, Hp7⟩, ⟨HF, ⟨%eb0, HB0⟩, ⟨%eb1, HB1⟩, ⟨%eb2, HB2⟩, ⟨%eb3, HB3⟩, ⟨%eb4, HB4⟩, ⟨%eb5, HB5⟩, ⟨%eb6, HB6⟩, ⟨%eb7, HB7⟩⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11;
    have hv2 : arg2.view.readAt (Elt F) (Rect.unit (s := S32x8) ![0, 0] S32x8.size inb_S32x8_S32x8_0_0).toLoadRect (harg2.unread X.x0) = X.x0 := readAt_full _ _ _ _ _ (by decide)
    have hv3 : arg3.view.readAt (Elt F) (Rect.unit (s := S8x128x256) ![0, 0, 0] S8x128x256.size inb_S8x128x256_S8x128x256_0_0_0).toLoadRect (harg3.unread X.x1) = X.x1 := readAt_full _ _ _ _ _ (by decide)
    have hv4 : arg4.view.readAt (Elt F) (Rect.unit (s := S8x128x256) ![0, 0, 0] S8x128x256.size inb_S8x128x256_S8x128x256_0_0_0).toLoadRect (harg4.unread X.x2) = X.x2 := readAt_full _ _ _ _ _ (by decide)
    have hv5 : arg5.view.readAt (Elt F) (Rect.unit (s := S8x128x256) ![0, 0, 0] S8x128x256.size inb_S8x128x256_S8x128x256_0_0_0).toLoadRect (harg5.unread X.x3) = X.x3 := readAt_full _ _ _ _ _ (by decide)
    have hv6 : arg6.view.readAt (Elt F) (Rect.unit (s := S8x128x256) ![0, 0, 0] S8x128x256.size inb_S8x128x256_S8x128x256_0_0_0).toLoadRect (harg6.unread X.x4) = X.x4 := readAt_full _ _ _ _ _ (by decide)
    have hv7 : arg7.view.readAt (Elt F) (Rect.unit (s := S8x40) ![0, 0] S8x40.size inb_S8x40_S8x40_0_0).toLoadRect (harg7.unread X.x5) = X.x5 := readAt_full _ _ _ _ _ (by decide)
    have hv8 : arg8.view.readAt (Elt F) (Rect.unit (s := S1x40) ![0, 0] S1x40.size inb_S1x40_S1x40_0_0).toLoadRect (harg8.unread X.x6) = X.x6 := readAt_full _ _ _ _ _ (by decide)
    have hv9 : arg9.view.readAt (Elt F) (Rect.unit (s := S40x20) ![0, 0] S40x20.size inb_S40x20_S40x20_0_0).toLoadRect (harg9.unread X.x7) = X.x7 := readAt_full _ _ _ _ _ (by decide)
    have hv10 : arg10.view.readAt (Elt F) (Rect.unit (s := S1x20) ![0, 0] S1x20.size inb_S1x20_S1x20_0_0).toLoadRect (harg10.unread X.x8) = X.x8 := readAt_full _ _ _ _ _ (by decide)
    have hv12 : arg12.view.readAt (Elt F) (Rect.unit (s := S1x256) ![0, 0] S1x256.size inb_S1x256_S1x256_0_0).toLoadRect (harg12.unread X.x10) = X.x10 := readAt_full _ _ _ _ _ (by decide)
    have hv13 : arg13.view.readAt (Elt F) (Rect.unit (s := S128x128) ![0, 0] S128x128.size inb_S128x128_S128x128_0_0).toLoadRect (harg13.unread X.x11) = X.x11 := readAt_full _ _ _ _ _ (by decide)
    have hw0 : arg11.view.readAt (Elt F) (Rect.unit (s := S1044x256) ![0, 0] S256x256.size inb_S1044x256_S256x256_0_0).toLoadRect (harg11.unread X.x9) = X.w0 := readAt_part _ _ _ _ _ rfl
    have hw1 : arg11.view.readAt (Elt F) (Rect.unit (s := S1044x256) ![256, 0] S256x256.size inb_S1044x256_S256x256_256_0).toLoadRect (harg11.unread X.x9) = X.w1 := readAt_part _ _ _ _ _ rfl
    have hw2 : arg11.view.readAt (Elt F) (Rect.unit (s := S1044x256) ![512, 0] S256x256.size inb_S1044x256_S256x256_512_0).toLoadRect (harg11.unread X.x9) = X.w2 := readAt_part _ _ _ _ _ rfl
    have hw3 : arg11.view.readAt (Elt F) (Rect.unit (s := S1044x256) ![768, 0] S256x256.size inb_S1044x256_S256x256_768_0).toLoadRect (harg11.unread X.x9) = X.w3 := readAt_part _ _ _ _ _ rfl
    have hw4 : arg11.view.readAt (Elt F) (Rect.unit (s := S1044x256) ![1024, 0] S20x256.size inb_S1044x256_S20x256_1024_0).toLoadRect (harg11.unread X.x9) = X.w4 := readAt_part _ _ _ _ _ rfl
    have hs0 : ∀ w : Vec F S8x256 .f32, arg17.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hs1 : ∀ w : Vec F S8x256 .f32, arg18.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hs2 : ∀ w : Vec F S8x256 .f32, arg19.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hs3 : ∀ w : Vec F S8x20 .f32, arg20.view.readCov (Val := Elt F) [⟨Rect.unit (s := S8x20) ![0, 0] S8x20.size inb_S8x20_S8x20_0_0, w⟩] (Rect.unit (s := S8x20) ![0, 0] S8x20.size inb_S8x20_S8x20_0_0).toLoadRect = w := fun w => readAt_full_cons _ _ _ _ _ _ (by decide)
    have hs4 : ∀ w : Vec F S8x256 .f32, arg21.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hjoin : tilesAny (F := F) c (Ring.sl 2 t.val) ⊢ iprop(∃ e : HbBuf (F := F) c scM5, scM5.view.loc (c : Thread nD τ) ↦[scM5.view.setOn (Rect.unit (s := S2x8x788x128) (slabOff (Ring.sl 2 t.val)) S1x8x788x128.size (inb_slab (Ring.sl 2 t.val))).toLoadRect.set]{fullShare} e) := by
      rw [← slabR_eq]; exact slab_join (F := F) c (Ring.sl 2 t.val)
    ihave HSl := hjoin $$ [HB0 HB1 HB2 HB3 HB4 HB5 HB6 HB7]
    · isplitl [HB0]; · iexists _; iexact HB0
      isplitl [HB1]; · iexists _; iexact HB1
      isplitl [HB2]; · iexists _; iexact HB2
      isplitl [HB3]; · iexists _; iexact HB3
      isplitl [HB4]; · iexists _; iexact HB4
      isplitl [HB5]; · iexists _; iexact HB5
      isplitl [HB6]; · iexists _; iexact HB6
      iexists _; iexact HB7
    icases HSl with ⟨%es, HSl⟩
    clear hjoin
    sl_exec (disch := first | sl_exact hc1 | sl_exact hc2 | sl_exact hc3)
    have hsplit : (iprop(∃ L, ⌜L = slabL t X (reset (grid0.coords t) X)⌝ ∗ (scM5.view.loc (c : Thread nD τ) ↦[scM5.view.setOn (Rect.unit (s := S2x8x788x128) (slabOff (Ring.sl 2 t.val)) S1x8x788x128.size (inb_slab (Ring.sl 2 t.val))).toLoadRect.set]{fullShare} (scM5.view.writes (Elt F) es L : HbBuf (F := F) c scM5))) : sProp 𝕄) ⊢ tilesAt c (Ring.sl 2 t.val) (E (Ring.bk 64 t.val)) := by
      rw [← slabR_eq, hE]
      iintro ⟨%L, %hL, H⟩
      obtain rfl := hL
      iapply ((slab_same c t X (reset (grid0.coords t) X) es).trans (slab_split c _ _))
      iexact H
    ihave HT := hsplit $$ [HSl]
    · iexists _; isplitr; swap; iexact HSl; ipureintro; rfl
    clear hsplit
    icases HT with ⟨HT0, HT1, HT2, HT3, HT4, HT5, HT6, HT7⟩
    have hD := storable_dlv (F := F) c v0 E (Ring.bk 64 t.val) (Ring.sl 2 t.val)
    imod (Transfers.batch_alloc' (Lvl := ℕ) countersEmb (c : Thread nD τ) default amt (dlv c v0 E (Ring.bk 64 t.val) (Ring.sl 2 t.val)) (sm := cellR (Ring.sl 2 t.val)) (E := Set.univ)) $$ HF with HN
    clear hD
    sl_exec (disch := first | sl_exact hc1 | sl_exact hc2 | sl_exact hc3)
    sl_step
    iapply Hk
    isplitl [H0]
    · iexists _; isplitr; swap; iexact H0; ipureintro; exact harg2.read_unread _
    isplitl [H1]
    · iexists _; isplitr; swap; iexact H1; ipureintro; exact harg3.read_unread _
    isplitl [H2]
    · iexists _; isplitr; swap; iexact H2; ipureintro; exact harg4.read_unread _
    isplitl [H3]
    · iexists _; isplitr; swap; iexact H3; ipureintro; exact harg5.read_unread _
    isplitl [H4]
    · iexists _; isplitr; swap; iexact H4; ipureintro; exact harg6.read_unread _
    isplitl [H5]
    · iexists _; isplitr; swap; iexact H5; ipureintro; exact harg7.read_unread _
    isplitl [H6]
    · iexists _; isplitr; swap; iexact H6; ipureintro; exact harg8.read_unread _
    isplitl [H7]
    · iexists _; isplitr; swap; iexact H7; ipureintro; exact harg9.read_unread _
    isplitl [H8]
    · iexists _; isplitr; swap; iexact H8; ipureintro; exact harg10.read_unread _
    isplitl [H9]
    · iexists _; isplitr; swap; iexact H9; ipureintro; exact harg11.read_unread _
    isplitl [H10]
    · iexists _; isplitr; swap; iexact H10; ipureintro; exact harg12.read_unread _
    isplitl [H11]
    · iexists _; isplitr; swap; iexact H11; ipureintro; exact harg13.read_unread _
    isplitl [H12]; · iexists _; isplitr; swap; iexact H12; ipureintro; exact read_full_cons _ _ _ _ _ _ (by decide)
    isplitl [H13]; · iexists _; isplitr; swap; iexact H13; ipureintro; exact read_full_cons _ _ _ _ _ _ (by decide)
    isplitl [HS0]; · iexists _; isplitr; swap; iexact HS0; ipureintro; exact read_full_cons _ _ _ _ _ _ (by decide)
    isplitl [HS1]; · iexists _; isplitr; swap; iexact HS1; ipureintro; exact read_full_cons _ _ _ _ _ _ (by decide)
    isplitl [HS2]; · iexists _; isplitr; swap; iexact HS2; ipureintro; exact read_full_cons _ _ _ _ _ _ (by decide)
    isplitl [HS3]; · iexists _; isplitr; swap; iexact HS3; ipureintro; exact read_full_cons _ _ _ _ _ _ (by decide)
    isplitl [HS4]; · iexists _; isplitr; swap; iexact HS4; ipureintro; exact read_full_cons _ _ _ _ _ _ (by decide)
    isplitl [HN]
    · iexact HN
    iexists _; iexact HW

end Cert.KernelIdeal.Enc

end

end
-- ==== Proof.KernelIdeal.RunB.lean ====
module

public import proofs.«01_k».proof.Proof.KernelIdeal.RunKit

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 3000000 in
/-- The second grid point: no copy to wait for yet. -/
theorem runB (c : Dev nD) (t : Fin cfg0.N) (arg2 : Memref sig .tc .vmem S32x8 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x40 .f32) (harg7 : arg7.IsWhole) (arg8 : Memref sig .tc .vmem S1x40 .f32) (harg8 : arg8.IsWhole) (arg9 : Memref sig .tc .vmem S40x20 .f32) (harg9 : arg9.IsWhole) (arg10 : Memref sig .tc .vmem S1x20 .f32) (harg10 : arg10.IsWhole) (arg11 : Memref sig .tc .vmem S1044x256 .f32) (harg11 : arg11.IsWhole) (arg12 : Memref sig .tc .vmem S1x256 .f32) (harg12 : arg12.IsWhole) (arg13 : Memref sig .tc .vmem S128x128 .bf16) (harg13 : arg13.IsWhole) (arg15 : Memref sig .tc .vmem S8x256x128 .i32) (harg15 : arg15.IsWhole) (arg16 : Memref sig .tc .vmem S8x256x128 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x20 .f32) (harg20 : arg20.IsWhole) (arg21 : Memref sig .tc .vmem S8x256 .f32) (harg21 : arg21.IsWhole)
    (hc1 : ¬ k0_cond1 (grid0.coords t) = 1#1) (hc2 : ¬ Scalar.cmpi .ne (Scalar.extui (Scalar.cmpi .eq (BitVec.ofNat 32 ((grid0.coords t) 1).val) 0#32) : BitVec 32) 0#32 = 1#1) (hc3 : ¬ k0_cond3 (grid0.coords t) = 1#1)
    (v0 : HbBuf (F := F) c hbM) (E : Fin 64 → HbBuf (F := F) c scM5) (X : Ins F) (S : St F)
    (hE : E (Ring.bk 64 t.val) = slabVal c t X S) (W : Waits sig Unit) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ (∃ d, owns (c : Thread nD τ) arg15 fullShare d) ∗ (∃ d, owns (c : Thread nD τ) arg16 fullShare d) ∗ owns (c : Thread nD τ) arg17 fullShare S.s0 ∗ owns (c : Thread nD τ) arg18 fullShare S.s1 ∗ owns (c : Thread nD τ) arg19 fullShare S.s2 ∗ owns (c : Thread nD τ) arg20 fullShare S.s3 ∗ owns (c : Thread nD τ) arg21 fullShare S.s4 ∗ (ahead c v0 (Ring.bk 64 t.val) ∗ free c (Ring.sl 2 t.val)) ∗ owes (c : Thread nD τ) 0 W
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ owns (c : Thread nD τ) arg15 fullShare (idx (grid0.coords t) X S) ∗ owns (c : Thread nD τ) arg16 fullShare (act (grid0.coords t) X S) ∗ owns (c : Thread nD τ) arg17 fullShare (next (grid0.coords t) X S).s0 ∗ owns (c : Thread nD τ) arg18 fullShare (next (grid0.coords t) X S).s1 ∗ owns (c : Thread nD τ) arg19 fullShare (next (grid0.coords t) X S).s2 ∗ owns (c : Thread nD τ) arg20 fullShare (next (grid0.coords t) X S).s3 ∗ owns (c : Thread nD τ) arg21 fullShare (next (grid0.coords t) X S).s4 ∗ (infl c v0 E (Ring.sl 2 t.val) (Ring.bk 64 t.val)) ∗ (∃ W1, owes (c : Thread nD τ) 0 W1)) -∗ K ⟨⟩)) ⊢ wp frame (wpE (defs₀ (F := F)) Variants.none c none) Set.univ (cc0_deep_pool_encoder (grid0.coords t) arg2 harg2 arg3 harg3 arg4 harg4 arg5 harg5 arg6 harg6 arg7 harg7 arg8 harg8 arg9 harg9 arg10 harg10 arg11 harg11 arg12 harg12 arg13 harg13 (Memref.whole main_v6_0) (Memref.isWhole_whole _) arg15 harg15 arg16 harg16 arg17 harg17 arg18 harg18 arg19 harg19 arg20 harg20 arg21 harg21 scM5 (Memref.isWhole_whole _) cc0_scratch6) K := by
    simp only [cc0_deep_pool_encoder_eq_skeleton]; unfold cc0_deep_pool_encoder_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%fs4, %hfs4, HS4⟩, ⟨⟨Hp0, Hp1, Hp2, Hp3, Hp4, Hp5, Hp6, Hp7⟩, ⟨HF, ⟨%eb0, HB0⟩, ⟨%eb1, HB1⟩, ⟨%eb2, HB2⟩, ⟨%eb3, HB3⟩, ⟨%eb4, HB4⟩, ⟨%eb5, HB5⟩, ⟨%eb6, HB6⟩, ⟨%eb7, HB7⟩⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11;
    obtain rfl := harg17.eq_unread hfs0; obtain rfl := harg18.eq_unread hfs1; obtain rfl := harg19.eq_unread hfs2; obtain rfl := harg20.eq_unread hfs3; obtain rfl := harg21.eq_unread hfs4;
    have hv2 : arg2.view.readAt (Elt F) (Rect.unit (s := S32x8) ![0, 0] S32x8.size inb_S32x8_S32x8_0_0).toLoadRect (harg2.unread X.x0) = X.x0 := readAt_full _ _ _ _ _ (by decide)
    have hv3 : arg3.view.readAt (Elt F) (Rect.unit (s := S8x128x256) ![0, 0, 0] S8x128x256.size inb_S8x128x256_S8x128x256_0_0_0).toLoadRect (harg3.unread X.x1) = X.x1 := readAt_full _ _ _ _ _ (by decide)
    have hv4 : arg4.view.readAt (Elt F) (Rect.unit (s := S8x128x256) ![0, 0, 0] S8x128x256.size inb_S8x128x256_S8x128x256_0_0_0).toLoadRect (harg4.unread X.x2) = X.x2 := readAt_full _ _ _ _ _ (by decide)
    have hv5 : arg5.view.readAt (Elt F) (Rect.unit (s := S8x128x256) ![0, 0, 0] S8x128x256.size inb_S8x128x256_S8x128x256_0_0_0).toLoadRect (harg5.unread X.x3) = X.x3 := readAt_full _ _ _ _ _ (by decide)
    have hv6 : arg6.view.readAt (Elt F) (Rect.unit (s := S8x128x256) ![0, 0, 0] S8x128x256.size inb_S8x128x256_S8x128x256_0_0_0).toLoadRect (harg6.unread X.x4) = X.x4 := readAt_full _ _ _ _ _ (by decide)
    have hv7 : arg7.view.readAt (Elt F) (Rect.unit (s := S8x40) ![0, 0] S8x40.size inb_S8x40_S8x40_0_0).toLoadRect (harg7.unread X.x5) = X.x5 := readAt_full _ _ _ _ _ (by decide)
    have hv8 : arg8.view.readAt (Elt F) (Rect.unit (s := S1x40) ![0, 0] S1x40.size inb_S1x40_S1x40_0_0).toLoadRect (harg8.unread X.x6) = X.x6 := readAt_full _ _ _ _ _ (by decide)
    have hv9 : arg9.view.readAt (Elt F) (Rect.unit (s := S40x20) ![0, 0] S40x20.size inb_S40x20_S40x20_0_0).toLoadRect (harg9.unread X.x7) = X.x7 := readAt_full _ _ _ _ _ (by decide)
    have hv10 : arg10.view.readAt (Elt F) (Rect.unit (s := S1x20) ![0, 0] S1x20.size inb_S1x20_S1x20_0_0).toLoadRect (harg10.unread X.x8) = X.x8 := readAt_full _ _ _ _ _ (by decide)
    have hv12 : arg12.view.readAt (Elt F) (Rect.unit (s := S1x256) ![0, 0] S1x256.size inb_S1x256_S1x256_0_0).toLoadRect (harg12.unread X.x10) = X.x10 := readAt_full _ _ _ _ _ (by decide)
    have hv13 : arg13.view.readAt (Elt F) (Rect.unit (s := S128x128) ![0, 0] S128x128.size inb_S128x128_S128x128_0_0).toLoadRect (harg13.unread X.x11) = X.x11 := readAt_full _ _ _ _ _ (by decide)
    have hw0 : arg11.view.readAt (Elt F) (Rect.unit (s := S1044x256) ![0, 0] S256x256.size inb_S1044x256_S256x256_0_0).toLoadRect (harg11.unread X.x9) = X.w0 := readAt_part _ _ _ _ _ rfl
    have hw1 : arg11.view.readAt (Elt F) (Rect.unit (s := S1044x256) ![256, 0] S256x256.size inb_S1044x256_S256x256_256_0).toLoadRect (harg11.unread X.x9) = X.w1 := readAt_part _ _ _ _ _ rfl
    have hw2 : arg11.view.readAt (Elt F) (Rect.unit (s := S1044x256) ![512, 0] S256x256.size inb_S1044x256_S256x256_512_0).toLoadRect (harg11.unread X.x9) = X.w2 := readAt_part _ _ _ _ _ rfl
    have hw3 : arg11.view.readAt (Elt F) (Rect.unit (s := S1044x256) ![768, 0] S256x256.size inb_S1044x256_S256x256_768_0).toLoadRect (harg11.unread X.x9) = X.w3 := readAt_part _ _ _ _ _ rfl
    have hw4 : arg11.view.readAt (Elt F) (Rect.unit (s := S1044x256) ![1024, 0] S20x256.size inb_S1044x256_S20x256_1024_0).toLoadRect (harg11.unread X.x9) = X.w4 := readAt_part _ _ _ _ _ rfl
    have hs0 : arg17.view.readAt (Elt F) (Rect.unit (s := S8x256) ![0, 0] S8x256.size inb_S8x256_S8x256_0_0).toLoadRect (harg17.unread S.s0) = S.s0 := readAt_full _ _ _ _ _ (by decide)
    have hs1 : arg18.view.readAt (Elt F) (Rect.unit (s := S8x256) ![0, 0] S8x256.size inb_S8x256_S8x256_0_0).toLoadRect (harg18.unread S.s1) = S.s1 := readAt_full _ _ _ _ _ (by decide)
    have hs2 : arg19.view.readAt (Elt F) (Rect.unit (s := S8x256) ![0, 0] S8x256.size inb_S8x256_S8x256_0_0).toLoadRect (harg19.unread S.s2) = S.s2 := readAt_full _ _ _ _ _ (by decide)
    have hs3 : arg20.view.readAt (Elt F) (Rect.unit (s := S8x20) ![0, 0] S8x20.size inb_S8x20_S8x20_0_0).toLoadRect (harg20.unread S.s3) = S.s3 := readAt_full _ _ _ _ _ (by decide)
    have hs4 : arg21.view.readAt (Elt F) (Rect.unit (s := S8x256) ![0, 0] S8x256.size inb_S8x256_S8x256_0_0).toLoadRect (harg21.unread S.s4) = S.s4 := readAt_full _ _ _ _ _ (by decide)
    have hjoin : tilesAny (F := F) c (Ring.sl 2 t.val) ⊢ iprop(∃ e : HbBuf (F := F) c scM5, scM5.view.loc (c : Thread nD τ) ↦[scM5.view.setOn (Rect.unit (s := S2x8x788x128) (slabOff (Ring.sl 2 t.val)) S1x8x788x128.size (inb_slab (Ring.sl 2 t.val))).toLoadRect.set]{fullShare} e) := by
      rw [← slabR_eq]; exact slab_join (F := F) c (Ring.sl 2 t.val)
    ihave HSl := hjoin $$ [HB0 HB1 HB2 HB3 HB4 HB5 HB6 HB7]
    · isplitl [HB0]; · iexists _; iexact HB0
      isplitl [HB1]; · iexists _; iexact HB1
      isplitl [HB2]; · iexists _; iexact HB2
      isplitl [HB3]; · iexists _; iexact HB3
      isplitl [HB4]; · iexists _; iexact HB4
      isplitl [HB5]; · iexists _; iexact HB5
      isplitl [HB6]; · iexists _; iexact HB6
      iexists _; iexact HB7
    icases HSl with ⟨%es, HSl⟩
    clear hjoin
    sl_exec (disch := first | sl_exact hc1 | sl_exact hc2 | sl_exact hc3)
    have hsplit : (iprop(∃ L, ⌜L = slabL t X S⌝ ∗ (scM5.view.loc (c : Thread nD τ) ↦[scM5.view.setOn (Rect.unit (s := S2x8x788x128) (slabOff (Ring.sl 2 t.val)) S1x8x788x128.size (inb_slab (Ring.sl 2 t.val))).toLoadRect.set]{fullShare} (scM5.view.writes (Elt F) es L : HbBuf (F := F) c scM5))) : sProp 𝕄) ⊢ tilesAt c (Ring.sl 2 t.val) (E (Ring.bk 64 t.val)) := by
      rw [← slabR_eq, hE]
      iintro ⟨%L, %hL, H⟩
      obtain rfl := hL
      iapply ((slab_same c t X S es).trans (slab_split c _ _))
      iexact H
    ihave HT := hsplit $$ [HSl]
    · iexists _; isplitr; swap; iexact HSl; ipureintro; rfl
    clear hsplit
    icases HT with ⟨HT0, HT1, HT2, HT3, HT4, HT5, HT6, HT7⟩
    have hD := storable_dlv (F := F) c v0 E (Ring.bk 64 t.val) (Ring.sl 2 t.val)
    imod (Transfers.batch_alloc' (Lvl := ℕ) countersEmb (c : Thread nD τ) default amt (dlv c v0 E (Ring.bk 64 t.val) (Ring.sl 2 t.val)) (sm := cellR (Ring.sl 2 t.val)) (E := Set.univ)) $$ HF with HN
    clear hD
    sl_exec (disch := first | sl_exact hc1 | sl_exact hc2 | sl_exact hc3)
    sl_step
    iapply Hk
    isplitl [H0]
    · iexists _; isplitr; swap; iexact H0; ipureintro; exact harg2.read_unread _
    isplitl [H1]
    · iexists _; isplitr; swap; iexact H1; ipureintro; exact harg3.read_unread _
    isplitl [H2]
    · iexists _; isplitr; swap; iexact H2; ipureintro; exact harg4.read_unread _
    isplitl [H3]
    · iexists _; isplitr; swap; iexact H3; ipureintro; exact harg5.read_unread _
    isplitl [H4]
    · iexists _; isplitr; swap; iexact H4; ipureintro; exact harg6.read_unread _
    isplitl [H5]
    · iexists _; isplitr; swap; iexact H5; ipureintro; exact harg7.read_unread _
    isplitl [H6]
    · iexists _; isplitr; swap; iexact H6; ipureintro; exact harg8.read_unread _
    isplitl [H7]
    · iexists _; isplitr; swap; iexact H7; ipureintro; exact harg9.read_unread _
    isplitl [H8]
    · iexists _; isplitr; swap; iexact H8; ipureintro; exact harg10.read_unread _
    isplitl [H9]
    · iexists _; isplitr; swap; iexact H9; ipureintro; exact harg11.read_unread _
    isplitl [H10]
    · iexists _; isplitr; swap; iexact H10; ipureintro; exact harg12.read_unread _
    isplitl [H11]
    · iexists _; isplitr; swap; iexact H11; ipureintro; exact harg13.read_unread _
    isplitl [H12]; · iexists _; isplitr; swap; iexact H12; ipureintro; exact read_full_cons _ _ _ _ _ _ (by decide)
    isplitl [H13]; · iexists _; isplitr; swap; iexact H13; ipureintro; exact read_full_cons _ _ _ _ _ _ (by decide)
    isplitl [HS0]; · iexists _; isplitr; swap; iexact HS0; ipureintro; exact read_full_cons _ _ _ _ _ _ (by decide)
    isplitl [HS1]; · iexists _; isplitr; swap; iexact HS1; ipureintro; exact read_full_cons _ _ _ _ _ _ (by decide)
    isplitl [HS2]; · iexists _; isplitr; swap; iexact HS2; ipureintro; exact read_full_cons _ _ _ _ _ _ (by decide)
    isplitl [HS3]
    · iexists _; isplitr; swap; iexact HS3; ipureintro; exact harg20.read_unread _
    isplitl [HS4]
    · iexists _; isplitr; swap; iexact HS4; ipureintro; exact harg21.read_unread _
    isplitl [HN]
    · iexact HN
    iexists _; iexact HW

end Cert.KernelIdeal.Enc

end

end
-- ==== Proof.KernelIdeal.RunC.lean ====
module

public import proofs.«01_k».proof.Proof.KernelIdeal.RunKit

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 3000000 in
/-- A grid point in the middle: the slot's copies of two steps ago are waited for, the block is computed, and its copies are issued. -/
theorem runC (c : Dev nD) (t : Fin cfg0.N) (arg2 : Memref sig .tc .vmem S32x8 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x40 .f32) (harg7 : arg7.IsWhole) (arg8 : Memref sig .tc .vmem S1x40 .f32) (harg8 : arg8.IsWhole) (arg9 : Memref sig .tc .vmem S40x20 .f32) (harg9 : arg9.IsWhole) (arg10 : Memref sig .tc .vmem S1x20 .f32) (harg10 : arg10.IsWhole) (arg11 : Memref sig .tc .vmem S1044x256 .f32) (harg11 : arg11.IsWhole) (arg12 : Memref sig .tc .vmem S1x256 .f32) (harg12 : arg12.IsWhole) (arg13 : Memref sig .tc .vmem S128x128 .bf16) (harg13 : arg13.IsWhole) (arg15 : Memref sig .tc .vmem S8x256x128 .i32) (harg15 : arg15.IsWhole) (arg16 : Memref sig .tc .vmem S8x256x128 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x20 .f32) (harg20 : arg20.IsWhole) (arg21 : Memref sig .tc .vmem S8x256 .f32) (harg21 : arg21.IsWhole)
    (hc1 : k0_cond1 (grid0.coords t) = 1#1) (hc2 : ¬ Scalar.cmpi .ne (Scalar.extui (Scalar.cmpi .eq (BitVec.ofNat 32 ((grid0.coords t) 1).val) 0#32) : BitVec 32) 0#32 = 1#1) (hc3 : ¬ k0_cond3 (grid0.coords t) = 1#1)
    (v0 : HbBuf (F := F) c hbM) (E : Fin 64 → HbBuf (F := F) c scM5) (X : Ins F) (S : St F)
    (hE : E (Ring.bk 64 t.val) = slabVal c t X S) (W : Waits sig Unit) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ (∃ d, owns (c : Thread nD τ) arg15 fullShare d) ∗ (∃ d, owns (c : Thread nD τ) arg16 fullShare d) ∗ owns (c : Thread nD τ) arg17 fullShare S.s0 ∗ owns (c : Thread nD τ) arg18 fullShare S.s1 ∗ owns (c : Thread nD τ) arg19 fullShare S.s2 ∗ owns (c : Thread nD τ) arg20 fullShare S.s3 ∗ owns (c : Thread nD τ) arg21 fullShare S.s4 ∗ (ahead c v0 (Ring.bk 64 t.val) ∗ infl c v0 E (Ring.sl 2 t.val) (Ring.bk 64 (t.val - 2))) ∗ owes (c : Thread nD τ) 0 W
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ owns (c : Thread nD τ) arg15 fullShare (idx (grid0.coords t) X S) ∗ owns (c : Thread nD τ) arg16 fullShare (act (grid0.coords t) X S) ∗ owns (c : Thread nD τ) arg17 fullShare (next (grid0.coords t) X S).s0 ∗ owns (c : Thread nD τ) arg18 fullShare (next (grid0.coords t) X S).s1 ∗ owns (c : Thread nD τ) arg19 fullShare (next (grid0.coords t) X S).s2 ∗ owns (c : Thread nD τ) arg20 fullShare (next (grid0.coords t) X S).s3 ∗ owns (c : Thread nD τ) arg21 fullShare (next (grid0.coords t) X S).s4 ∗ (piecesAt c v0 E (Ring.sl 2 t.val) (Ring.bk 64 (t.val - 2)) ∗ infl c v0 E (Ring.sl 2 t.val) (Ring.bk 64 t.val)) ∗ (∃ W1, owes (c : Thread nD τ) 0 W1)) -∗ K ⟨⟩)) ⊢ wp frame (wpE (defs₀ (F := F)) Variants.none c none) Set.univ (cc0_deep_pool_encoder (grid0.coords t) arg2 harg2 arg3 harg3 arg4 harg4 arg5 harg5 arg6 harg6 arg7 harg7 arg8 harg8 arg9 harg9 arg10 harg10 arg11 harg11 arg12 harg12 arg13 harg13 (Memref.whole main_v6_0) (Memref.isWhole_whole _) arg15 harg15 arg16 harg16 arg17 harg17 arg18 harg18 arg19 harg19 arg20 harg20 arg21 harg21 scM5 (Memref.isWhole_whole _) cc0_scratch6) K := by
    simp only [cc0_deep_pool_encoder_eq_skeleton]; unfold cc0_deep_pool_encoder_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%fs4, %hfs4, HS4⟩, ⟨⟨Hp0, Hp1, Hp2, Hp3, Hp4, Hp5, Hp6, Hp7⟩, HF⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11;
    obtain rfl := harg17.eq_unread hfs0; obtain rfl := harg18.eq_unread hfs1; obtain rfl := harg19.eq_unread hfs2; obtain rfl := harg20.eq_unread hfs3; obtain rfl := harg21.eq_unread hfs4;
    have hv2 : arg2.view.readAt (Elt F) (Rect.unit (s := S32x8) ![0, 0] S32x8.size inb_S32x8_S32x8_0_0).toLoadRect (harg2.unread X.x0) = X.x0 := readAt_full _ _ _ _ _ (by decide)
    have hv3 : arg3.view.readAt (Elt F) (Rect.unit (s := S8x128x256) ![0, 0, 0] S8x128x256.size inb_S8x128x256_S8x128x256_0_0_0).toLoadRect (harg3.unread X.x1) = X.x1 := readAt_full _ _ _ _ _ (by decide)
    have hv4 : arg4.view.readAt (Elt F) (Rect.unit (s := S8x128x256) ![0, 0, 0] S8x128x256.size inb_S8x128x256_S8x128x256_0_0_0).toLoadRect (harg4.unread X.x2) = X.x2 := readAt_full _ _ _ _ _ (by decide)
    have hv5 : arg5.view.readAt (Elt F) (Rect.unit (s := S8x128x256) ![0, 0, 0] S8x128x256.size inb_S8x128x256_S8x128x256_0_0_0).toLoadRect (harg5.unread X.x3) = X.x3 := readAt_full _ _ _ _ _ (by decide)
    have hv6 : arg6.view.readAt (Elt F) (Rect.unit (s := S8x128x256) ![0, 0, 0] S8x128x256.size inb_S8x128x256_S8x128x256_0_0_0).toLoadRect (harg6.unread X.x4) = X.x4 := readAt_full _ _ _ _ _ (by decide)
    have hv7 : arg7.view.readAt (Elt F) (Rect.unit (s := S8x40) ![0, 0] S8x40.size inb_S8x40_S8x40_0_0).toLoadRect (harg7.unread X.x5) = X.x5 := readAt_full _ _ _ _ _ (by decide)
    have hv8 : arg8.view.readAt (Elt F) (Rect.unit (s := S1x40) ![0, 0] S1x40.size inb_S1x40_S1x40_0_0).toLoadRect (harg8.unread X.x6) = X.x6 := readAt_full _ _ _ _ _ (by decide)
    have hv9 : arg9.view.readAt (Elt F) (Rect.unit (s := S40x20) ![0, 0] S40x20.size inb_S40x20_S40x20_0_0).toLoadRect (harg9.unread X.x7) = X.x7 := readAt_full _ _ _ _ _ (by decide)
    have hv10 : arg10.view.readAt (Elt F) (Rect.unit (s := S1x20) ![0, 0] S1x20.size inb_S1x20_S1x20_0_0).toLoadRect (harg10.unread X.x8) = X.x8 := readAt_full _ _ _ _ _ (by decide)
    have hv12 : arg12.view.readAt (Elt F) (Rect.unit (s := S1x256) ![0, 0] S1x256.size inb_S1x256_S1x256_0_0).toLoadRect (harg12.unread X.x10) = X.x10 := readAt_full _ _ _ _ _ (by decide)
    have hv13 : arg13.view.readAt (Elt F) (Rect.unit (s := S128x128) ![0, 0] S128x128.size inb_S128x128_S128x128_0_0).toLoadRect (harg13.unread X.x11) = X.x11 := readAt_full _ _ _ _ _ (by decide)
    have hw0 : arg11.view.readAt (Elt F) (Rect.unit (s := S1044x256) ![0, 0] S256x256.size inb_S1044x256_S256x256_0_0).toLoadRect (harg11.unread X.x9) = X.w0 := readAt_part _ _ _ _ _ rfl
    have hw1 : arg11.view.readAt (Elt F) (Rect.unit (s := S1044x256) ![256, 0] S256x256.size inb_S1044x256_S256x256_256_0).toLoadRect (harg11.unread X.x9) = X.w1 := readAt_part _ _ _ _ _ rfl
    have hw2 : arg11.view.readAt (Elt F) (Rect.unit (s := S1044x256) ![512, 0] S256x256.size inb_S1044x256_S256x256_512_0).toLoadRect (harg11.unread X.x9) = X.w2 := readAt_part _ _ _ _ _ rfl
    have hw3 : arg11.view.readAt (Elt F) (Rect.unit (s := S1044x256) ![768, 0] S256x256.size inb_S1044x256_S256x256_768_0).toLoadRect (harg11.unread X.x9) = X.w3 := readAt_part _ _ _ _ _ rfl
    have hw4 : arg11.view.readAt (Elt F) (Rect.unit (s := S1044x256) ![1024, 0] S20x256.size inb_S1044x256_S20x256_1024_0).toLoadRect (harg11.unread X.x9) = X.w4 := readAt_part _ _ _ _ _ rfl
    have hs0 : arg17.view.readAt (Elt F) (Rect.unit (s := S8x256) ![0, 0] S8x256.size inb_S8x256_S8x256_0_0).toLoadRect (harg17.unread S.s0) = S.s0 := readAt_full _ _ _ _ _ (by decide)
    have hs1 : arg18.view.readAt (Elt F) (Rect.unit (s := S8x256) ![0, 0] S8x256.size inb_S8x256_S8x256_0_0).toLoadRect (harg18.unread S.s1) = S.s1 := readAt_full _ _ _ _ _ (by decide)
    have hs2 : arg19.view.readAt (Elt F) (Rect.unit (s := S8x256) ![0, 0] S8x256.size inb_S8x256_S8x256_0_0).toLoadRect (harg19.unread S.s2) = S.s2 := readAt_full _ _ _ _ _ (by decide)
    have hs3 : arg20.view.readAt (Elt F) (Rect.unit (s := S8x20) ![0, 0] S8x20.size inb_S8x20_S8x20_0_0).toLoadRect (harg20.unread S.s3) = S.s3 := readAt_full _ _ _ _ _ (by decide)
    have hs4 : arg21.view.readAt (Elt F) (Rect.unit (s := S8x256) ![0, 0] S8x256.size inb_S8x256_S8x256_0_0).toLoadRect (harg21.unread S.s4) = S.s4 := readAt_full _ _ _ _ _ (by decide)
    sl_exec (disch := first | sl_exact hc1 | sl_exact hc2 | sl_exact hc3)
    have hjoin : tilesAny (F := F) c (Ring.sl 2 t.val) ⊢ iprop(∃ e : HbBuf (F := F) c scM5, scM5.view.loc (c : Thread nD τ) ↦[scM5.view.setOn (Rect.unit (s := S2x8x788x128) (slabOff (Ring.sl 2 t.val)) S1x8x788x128.size (inb_slab (Ring.sl 2 t.val))).toLoadRect.set]{fullShare} e) := by
      rw [← slabR_eq]; exact slab_join (F := F) c (Ring.sl 2 t.val)
    ihave HSl := hjoin $$ [HF_src0 HF_src1 HF_src2 HF_src3 HF_src4 HF_src5 HF_src6 HF_src7]
    · isplitl [HF_src0]; · iexists _; iexact HF_src0
      isplitl [HF_src1]; · iexists _; iexact HF_src1
      isplitl [HF_src2]; · iexists _; iexact HF_src2
      isplitl [HF_src3]; · iexists _; iexact HF_src3
      isplitl [HF_src4]; · iexists _; iexact HF_src4
      isplitl [HF_src5]; · iexists _; iexact HF_src5
      isplitl [HF_src6]; · iexists _; iexact HF_src6
      iexists _; iexact HF_src7
    icases HSl with ⟨%es, HSl⟩
    clear hjoin
    sl_exec (disch := first | sl_exact hc1 | sl_exact hc2 | sl_exact hc3)
    have hsplit : (iprop(∃ L, ⌜L = slabL t X S⌝ ∗ (scM5.view.loc (c : Thread nD τ) ↦[scM5.view.setOn (Rect.unit (s := S2x8x788x128) (slabOff (Ring.sl 2 t.val)) S1x8x788x128.size (inb_slab (Ring.sl 2 t.val))).toLoadRect.set]{fullShare} (scM5.view.writes (Elt F) es L : HbBuf (F := F) c scM5))) : sProp 𝕄) ⊢ tilesAt c (Ring.sl 2 t.val) (E (Ring.bk 64 t.val)) := by
      rw [← slabR_eq, hE]
      iintro ⟨%L, %hL, H⟩
      obtain rfl := hL
      iapply ((slab_same c t X S es).trans (slab_split c _ _))
      iexact H
    ihave HT := hsplit $$ [HSl]
    · iexists _; isplitr; swap; iexact HSl; ipureintro; rfl
    clear hsplit
    icases HT with ⟨HT0, HT1, HT2, HT3, HT4, HT5, HT6, HT7⟩
    have hD := storable_dlv (F := F) c v0 E (Ring.bk 64 t.val) (Ring.sl 2 t.val)
    imod (Transfers.batch_alloc' (Lvl := ℕ) countersEmb (c : Thread nD τ) default amt (dlv c v0 E (Ring.bk 64 t.val) (Ring.sl 2 t.val)) (sm := cellR (Ring.sl 2 t.val)) (E := Set.univ)) $$ HF with HN
    clear hD
    sl_exec (disch := first | sl_exact hc1 | sl_exact hc2 | sl_exact hc3)
    sl_step
    iapply Hk
    isplitl [H0]
    · iexists _; isplitr; swap; iexact H0; ipureintro; exact harg2.read_unread _
    isplitl [H1]
    · iexists _; isplitr; swap; iexact H1; ipureintro; exact harg3.read_unread _
    isplitl [H2]
    · iexists _; isplitr; swap; iexact H2; ipureintro; exact harg4.read_unread _
    isplitl [H3]
    · iexists _; isplitr; swap; iexact H3; ipureintro; exact harg5.read_unread _
    isplitl [H4]
    · iexists _; isplitr; swap; iexact H4; ipureintro; exact harg6.read_unread _
    isplitl [H5]
    · iexists _; isplitr; swap; iexact H5; ipureintro; exact harg7.read_unread _
    isplitl [H6]
    · iexists _; isplitr; swap; iexact H6; ipureintro; exact harg8.read_unread _
    isplitl [H7]
    · iexists _; isplitr; swap; iexact H7; ipureintro; exact harg9.read_unread _
    isplitl [H8]
    · iexists _; isplitr; swap; iexact H8; ipureintro; exact harg10.read_unread _
    isplitl [H9]
    · iexists _; isplitr; swap; iexact H9; ipureintro; exact harg11.read_unread _
    isplitl [H10]
    · iexists _; isplitr; swap; iexact H10; ipureintro; exact harg12.read_unread _
    isplitl [H11]
    · iexists _; isplitr; swap; iexact H11; ipureintro; exact harg13.read_unread _
    isplitl [H12]; · iexists _; isplitr; swap; iexact H12; ipureintro; exact read_full_cons _ _ _ _ _ _ (by decide)
    isplitl [H13]; · iexists _; isplitr; swap; iexact H13; ipureintro; exact read_full_cons _ _ _ _ _ _ (by decide)
    isplitl [HS0]; · iexists _; isplitr; swap; iexact HS0; ipureintro; exact read_full_cons _ _ _ _ _ _ (by decide)
    isplitl [HS1]; · iexists _; isplitr; swap; iexact HS1; ipureintro; exact read_full_cons _ _ _ _ _ _ (by decide)
    isplitl [HS2]; · iexists _; isplitr; swap; iexact HS2; ipureintro; exact read_full_cons _ _ _ _ _ _ (by decide)
    isplitl [HS3]
    · iexists _; isplitr; swap; iexact HS3; ipureintro; exact harg20.read_unread _
    isplitl [HS4]
    · iexists _; isplitr; swap; iexact HS4; ipureintro; exact harg21.read_unread _
    isplitr [HW]
    · isplitl [HF_dst0 HF_dst1 HF_dst2 HF_dst3 HF_dst4 HF_dst5 HF_dst6 HF_dst7]
      · isplitl [HF_dst0]; · iexact HF_dst0
        isplitl [HF_dst1]; · iexact HF_dst1
        isplitl [HF_dst2]; · iexact HF_dst2
        isplitl [HF_dst3]; · iexact HF_dst3
        isplitl [HF_dst4]; · iexact HF_dst4
        isplitl [HF_dst5]; · iexact HF_dst5
        isplitl [HF_dst6]; · iexact HF_dst6
        iexact HF_dst7
      iexact HN
    iexists _; iexact HW

end Cert.KernelIdeal.Enc

end

end
-- ==== Proof.KernelIdeal.RunD.lean ====
module

public import proofs.«01_k».proof.Proof.KernelIdeal.RunKit

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 3000000 in
/-- The first time block of a later block of subjects: as in the middle, but the carried state starts anew. -/
theorem runD (c : Dev nD) (t : Fin cfg0.N) (arg2 : Memref sig .tc .vmem S32x8 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x40 .f32) (harg7 : arg7.IsWhole) (arg8 : Memref sig .tc .vmem S1x40 .f32) (harg8 : arg8.IsWhole) (arg9 : Memref sig .tc .vmem S40x20 .f32) (harg9 : arg9.IsWhole) (arg10 : Memref sig .tc .vmem S1x20 .f32) (harg10 : arg10.IsWhole) (arg11 : Memref sig .tc .vmem S1044x256 .f32) (harg11 : arg11.IsWhole) (arg12 : Memref sig .tc .vmem S1x256 .f32) (harg12 : arg12.IsWhole) (arg13 : Memref sig .tc .vmem S128x128 .bf16) (harg13 : arg13.IsWhole) (arg15 : Memref sig .tc .vmem S8x256x128 .i32) (harg15 : arg15.IsWhole) (arg16 : Memref sig .tc .vmem S8x256x128 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x20 .f32) (harg20 : arg20.IsWhole) (arg21 : Memref sig .tc .vmem S8x256 .f32) (harg21 : arg21.IsWhole)
    (hc1 : k0_cond1 (grid0.coords t) = 1#1) (hc2 : Scalar.cmpi .ne (Scalar.extui (Scalar.cmpi .eq (BitVec.ofNat 32 ((grid0.coords t) 1).val) 0#32) : BitVec 32) 0#32 = 1#1) (hc3 : ¬ k0_cond3 (grid0.coords t) = 1#1)
    (v0 : HbBuf (F := F) c hbM) (E : Fin 64 → HbBuf (F := F) c scM5) (X : Ins F)
    (hE : E (Ring.bk 64 t.val) = slabVal c t X (reset (grid0.coords t) X)) (W : Waits sig Unit) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (ahead c v0 (Ring.bk 64 t.val) ∗ infl c v0 E (Ring.sl 2 t.val) (Ring.bk 64 (t.val - 2))) ∗ owes (c : Thread nD τ) 0 W
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ owns (c : Thread nD τ) arg15 fullShare (idx (grid0.coords t) X (reset (grid0.coords t) X)) ∗ owns (c : Thread nD τ) arg16 fullShare (act (grid0.coords t) X (reset (grid0.coords t) X)) ∗ owns (c : Thread nD τ) arg17 fullShare (next (grid0.coords t) X (reset (grid0.coords t) X)).s0 ∗ owns (c : Thread nD τ) arg18 fullShare (next (grid0.coords t) X (reset (grid0.coords t) X)).s1 ∗ owns (c : Thread nD τ) arg19 fullShare (next (grid0.coords t) X (reset (grid0.coords t) X)).s2 ∗ owns (c : Thread nD τ) arg20 fullShare (next (grid0.coords t) X (reset (grid0.coords t) X)).s3 ∗ owns (c : Thread nD τ) arg21 fullShare (next (grid0.coords t) X (reset (grid0.coords t) X)).s4 ∗ (piecesAt c v0 E (Ring.sl 2 t.val) (Ring.bk 64 (t.val - 2)) ∗ infl c v0 E (Ring.sl 2 t.val) (Ring.bk 64 t.val)) ∗ (∃ W1, owes (c : Thread nD τ) 0 W1)) -∗ K ⟨⟩)) ⊢ wp frame (wpE (defs₀ (F := F)) Variants.none c none) Set.univ (cc0_deep_pool_encoder (grid0.coords t) arg2 harg2 arg3 harg3 arg4 harg4 arg5 harg5 arg6 harg6 arg7 harg7 arg8 harg8 arg9 harg9 arg10 harg10 arg11 harg11 arg12 harg12 arg13 harg13 (Memref.whole main_v6_0) (Memref.isWhole_whole _) arg15 harg15 arg16 harg16 arg17 harg17 arg18 harg18 arg19 harg19 arg20 harg20 arg21 harg21 scM5 (Memref.isWhole_whole _) cc0_scratch6) K := by
    simp only [cc0_deep_pool_encoder_eq_skeleton]; unfold cc0_deep_pool_encoder_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨⟨Hp0, Hp1, Hp2, Hp3, Hp4, Hp5, Hp6, Hp7⟩, HF⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11;
    have hv2 : arg2.view.readAt (Elt F) (Rect.unit (s := S32x8) ![0, 0] S32x8.size inb_S32x8_S32x8_0_0).toLoadRect (harg2.unread X.x0) = X.x0 := readAt_full _ _ _ _ _ (by decide)
    have hv3 : arg3.view.readAt (Elt F) (Rect.unit (s := S8x128x256) ![0, 0, 0] S8x128x256.size inb_S8x128x256_S8x128x256_0_0_0).toLoadRect (harg3.unread X.x1) = X.x1 := readAt_full _ _ _ _ _ (by decide)
    have hv4 : arg4.view.readAt (Elt F) (Rect.unit (s := S8x128x256) ![0, 0, 0] S8x128x256.size inb_S8x128x256_S8x128x256_0_0_0).toLoadRect (harg4.unread X.x2) = X.x2 := readAt_full _ _ _ _ _ (by decide)
    have hv5 : arg5.view.readAt (Elt F) (Rect.unit (s := S8x128x256) ![0, 0, 0] S8x128x256.size inb_S8x128x256_S8x128x256_0_0_0).toLoadRect (harg5.unread X.x3) = X.x3 := readAt_full _ _ _ _ _ (by decide)
    have hv6 : arg6.view.readAt (Elt F) (Rect.unit (s := S8x128x256) ![0, 0, 0] S8x128x256.size inb_S8x128x256_S8x128x256_0_0_0).toLoadRect (harg6.unread X.x4) = X.x4 := readAt_full _ _ _ _ _ (by decide)
    have hv7 : arg7.view.readAt (Elt F) (Rect.unit (s := S8x40) ![0, 0] S8x40.size inb_S8x40_S8x40_0_0).toLoadRect (harg7.unread X.x5) = X.x5 := readAt_full _ _ _ _ _ (by decide)
    have hv8 : arg8.view.readAt (Elt F) (Rect.unit (s := S1x40) ![0, 0] S1x40.size inb_S1x40_S1x40_0_0).toLoadRect (harg8.unread X.x6) = X.x6 := readAt_full _ _ _ _ _ (by decide)
    have hv9 : arg9.view.readAt (Elt F) (Rect.unit (s := S40x20) ![0, 0] S40x20.size inb_S40x20_S40x20_0_0).toLoadRect (harg9.unread X.x7) = X.x7 := readAt_full _ _ _ _ _ (by decide)
    have hv10 : arg10.view.readAt (Elt F) (Rect.unit (s := S1x20) ![0, 0] S1x20.size inb_S1x20_S1x20_0_0).toLoadRect (harg10.unread X.x8) = X.x8 := readAt_full _ _ _ _ _ (by decide)
    have hv12 : arg12.view.readAt (Elt F) (Rect.unit (s := S1x256) ![0, 0] S1x256.size inb_S1x256_S1x256_0_0).toLoadRect (harg12.unread X.x10) = X.x10 := readAt_full _ _ _ _ _ (by decide)
    have hv13 : arg13.view.readAt (Elt F) (Rect.unit (s := S128x128) ![0, 0] S128x128.size inb_S128x128_S128x128_0_0).toLoadRect (harg13.unread X.x11) = X.x11 := readAt_full _ _ _ _ _ (by decide)
    have hw0 : arg11.view.readAt (Elt F) (Rect.unit (s := S1044x256) ![0, 0] S256x256.size inb_S1044x256_S256x256_0_0).toLoadRect (harg11.unread X.x9) = X.w0 := readAt_part _ _ _ _ _ rfl
    have hw1 : arg11.view.readAt (Elt F) (Rect.unit (s := S1044x256) ![256, 0] S256x256.size inb_S1044x256_S256x256_256_0).toLoadRect (harg11.unread X.x9) = X.w1 := readAt_part _ _ _ _ _ rfl
    have hw2 : arg11.view.readAt (Elt F) (Rect.unit (s := S1044x256) ![512, 0] S256x256.size inb_S1044x256_S256x256_512_0).toLoadRect (harg11.unread X.x9) = X.w2 := readAt_part _ _ _ _ _ rfl
    have hw3 : arg11.view.readAt (Elt F) (Rect.unit (s := S1044x256) ![768, 0] S256x256.size inb_S1044x256_S256x256_768_0).toLoadRect (harg11.unread X.x9) = X.w3 := readAt_part _ _ _ _ _ rfl
    have hw4 : arg11.view.readAt (Elt F) (Rect.unit (s := S1044x256) ![1024, 0] S20x256.size inb_S1044x256_S20x256_1024_0).toLoadRect (harg11.unread X.x9) = X.w4 := readAt_part _ _ _ _ _ rfl
    have hs0 : ∀ w : Vec F S8x256 .f32, arg17.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hs1 : ∀ w : Vec F S8x256 .f32, arg18.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hs2 : ∀ w : Vec F S8x256 .f32, arg19.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    have hs3 : ∀ w : Vec F S8x20 .f32, arg20.view.readCov (Val := Elt F) [⟨Rect.unit (s := S8x20) ![0, 0] S8x20.size inb_S8x20_S8x20_0_0, w⟩] (Rect.unit (s := S8x20) ![0, 0] S8x20.size inb_S8x20_S8x20_0_0).toLoadRect = w := fun w => readAt_full_cons _ _ _ _ _ _ (by decide)
    have hs4 : ∀ w : Vec F S8x256 .f32, arg21.view.readCov (Val := Elt F) [⟨Rect.unit (s := S8x256) ![0, 0] S8x256.size inb_S8x256_S8x256_0_0, w⟩] (Rect.unit (s := S8x256) ![0, 0] S8x256.size inb_S8x256_S8x256_0_0).toLoadRect = w := fun w => readAt_full_cons _ _ _ _ _ _ (by decide)
    sl_exec (disch := first | sl_exact hc1 | sl_exact hc2 | sl_exact hc3)
    have hjoin : tilesAny (F := F) c (Ring.sl 2 t.val) ⊢ iprop(∃ e : HbBuf (F := F) c scM5, scM5.view.loc (c : Thread nD τ) ↦[scM5.view.setOn (Rect.unit (s := S2x8x788x128) (slabOff (Ring.sl 2 t.val)) S1x8x788x128.size (inb_slab (Ring.sl 2 t.val))).toLoadRect.set]{fullShare} e) := by
      rw [← slabR_eq]; exact slab_join (F := F) c (Ring.sl 2 t.val)
    ihave HSl := hjoin $$ [HF_src0 HF_src1 HF_src2 HF_src3 HF_src4 HF_src5 HF_src6 HF_src7]
    · isplitl [HF_src0]; · iexists _; iexact HF_src0
      isplitl [HF_src1]; · iexists _; iexact HF_src1
      isplitl [HF_src2]; · iexists _; iexact HF_src2
      isplitl [HF_src3]; · iexists _; iexact HF_src3
      isplitl [HF_src4]; · iexists _; iexact HF_src4
      isplitl [HF_src5]; · iexists _; iexact HF_src5
      isplitl [HF_src6]; · iexists _; iexact HF_src6
      iexists _; iexact HF_src7
    icases HSl with ⟨%es, HSl⟩
    clear hjoin
    sl_exec (disch := first | sl_exact hc1 | sl_exact hc2 | sl_exact hc3)
    have hsplit : (iprop(∃ L, ⌜L = slabL t X (reset (grid0.coords t) X)⌝ ∗ (scM5.view.loc (c : Thread nD τ) ↦[scM5.view.setOn (Rect.unit (s := S2x8x788x128) (slabOff (Ring.sl 2 t.val)) S1x8x788x128.size (inb_slab (Ring.sl 2 t.val))).toLoadRect.set]{fullShare} (scM5.view.writes (Elt F) es L : HbBuf (F := F) c scM5))) : sProp 𝕄) ⊢ tilesAt c (Ring.sl 2 t.val) (E (Ring.bk 64 t.val)) := by
      rw [← slabR_eq, hE]
      iintro ⟨%L, %hL, H⟩
      obtain rfl := hL
      iapply ((slab_same c t X (reset (grid0.coords t) X) es).trans (slab_split c _ _))
      iexact H
    ihave HT := hsplit $$ [HSl]
    · iexists _; isplitr; swap; iexact HSl; ipureintro; rfl
    clear hsplit
    icases HT with ⟨HT0, HT1, HT2, HT3, HT4, HT5, HT6, HT7⟩
    have hD := storable_dlv (F := F) c v0 E (Ring.bk 64 t.val) (Ring.sl 2 t.val)
    imod (Transfers.batch_alloc' (Lvl := ℕ) countersEmb (c : Thread nD τ) default amt (dlv c v0 E (Ring.bk 64 t.val) (Ring.sl 2 t.val)) (sm := cellR (Ring.sl 2 t.val)) (E := Set.univ)) $$ HF with HN
    clear hD
    sl_exec (disch := first | sl_exact hc1 | sl_exact hc2 | sl_exact hc3)
    sl_step
    iapply Hk
    isplitl [H0]
    · iexists _; isplitr; swap; iexact H0; ipureintro; exact harg2.read_unread _
    isplitl [H1]
    · iexists _; isplitr; swap; iexact H1; ipureintro; exact harg3.read_unread _
    isplitl [H2]
    · iexists _; isplitr; swap; iexact H2; ipureintro; exact harg4.read_unread _
    isplitl [H3]
    · iexists _; isplitr; swap; iexact H3; ipureintro; exact harg5.read_unread _
    isplitl [H4]
    · iexists _; isplitr; swap; iexact H4; ipureintro; exact harg6.read_unread _
    isplitl [H5]
    · iexists _; isplitr; swap; iexact H5; ipureintro; exact harg7.read_unread _
    isplitl [H6]
    · iexists _; isplitr; swap; iexact H6; ipureintro; exact harg8.read_unread _
    isplitl [H7]
    · iexists _; isplitr; swap; iexact H7; ipureintro; exact harg9.read_unread _
    isplitl [H8]
    · iexists _; isplitr; swap; iexact H8; ipureintro; exact harg10.read_unread _
    isplitl [H9]
    · iexists _; isplitr; swap; iexact H9; ipureintro; exact harg11.read_unread _
    isplitl [H10]
    · iexists _; isplitr; swap; iexact H10; ipureintro; exact harg12.read_unread _
    isplitl [H11]
    · iexists _; isplitr; swap; iexact H11; ipureintro; exact harg13.read_unread _
    isplitl [H12]; · iexists _; isplitr; swap; iexact H12; ipureintro; exact read_full_cons _ _ _ _ _ _ (by decide)
    isplitl [H13]; · iexists _; isplitr; swap; iexact H13; ipureintro; exact read_full_cons _ _ _ _ _ _ (by decide)
    isplitl [HS0]; · iexists _; isplitr; swap; iexact HS0; ipureintro; exact read_full_cons _ _ _ _ _ _ (by decide)
    isplitl [HS1]; · iexists _; isplitr; swap; iexact HS1; ipureintro; exact read_full_cons _ _ _ _ _ _ (by decide)
    isplitl [HS2]; · iexists _; isplitr; swap; iexact HS2; ipureintro; exact read_full_cons _ _ _ _ _ _ (by decide)
    isplitl [HS3]; · iexists _; isplitr; swap; iexact HS3; ipureintro; exact read_full_cons _ _ _ _ _ _ (by decide)
    isplitl [HS4]; · iexists _; isplitr; swap; iexact HS4; ipureintro; exact read_full_cons _ _ _ _ _ _ (by decide)
    isplitr [HW]
    · isplitl [HF_dst0 HF_dst1 HF_dst2 HF_dst3 HF_dst4 HF_dst5 HF_dst6 HF_dst7]
      · isplitl [HF_dst0]; · iexact HF_dst0
        isplitl [HF_dst1]; · iexact HF_dst1
        isplitl [HF_dst2]; · iexact HF_dst2
        isplitl [HF_dst3]; · iexact HF_dst3
        isplitl [HF_dst4]; · iexact HF_dst4
        isplitl [HF_dst5]; · iexact HF_dst5
        isplitl [HF_dst6]; · iexact HF_dst6
        iexact HF_dst7
      iexact HN
    iexists _; iexact HW

end Cert.KernelIdeal.Enc

end

end
-- ==== Proof.KernelIdeal.RunL.lean ====
module

public import proofs.«01_k».proof.Proof.KernelIdeal.RunKit

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 3000000 in
/-- The last grid point: as in the middle, and both slots' copies are waited for at the end. -/
theorem runL (c : Dev nD) (t : Fin cfg0.N) (arg2 : Memref sig .tc .vmem S32x8 .f32) (harg2 : arg2.IsWhole) (arg3 : Memref sig .tc .vmem S8x128x256 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S8x128x256 .f32) (harg6 : arg6.IsWhole) (arg7 : Memref sig .tc .vmem S8x40 .f32) (harg7 : arg7.IsWhole) (arg8 : Memref sig .tc .vmem S1x40 .f32) (harg8 : arg8.IsWhole) (arg9 : Memref sig .tc .vmem S40x20 .f32) (harg9 : arg9.IsWhole) (arg10 : Memref sig .tc .vmem S1x20 .f32) (harg10 : arg10.IsWhole) (arg11 : Memref sig .tc .vmem S1044x256 .f32) (harg11 : arg11.IsWhole) (arg12 : Memref sig .tc .vmem S1x256 .f32) (harg12 : arg12.IsWhole) (arg13 : Memref sig .tc .vmem S128x128 .bf16) (harg13 : arg13.IsWhole) (arg15 : Memref sig .tc .vmem S8x256x128 .i32) (harg15 : arg15.IsWhole) (arg16 : Memref sig .tc .vmem S8x256x128 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x20 .f32) (harg20 : arg20.IsWhole) (arg21 : Memref sig .tc .vmem S8x256 .f32) (harg21 : arg21.IsWhole)
    (hc1 : k0_cond1 (grid0.coords t) = 1#1) (hc2 : ¬ Scalar.cmpi .ne (Scalar.extui (Scalar.cmpi .eq (BitVec.ofNat 32 ((grid0.coords t) 1).val) 0#32) : BitVec 32) 0#32 = 1#1) (hc3 : k0_cond3 (grid0.coords t) = 1#1)
    (v0 : HbBuf (F := F) c hbM) (E : Fin 64 → HbBuf (F := F) c scM5) (X : Ins F) (S : St F)
    (hE : E (Ring.bk 64 t.val) = slabVal c t X S) (W : Waits sig Unit) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ (∃ d, owns (c : Thread nD τ) arg15 fullShare d) ∗ (∃ d, owns (c : Thread nD τ) arg16 fullShare d) ∗ owns (c : Thread nD τ) arg17 fullShare S.s0 ∗ owns (c : Thread nD τ) arg18 fullShare S.s1 ∗ owns (c : Thread nD τ) arg19 fullShare S.s2 ∗ owns (c : Thread nD τ) arg20 fullShare S.s3 ∗ owns (c : Thread nD τ) arg21 fullShare S.s4 ∗ (ahead c v0 (Ring.bk 64 t.val) ∗ infl c v0 E (Ring.sl 2 t.val) (Ring.bk 64 (t.val - 2)) ∗ infl c v0 E (Ring.sl 2 (t.val + 1)) (Ring.bk 64 (t.val - 1))) ∗ owes (c : Thread nD τ) 0 W
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare X.x10 ∗ owns (c : Thread nD τ) arg13 fullShare X.x11 ∗ owns (c : Thread nD τ) arg15 fullShare (idx (grid0.coords t) X S) ∗ owns (c : Thread nD τ) arg16 fullShare (act (grid0.coords t) X S) ∗ owns (c : Thread nD τ) arg17 fullShare (next (grid0.coords t) X S).s0 ∗ owns (c : Thread nD τ) arg18 fullShare (next (grid0.coords t) X S).s1 ∗ owns (c : Thread nD τ) arg19 fullShare (next (grid0.coords t) X S).s2 ∗ owns (c : Thread nD τ) arg20 fullShare (next (grid0.coords t) X S).s3 ∗ owns (c : Thread nD τ) arg21 fullShare (next (grid0.coords t) X S).s4 ∗ (piecesAt c v0 E (Ring.sl 2 t.val) (Ring.bk 64 t.val) ∗ piecesAt c v0 E (Ring.sl 2 t.val) (Ring.bk 64 (t.val - 2)) ∗ piecesAt c v0 E (Ring.sl 2 (t.val + 1)) (Ring.bk 64 (t.val - 1)) ∗ free c (Ring.sl 2 t.val) ∗ free c (Ring.sl 2 (t.val + 1))) ∗ (∃ W1, owes (c : Thread nD τ) 0 W1)) -∗ K ⟨⟩)) ⊢ wp frame (wpE (defs₀ (F := F)) Variants.none c none) Set.univ (cc0_deep_pool_encoder (grid0.coords t) arg2 harg2 arg3 harg3 arg4 harg4 arg5 harg5 arg6 harg6 arg7 harg7 arg8 harg8 arg9 harg9 arg10 harg10 arg11 harg11 arg12 harg12 arg13 harg13 (Memref.whole main_v6_0) (Memref.isWhole_whole _) arg15 harg15 arg16 harg16 arg17 harg17 arg18 harg18 arg19 harg19 arg20 harg20 arg21 harg21 scM5 (Memref.isWhole_whole _) cc0_scratch6) K := by
    simp only [cc0_deep_pool_encoder_eq_skeleton]; unfold cc0_deep_pool_encoder_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%fs4, %hfs4, HS4⟩, ⟨⟨Hp0, Hp1, Hp2, Hp3, Hp4, Hp5, Hp6, Hp7⟩, HF, HI⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11;
    obtain rfl := harg17.eq_unread hfs0; obtain rfl := harg18.eq_unread hfs1; obtain rfl := harg19.eq_unread hfs2; obtain rfl := harg20.eq_unread hfs3; obtain rfl := harg21.eq_unread hfs4;
    have hv2 : arg2.view.readAt (Elt F) (Rect.unit (s := S32x8) ![0, 0] S32x8.size inb_S32x8_S32x8_0_0).toLoadRect (harg2.unread X.x0) = X.x0 := readAt_full _ _ _ _ _ (by decide)
    have hv3 : arg3.view.readAt (Elt F) (Rect.unit (s := S8x128x256) ![0, 0, 0] S8x128x256.size inb_S8x128x256_S8x128x256_0_0_0).toLoadRect (harg3.unread X.x1) = X.x1 := readAt_full _ _ _ _ _ (by decide)
    have hv4 : arg4.view.readAt (Elt F) (Rect.unit (s := S8x128x256) ![0, 0, 0] S8x128x256.size inb_S8x128x256_S8x128x256_0_0_0).toLoadRect (harg4.unread X.x2) = X.x2 := readAt_full _ _ _ _ _ (by decide)
    have hv5 : arg5.view.readAt (Elt F) (Rect.unit (s := S8x128x256) ![0, 0, 0] S8x128x256.size inb_S8x128x256_S8x128x256_0_0_0).toLoadRect (harg5.unread X.x3) = X.x3 := readAt_full _ _ _ _ _ (by decide)
    have hv6 : arg6.view.readAt (Elt F) (Rect.unit (s := S8x128x256) ![0, 0, 0] S8x128x256.size inb_S8x128x256_S8x128x256_0_0_0).toLoadRect (harg6.unread X.x4) = X.x4 := readAt_full _ _ _ _ _ (by decide)
    have hv7 : arg7.view.readAt (Elt F) (Rect.unit (s := S8x40) ![0, 0] S8x40.size inb_S8x40_S8x40_0_0).toLoadRect (harg7.unread X.x5) = X.x5 := readAt_full _ _ _ _ _ (by decide)
    have hv8 : arg8.view.readAt (Elt F) (Rect.unit (s := S1x40) ![0, 0] S1x40.size inb_S1x40_S1x40_0_0).toLoadRect (harg8.unread X.x6) = X.x6 := readAt_full _ _ _ _ _ (by decide)
    have hv9 : arg9.view.readAt (Elt F) (Rect.unit (s := S40x20) ![0, 0] S40x20.size inb_S40x20_S40x20_0_0).toLoadRect (harg9.unread X.x7) = X.x7 := readAt_full _ _ _ _ _ (by decide)
    have hv10 : arg10.view.readAt (Elt F) (Rect.unit (s := S1x20) ![0, 0] S1x20.size inb_S1x20_S1x20_0_0).toLoadRect (harg10.unread X.x8) = X.x8 := readAt_full _ _ _ _ _ (by decide)
    have hv12 : arg12.view.readAt (Elt F) (Rect.unit (s := S1x256) ![0, 0] S1x256.size inb_S1x256_S1x256_0_0).toLoadRect (harg12.unread X.x10) = X.x10 := readAt_full _ _ _ _ _ (by decide)
    have hv13 : arg13.view.readAt (Elt F) (Rect.unit (s := S128x128) ![0, 0] S128x128.size inb_S128x128_S128x128_0_0).toLoadRect (harg13.unread X.x11) = X.x11 := readAt_full _ _ _ _ _ (by decide)
    have hw0 : arg11.view.readAt (Elt F) (Rect.unit (s := S1044x256) ![0, 0] S256x256.size inb_S1044x256_S256x256_0_0).toLoadRect (harg11.unread X.x9) = X.w0 := readAt_part _ _ _ _ _ rfl
    have hw1 : arg11.view.readAt (Elt F) (Rect.unit (s := S1044x256) ![256, 0] S256x256.size inb_S1044x256_S256x256_256_0).toLoadRect (harg11.unread X.x9) = X.w1 := readAt_part _ _ _ _ _ rfl
    have hw2 : arg11.view.readAt (Elt F) (Rect.unit (s := S1044x256) ![512, 0] S256x256.size inb_S1044x256_S256x256_512_0).toLoadRect (harg11.unread X.x9) = X.w2 := readAt_part _ _ _ _ _ rfl
    have hw3 : arg11.view.readAt (Elt F) (Rect.unit (s := S1044x256) ![768, 0] S256x256.size inb_S1044x256_S256x256_768_0).toLoadRect (harg11.unread X.x9) = X.w3 := readAt_part _ _ _ _ _ rfl
    have hw4 : arg11.view.readAt (Elt F) (Rect.unit (s := S1044x256) ![1024, 0] S20x256.size inb_S1044x256_S20x256_1024_0).toLoadRect (harg11.unread X.x9) = X.w4 := readAt_part _ _ _ _ _ rfl
    have hs0 : arg17.view.readAt (Elt F) (Rect.unit (s := S8x256) ![0, 0] S8x256.size inb_S8x256_S8x256_0_0).toLoadRect (harg17.unread S.s0) = S.s0 := readAt_full _ _ _ _ _ (by decide)
    have hs1 : arg18.view.readAt (Elt F) (Rect.unit (s := S8x256) ![0, 0] S8x256.size inb_S8x256_S8x256_0_0).toLoadRect (harg18.unread S.s1) = S.s1 := readAt_full _ _ _ _ _ (by decide)
    have hs2 : arg19.view.readAt (Elt F) (Rect.unit (s := S8x256) ![0, 0] S8x256.size inb_S8x256_S8x256_0_0).toLoadRect (harg19.unread S.s2) = S.s2 := readAt_full _ _ _ _ _ (by decide)
    have hs3 : arg20.view.readAt (Elt F) (Rect.unit (s := S8x20) ![0, 0] S8x20.size inb_S8x20_S8x20_0_0).toLoadRect (harg20.unread S.s3) = S.s3 := readAt_full _ _ _ _ _ (by decide)
    have hs4 : arg21.view.readAt (Elt F) (Rect.unit (s := S8x256) ![0, 0] S8x256.size inb_S8x256_S8x256_0_0).toLoadRect (harg21.unread S.s4) = S.s4 := readAt_full _ _ _ _ _ (by decide)
    sl_exec (disch := first | sl_exact hc1 | sl_exact hc2 | sl_exact hc3)
    have hjoin : tilesAny (F := F) c (Ring.sl 2 t.val) ⊢ iprop(∃ e : HbBuf (F := F) c scM5, scM5.view.loc (c : Thread nD τ) ↦[scM5.view.setOn (Rect.unit (s := S2x8x788x128) (slabOff (Ring.sl 2 t.val)) S1x8x788x128.size (inb_slab (Ring.sl 2 t.val))).toLoadRect.set]{fullShare} e) := by
      rw [← slabR_eq]; exact slab_join (F := F) c (Ring.sl 2 t.val)
    ihave HSl := hjoin $$ [HF_src0 HF_src1 HF_src2 HF_src3 HF_src4 HF_src5 HF_src6 HF_src7]
    · isplitl [HF_src0]; · iexists _; iexact HF_src0
      isplitl [HF_src1]; · iexists _; iexact HF_src1
      isplitl [HF_src2]; · iexists _; iexact HF_src2
      isplitl [HF_src3]; · iexists _; iexact HF_src3
      isplitl [HF_src4]; · iexists _; iexact HF_src4
      isplitl [HF_src5]; · iexists _; iexact HF_src5
      isplitl [HF_src6]; · iexists _; iexact HF_src6
      iexists _; iexact HF_src7
    icases HSl with ⟨%es, HSl⟩
    clear hjoin
    sl_exec (disch := first | sl_exact hc1 | sl_exact hc2 | sl_exact hc3)
    have hsplit : (iprop(∃ L, ⌜L = slabL t X S⌝ ∗ (scM5.view.loc (c : Thread nD τ) ↦[scM5.view.setOn (Rect.unit (s := S2x8x788x128) (slabOff (Ring.sl 2 t.val)) S1x8x788x128.size (inb_slab (Ring.sl 2 t.val))).toLoadRect.set]{fullShare} (scM5.view.writes (Elt F) es L : HbBuf (F := F) c scM5))) : sProp 𝕄) ⊢ tilesAt c (Ring.sl 2 t.val) (E (Ring.bk 64 t.val)) := by
      rw [← slabR_eq, hE]
      iintro ⟨%L, %hL, H⟩
      obtain rfl := hL
      iapply ((slab_same c t X S es).trans (slab_split c _ _))
      iexact H
    ihave HT := hsplit $$ [HSl]
    · iexists _; isplitr; swap; iexact HSl; ipureintro; rfl
    clear hsplit
    icases HT with ⟨HT0, HT1, HT2, HT3, HT4, HT5, HT6, HT7⟩
    have hD := storable_dlv (F := F) c v0 E (Ring.bk 64 t.val) (Ring.sl 2 t.val)
    imod (Transfers.batch_alloc' (Lvl := ℕ) countersEmb (c : Thread nD τ) default amt (dlv c v0 E (Ring.bk 64 t.val) (Ring.sl 2 t.val)) (sm := cellR (Ring.sl 2 t.val)) (E := Set.univ)) $$ HF with HN
    clear hD
    sl_exec (disch := first | sl_exact hc1 | sl_exact hc2 | sl_exact hc3)
    sl_step
    iapply Hk
    isplitl [H0]
    · iexists _; isplitr; swap; iexact H0; ipureintro; exact harg2.read_unread _
    isplitl [H1]
    · iexists _; isplitr; swap; iexact H1; ipureintro; exact harg3.read_unread _
    isplitl [H2]
    · iexists _; isplitr; swap; iexact H2; ipureintro; exact harg4.read_unread _
    isplitl [H3]
    · iexists _; isplitr; swap; iexact H3; ipureintro; exact harg5.read_unread _
    isplitl [H4]
    · iexists _; isplitr; swap; iexact H4; ipureintro; exact harg6.read_unread _
    isplitl [H5]
    · iexists _; isplitr; swap; iexact H5; ipureintro; exact harg7.read_unread _
    isplitl [H6]
    · iexists _; isplitr; swap; iexact H6; ipureintro; exact harg8.read_unread _
    isplitl [H7]
    · iexists _; isplitr; swap; iexact H7; ipureintro; exact harg9.read_unread _
    isplitl [H8]
    · iexists _; isplitr; swap; iexact H8; ipureintro; exact harg10.read_unread _
    isplitl [H9]
    · iexists _; isplitr; swap; iexact H9; ipureintro; exact harg11.read_unread _
    isplitl [H10]
    · iexists _; isplitr; swap; iexact H10; ipureintro; exact harg12.read_unread _
    isplitl [H11]
    · iexists _; isplitr; swap; iexact H11; ipureintro; exact harg13.read_unread _
    isplitl [H12]; · iexists _; isplitr; swap; iexact H12; ipureintro; exact read_full_cons _ _ _ _ _ _ (by decide)
    isplitl [H13]; · iexists _; isplitr; swap; iexact H13; ipureintro; exact read_full_cons _ _ _ _ _ _ (by decide)
    isplitl [HS0]; · iexists _; isplitr; swap; iexact HS0; ipureintro; exact read_full_cons _ _ _ _ _ _ (by decide)
    isplitl [HS1]; · iexists _; isplitr; swap; iexact HS1; ipureintro; exact read_full_cons _ _ _ _ _ _ (by decide)
    isplitl [HS2]; · iexists _; isplitr; swap; iexact HS2; ipureintro; exact read_full_cons _ _ _ _ _ _ (by decide)
    isplitl [HS3]
    · iexists _; isplitr; swap; iexact HS3; ipureintro; exact harg20.read_unread _
    isplitl [HS4]
    · iexists _; isplitr; swap; iexact HS4; ipureintro; exact harg21.read_unread _
    isplitr [HW]; swap; · iexists _; iexact HW
    isplitl [HN_dst0 HN_dst1 HN_dst2 HN_dst3 HN_dst4 HN_dst5 HN_dst6 HN_dst7]
    · isplitl [HN_dst0]; · iexact HN_dst0
      isplitl [HN_dst1]; · iexact HN_dst1
      isplitl [HN_dst2]; · iexact HN_dst2
      isplitl [HN_dst3]; · iexact HN_dst3
      isplitl [HN_dst4]; · iexact HN_dst4
      isplitl [HN_dst5]; · iexact HN_dst5
      isplitl [HN_dst6]; · iexact HN_dst6
      iexact HN_dst7
    isplitl [HF_dst0 HF_dst1 HF_dst2 HF_dst3 HF_dst4 HF_dst5 HF_dst6 HF_dst7]
    · isplitl [HF_dst0]; · iexact HF_dst0
      isplitl [HF_dst1]; · iexact HF_dst1
      isplitl [HF_dst2]; · iexact HF_dst2
      isplitl [HF_dst3]; · iexact HF_dst3
      isplitl [HF_dst4]; · iexact HF_dst4
      isplitl [HF_dst5]; · iexact HF_dst5
      isplitl [HF_dst6]; · iexact HF_dst6
      iexact HF_dst7
    isplitl [HI_dst0 HI_dst1 HI_dst2 HI_dst3 HI_dst4 HI_dst5 HI_dst6 HI_dst7]
    · isplitl [HI_dst0]; · iexact HI_dst0
      isplitl [HI_dst1]; · iexact HI_dst1
      isplitl [HI_dst2]; · iexact HI_dst2
      isplitl [HI_dst3]; · iexact HI_dst3
      isplitl [HI_dst4]; · iexact HI_dst4
      isplitl [HI_dst5]; · iexact HI_dst5
      isplitl [HI_dst6]; · iexact HI_dst6
      iexact HI_dst7
    isplitl [HN HN_src0 HN_src1 HN_src2 HN_src3 HN_src4 HN_src5 HN_src6 HN_src7]
    · isplitl [HN]; · iexact HN
      isplitl [HN_src0]; · iexists _; iexact HN_src0
      isplitl [HN_src1]; · iexists _; iexact HN_src1
      isplitl [HN_src2]; · iexists _; iexact HN_src2
      isplitl [HN_src3]; · iexists _; iexact HN_src3
      isplitl [HN_src4]; · iexists _; iexact HN_src4
      isplitl [HN_src5]; · iexists _; iexact HN_src5
      isplitl [HN_src6]; · iexists _; iexact HN_src6
      iexists _; iexact HN_src7
    isplitl [HI]; · iexact HI
    isplitl [HI_src0]; · iexists _; iexact HI_src0
    isplitl [HI_src1]; · iexists _; iexact HI_src1
    isplitl [HI_src2]; · iexists _; iexact HI_src2
    isplitl [HI_src3]; · iexists _; iexact HI_src3
    isplitl [HI_src4]; · iexists _; iexact HI_src4
    isplitl [HI_src5]; · iexists _; iexact HI_src5
    isplitl [HI_src6]; · iexists _; iexact HI_src6
    iexists _; iexact HI_src7

end Cert.KernelIdeal.Enc

end

end
-- ==== Proof.KernelIdeal.Whole.lean ====
module

public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunL
public import Idealize.ShloMosaic.Lib.Pipeline.FrameSuffixV

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point reads, and the state it starts from -/

/-- The twelve input blocks of point `t`. -/
def ins (c : Dev nD) (t : Fin grid0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

/-- The carried state point `n` computes with: the starting state at the first time block of each block of subjects, else what
    the point before left. -/
def used (c : Dev nD) : (n : ℕ) → n < grid0.N → St F
  | 0, h => reset (grid0.coords ⟨0, h⟩) (ins m c ⟨0, h⟩)
  | n + 1, h => if (n + 1) % 16 = 0 then reset (grid0.coords ⟨n + 1, h⟩) (ins m c ⟨n + 1, h⟩)
      else next (grid0.coords ⟨n, Nat.lt_of_succ_lt h⟩) (ins m c ⟨n, Nat.lt_of_succ_lt h⟩) (used c n (Nat.lt_of_succ_lt h))

/-- At a group's first step the body works from the reset carries. -/
theorem used_reset (c : Dev nD) (t : Fin grid0.N) (h : t.val % 16 = 0) : used m c t.val t.isLt = reset (grid0.coords t) (ins m c t) := by
  obtain ⟨n, hn⟩ := t
  cases n with
  | zero => rfl
  | succ n => exact if_pos h

/-- At another step it works from what the step before left. -/
theorem used_next (c : Dev nD) (t : Fin grid0.N) (h' : t.val + 1 < grid0.N) (h : ¬ (t.val + 1) % 16 = 0) :
    used m c (t.val + 1) h' = next (grid0.coords t) (ins m c t) (used m c t.val t.isLt) := if_neg h

/-- A block's number is a step's. -/
theorem bk_lt (u : Fin 64) : u.val < grid0.N := lt_of_lt_of_eq u.isLt N_0.symm
/-- The scratch as each step's stores leave its slot. -/
def Ev (c : Dev nD) (u : Fin 64) : HbBuf (F := F) c scM5 :=
  slabVal c ⟨u.val, bk_lt u⟩ (ins m c ⟨u.val, bk_lt u⟩) (used m c u.val (bk_lt u))

/-- What the scratch slot holds when a step's copies start. -/
theorem Ev_at (c : Dev nD) (t : Fin grid0.N) : Ev m c (Ring.bk 64 t.val) = slabVal c t (ins m c t) (used m c t.val t.isLt) := by
  have hN : t.val < 64 := lt_of_lt_of_eq t.isLt N_0
  unfold Ev
  have e : (Ring.bk 64 t.val).val = t.val := Nat.mod_eq_of_lt hN
  have e' : (⟨(Ring.bk 64 t.val).val, bk_lt _⟩ : Fin grid0.N) = t := Fin.ext e
  have h : ∀ t' : Fin grid0.N, t' = t → slabVal c t' (ins m c t') (used m c t'.val t'.isLt) = slabVal c t (ins m c t) (used m c t.val t.isLt) := by
    rintro _ rfl; rfl
  exact h _ e'

/-- The written array as the launch finds it. -/
abbrev v0of (c : Dev nD) : HbBuf (F := F) c hbM := V m c main_v6_0

/-! ## The body's branch conditions, over the grid -/

/-- The step waits for an earlier step's copies from the third step on. -/
theorem hcond1 : ∀ t : Fin cfg0.N, k0_cond1 (grid0.coords t) = 1#1 ↔ 2 ≤ t.val :=
  (by decide +kernel : ∀ t : Fin grid0.N, k0_cond1 (grid0.coords t) = 1#1 ↔ 2 ≤ t.val)
/-- The carries are reset at a group's first step. -/
theorem hcond2 : ∀ t : Fin cfg0.N, Scalar.cmpi .ne (Scalar.extui (Scalar.cmpi .eq (BitVec.ofNat 32 ((grid0.coords t) 1).val) 0#32) : BitVec 32) 0#32 = 1#1 ↔ t.val % 16 = 0 :=
  (by decide +kernel : ∀ t : Fin grid0.N, Scalar.cmpi .ne (Scalar.extui (Scalar.cmpi .eq (BitVec.ofNat 32 ((grid0.coords t) 1).val) 0#32) : BitVec 32) 0#32 = 1#1 ↔ t.val % 16 = 0)
/-- The ring is drained at the last step. -/
theorem hcond3 : ∀ t : Fin cfg0.N, k0_cond3 (grid0.coords t) = 1#1 ↔ t.val + 1 = 64 :=
  (by decide +kernel : ∀ t : Fin grid0.N, k0_cond3 (grid0.coords t) = 1#1 ↔ t.val + 1 = 64)

/-! ## The pipeline's proof data -/

/-- The invariant before point `k`: the carried state (the one point `k` computes with, unless it starts anew), and the ring. -/
def PhiR (c : Dev nD) (k : ℕ) : sProp 𝕄 :=
  iprop(∃ S : St F, ⌜∀ h : k < grid0.N, ¬ k % 16 = 0 → S = used m c k h⌝
    ∗ owns (c : Thread nD τ) scM0 fullShare S.s0 ∗ owns (c : Thread nD τ) scM1 fullShare S.s1 ∗ owns (c : Thread nD τ) scM2 fullShare S.s2
    ∗ owns (c : Thread nD τ) scM3 fullShare S.s3 ∗ owns (c : Thread nD τ) scM4 fullShare S.s4
    ∗ ringAt c (v0of m c) (Ev m c) k ∗ tileSpare c)

/-- The proof data: each input's buffer at its block, the two outputs at `idx` and `act` of the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => idx (grid0.coords t) (ins m c t) (used m c t.val t.isLt)
    | ⟨13, _⟩ => act (grid0.coords t) (ins m c t) (used m c t.val t.isLt)
  Φ t := PhiR m c t.val
  q _ := fullShare
  owed _ := 0

/-- The region finds each window's array as the host lines left it. -/
theorem A_eq (c : Dev nD) (w : Fin cfg0.W) : (dats m 0 c).A w = V m c (Pipeline.arrRef spec0 w) := by
  dsimp only [dats]
/-- The invariant at a step's number. -/
theorem PhiR_castSucc (c : Dev nD) (t : Fin cfg0.N) : (dats m 0 c).Φ t.castSucc = PhiR m c t.val := by
  dsimp only [dats]; simp only [Fin.val_castSucc]
/-- The invariant at a step's number. -/
theorem PhiR_succ (c : Dev nD) (t : Fin cfg0.N) : (dats m 0 c).Φ t.succ = PhiR m c (t.val + 1) := by
  dsimp only [dats]; simp only [Fin.val_succ]

/-! What the body leaves, window by window. -/
theorem after0_0 (c : Dev nD) (t : Fin cfg0.N) : (dats m 0 c).after 0 t = (ins m c t).x0 := by dsimp only [dats, ins]
/-- What the window's buffer holds when the step ends. -/
theorem after0_1 (c : Dev nD) (t : Fin cfg0.N) : (dats m 0 c).after 1 t = (ins m c t).x1 := by dsimp only [dats, ins]
/-- What the window's buffer holds when the step ends. -/
theorem after0_2 (c : Dev nD) (t : Fin cfg0.N) : (dats m 0 c).after 2 t = (ins m c t).x2 := by dsimp only [dats, ins]
/-- What the window's buffer holds when the step ends. -/
theorem after0_3 (c : Dev nD) (t : Fin cfg0.N) : (dats m 0 c).after 3 t = (ins m c t).x3 := by dsimp only [dats, ins]
/-- What the window's buffer holds when the step ends. -/
theorem after0_4 (c : Dev nD) (t : Fin cfg0.N) : (dats m 0 c).after 4 t = (ins m c t).x4 := by dsimp only [dats, ins]
/-- What the window's buffer holds when the step ends. -/
theorem after0_5 (c : Dev nD) (t : Fin cfg0.N) : (dats m 0 c).after 5 t = (ins m c t).x5 := by dsimp only [dats, ins]
/-- What the window's buffer holds when the step ends. -/
theorem after0_6 (c : Dev nD) (t : Fin cfg0.N) : (dats m 0 c).after 6 t = (ins m c t).x6 := by dsimp only [dats, ins]
/-- What the window's buffer holds when the step ends. -/
theorem after0_7 (c : Dev nD) (t : Fin cfg0.N) : (dats m 0 c).after 7 t = (ins m c t).x7 := by dsimp only [dats, ins]
/-- What the window's buffer holds when the step ends. -/
theorem after0_8 (c : Dev nD) (t : Fin cfg0.N) : (dats m 0 c).after 8 t = (ins m c t).x8 := by dsimp only [dats, ins]
/-- What the window's buffer holds when the step ends. -/
theorem after0_9 (c : Dev nD) (t : Fin cfg0.N) : (dats m 0 c).after 9 t = (ins m c t).x9 := by dsimp only [dats, ins]
/-- What the window's buffer holds when the step ends. -/
theorem after0_10 (c : Dev nD) (t : Fin cfg0.N) : (dats m 0 c).after 10 t = (ins m c t).x10 := by dsimp only [dats, ins]
/-- What the window's buffer holds when the step ends. -/
theorem after0_11 (c : Dev nD) (t : Fin cfg0.N) : (dats m 0 c).after 11 t = (ins m c t).x11 := by dsimp only [dats, ins]
/-- What the window's buffer holds when the step ends. -/
theorem after0_12 (c : Dev nD) (t : Fin cfg0.N) : (dats m 0 c).after 12 t = idx (grid0.coords t) (ins m c t) (used m c t.val t.isLt) := by dsimp only [dats]
/-- What the window's buffer holds when the step ends. -/
theorem after0_13 (c : Dev nD) (t : Fin cfg0.N) : (dats m 0 c).after 13 t = act (grid0.coords t) (ins m c t) (used m c t.val t.isLt) := by dsimp only [dats]

/-! What the body finds: each input's current buffer holds its block, fetched at that point or not. -/
theorem before0_0 (c : Dev nD) (t : Fin cfg0.N) (d) : (dats m 0 c).before 0 t d = (ins m c t).x0 :=
  ((dats m 0 c).before_in_eq_fetched 0 rfl (fun _ => rfl) (fun _ _ _ => rfl) (fun t => by rw [after0_0]; unfold Dat.blockOf; rw [A_eq m c 0]; try rfl) t d).trans
    (by unfold Dat.fetched Dat.blockOf; rw [A_eq m c 0]; try rfl)
/-- What the window's buffer holds when the step starts. -/
theorem before0_1 (c : Dev nD) (t : Fin cfg0.N) (d) : (dats m 0 c).before 1 t d = (ins m c t).x1 :=
  ((dats m 0 c).before_in_eq_fetched 1 rfl (fun _ => rfl) (fun _ _ _ => rfl) (fun t => by rw [after0_1]; unfold Dat.blockOf; rw [A_eq m c 1]; try rfl) t d).trans
    (by unfold Dat.fetched Dat.blockOf; rw [A_eq m c 1]; try rfl)
/-- What the window's buffer holds when the step starts. -/
theorem before0_2 (c : Dev nD) (t : Fin cfg0.N) (d) : (dats m 0 c).before 2 t d = (ins m c t).x2 :=
  ((dats m 0 c).before_in_eq_fetched 2 rfl (fun _ => rfl) (fun _ _ _ => rfl) (fun t => by rw [after0_2]; unfold Dat.blockOf; rw [A_eq m c 2]; try rfl) t d).trans
    (by unfold Dat.fetched Dat.blockOf; rw [A_eq m c 2]; try rfl)
/-- What the window's buffer holds when the step starts. -/
theorem before0_3 (c : Dev nD) (t : Fin cfg0.N) (d) : (dats m 0 c).before 3 t d = (ins m c t).x3 :=
  ((dats m 0 c).before_in_eq_fetched 3 rfl (fun _ => rfl) (fun _ _ _ => rfl) (fun t => by rw [after0_3]; unfold Dat.blockOf; rw [A_eq m c 3]; try rfl) t d).trans
    (by unfold Dat.fetched Dat.blockOf; rw [A_eq m c 3]; try rfl)
/-- What the window's buffer holds when the step starts. -/
theorem before0_4 (c : Dev nD) (t : Fin cfg0.N) (d) : (dats m 0 c).before 4 t d = (ins m c t).x4 :=
  ((dats m 0 c).before_in_eq_fetched 4 rfl (fun _ => rfl) (fun _ _ _ => rfl) (fun t => by rw [after0_4]; unfold Dat.blockOf; rw [A_eq m c 4]; try rfl) t d).trans
    (by unfold Dat.fetched Dat.blockOf; rw [A_eq m c 4]; try rfl)
/-- What the window's buffer holds when the step starts. -/
theorem before0_5 (c : Dev nD) (t : Fin cfg0.N) (d) : (dats m 0 c).before 5 t d = (ins m c t).x5 :=
  ((dats m 0 c).before_in_eq_fetched 5 rfl (fun _ => rfl) (fun _ _ _ => rfl) (fun t => by rw [after0_5]; unfold Dat.blockOf; rw [A_eq m c 5]; try rfl) t d).trans
    (by unfold Dat.fetched Dat.blockOf; rw [A_eq m c 5]; try rfl)
/-- What the window's buffer holds when the step starts. -/
theorem before0_6 (c : Dev nD) (t : Fin cfg0.N) (d) : (dats m 0 c).before 6 t d = (ins m c t).x6 :=
  ((dats m 0 c).before_in_eq_fetched 6 rfl (fun _ => rfl) (fun _ _ _ => rfl) (fun t => by rw [after0_6]; unfold Dat.blockOf; rw [A_eq m c 6]; try rfl) t d).trans
    (by unfold Dat.fetched Dat.blockOf; rw [A_eq m c 6]; try rfl)
/-- What the window's buffer holds when the step starts. -/
theorem before0_7 (c : Dev nD) (t : Fin cfg0.N) (d) : (dats m 0 c).before 7 t d = (ins m c t).x7 :=
  ((dats m 0 c).before_in_eq_fetched 7 rfl (fun _ => rfl) (fun _ _ _ => rfl) (fun t => by rw [after0_7]; unfold Dat.blockOf; rw [A_eq m c 7]; try rfl) t d).trans
    (by unfold Dat.fetched Dat.blockOf; rw [A_eq m c 7]; try rfl)
/-- What the window's buffer holds when the step starts. -/
theorem before0_8 (c : Dev nD) (t : Fin cfg0.N) (d) : (dats m 0 c).before 8 t d = (ins m c t).x8 :=
  ((dats m 0 c).before_in_eq_fetched 8 rfl (fun _ => rfl) (fun _ _ _ => rfl) (fun t => by rw [after0_8]; unfold Dat.blockOf; rw [A_eq m c 8]; try rfl) t d).trans
    (by unfold Dat.fetched Dat.blockOf; rw [A_eq m c 8]; try rfl)
/-- What the window's buffer holds when the step starts. -/
theorem before0_9 (c : Dev nD) (t : Fin cfg0.N) (d) : (dats m 0 c).before 9 t d = (ins m c t).x9 :=
  ((dats m 0 c).before_in_eq_fetched 9 rfl (fun _ => rfl) (fun _ _ _ => rfl) (fun t => by rw [after0_9]; unfold Dat.blockOf; rw [A_eq m c 9]; try rfl) t d).trans
    (by unfold Dat.fetched Dat.blockOf; rw [A_eq m c 9]; try rfl)
/-- What the window's buffer holds when the step starts. -/
theorem before0_10 (c : Dev nD) (t : Fin cfg0.N) (d) : (dats m 0 c).before 10 t d = (ins m c t).x10 :=
  ((dats m 0 c).before_in_eq_fetched 10 rfl (fun _ => rfl) (fun _ _ _ => rfl) (fun t => by rw [after0_10]; unfold Dat.blockOf; rw [A_eq m c 10]; try rfl) t d).trans
    (by unfold Dat.fetched Dat.blockOf; rw [A_eq m c 10]; try rfl)
/-- What the window's buffer holds when the step starts. -/
theorem before0_11 (c : Dev nD) (t : Fin cfg0.N) (d) : (dats m 0 c).before 11 t d = (ins m c t).x11 :=
  ((dats m 0 c).before_in_eq_fetched 11 rfl (fun _ => rfl) (fun _ _ _ => rfl) (fun t => by rw [after0_11]; unfold Dat.blockOf; rw [A_eq m c 11]; try rfl) t d).trans
    (by unfold Dat.fetched Dat.blockOf; rw [A_eq m c 11]; try rfl)

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The pieces a step wrote from its slot, as the ring names them. -/
theorem behind_of (c : Dev nD) (v0 : HbBuf (F := F) c hbM) (E : Fin 64 → HbBuf (F := F) c scM5) (g : Fin 2) (u : Fin 64) (h : g = Ring.sl 2 u.val) :
    piecesAt c v0 E g u ⊢ behind c v0 E u := by
  subst h; exact Entails.rfl

/-- A step's slot, by its block. -/
theorem sl_bk (k : ℕ) (h : k < 64) : Ring.sl 2 k = Ring.sl 2 (Ring.bk 64 k).val := by
  rw [Ring.bk_val h]
/-- The step two earlier used the same slot. -/
theorem sl_sub2 (k : ℕ) (h2 : 2 ≤ k) (h : k < 64) : Ring.sl 2 k = Ring.sl 2 (Ring.bk 64 (k - 2)).val := by
  rw [Ring.bk_val (by omega), show k = (k - 2) + 2 by omega, Ring.sl_add, show k - 2 + 2 - 2 = k - 2 by omega]
/-- The step before used the other slot. -/
theorem sl_sub1 (k : ℕ) (h2 : 1 ≤ k) (h : k < 64) : Ring.sl 2 (k + 1) = Ring.sl 2 (Ring.bk 64 (k - 1)).val := by
  rw [Ring.bk_val (by omega), show k + 1 = (k - 1) + 2 by omega, Ring.sl_add]

set_option maxHeartbeats 4000000 in
/-- The body at any point: the case the point is in, its run, and the ring taken apart and put together around it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [after0_0, after0_1, after0_2, after0_3, after0_4, after0_5, after0_6, after0_7, after0_8, after0_9, after0_10, after0_11, after0_12, after0_13]
  rw [PhiR_castSucc m c t, PhiR_succ m c t]
  unfold Dat.owesAt Pipeline.owesWithin
  rw [show (dats m 0 c).owed t.castSucc = 0 from rfl, show (dats m 0 c).owed t.succ = 0 from rfl]
  have hN : t.val < 64 := lt_of_lt_of_eq t.isLt N_0
  have hE := Ev_at m c t
  unfold PhiR ringAt
  by_cases h2 : 2 ≤ t.val
  · by_cases h3 : t.val + 1 = 64
    · have hj : ¬ t.val % 16 = 0 := by omega
      rw [Ring.AtBΦ_lt _ _ _ _ _ t.val hN, Ring.AtB22_here_last _ _ _ _ t.val h2 h3, Ring.AtBΦ_end _ _ _ _ _ (t.val + 1) h3, Ring.AtB22_drained _ _ t.val h2 h3]
      iintro ⟨⟨%S, %hS, HS0, HS1, HS2, HS3, HS4, ⟨HP, HB, HF, HI⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      obtain rfl := hS t.isLt hj
      iapply (runL c t _ _ _ _ _ _ _ _ _ _ _ _ _ _ _ _ _ _ _ _ _ _ _ _ _ _ _ _ _ _ _ _ _ _ _ _ _ _ ((hcond1 t).mpr h2) (fun h => hj ((hcond2 t).mp h)) ((hcond3 t).mpr h3) (v0of m c) (Ev m c) (ins m c t) (used m c t.val t.isLt) hE W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HP HF HI]
      · isplitl [HP]; · iexact HP
        isplitl [HF]; · iexact HF
        iexact HI
      isplitl [HW]; · iexact HW
      iintro ⟨H0, H1, H2, H3, H4, H5, H6, H7, H8, H9, H10, H11, H12, H13, HS0, HS1, HS2, HS3, HS4, ⟨Q0, Q2, Q1, F0, F1⟩, ⟨%W', HW'⟩⟩
      isplitl [HS0 HS1 HS2 HS3 HS4 HT Q0 Q2 Q1 F0 F1 HB]
      · iexists (next (grid0.coords t) (ins m c t) (used m c t.val t.isLt))
        isplitr; · ipureintro; exact fun h _ => absurd h (by rw [N_0]; omega)
        isplitl [HS0]; · iexact HS0
        isplitl [HS1]; · iexact HS1
        isplitl [HS2]; · iexact HS2
        isplitl [HS3]; · iexact HS3
        isplitl [HS4]; · iexact HS4
        isplitl [Q0 Q2 Q1 F0 F1 HB]
        · isplitl [Q0 Q2 Q1 HB]
          · isplitl [Q0]; · iapply (behind_of c (v0of m c) (Ev m c) _ _ (sl_bk t.val hN)); iexact Q0
            isplitl [Q2]; · iapply (behind_of c (v0of m c) (Ev m c) _ _ (sl_sub2 t.val h2 hN)); iexact Q2
            isplitl [Q1]; · iapply (behind_of c (v0of m c) (Ev m c) _ _ (sl_sub1 t.val (by omega) hN)); iexact Q1
            iexact HB
          isplitl [F0]; · iexact F0
          iexact F1
        iexact HT
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · by_cases hj : t.val % 16 = 0
      · rw [used_reset m c t hj] at hE ⊢
        rw [Ring.AtBΦ_lt _ _ _ _ _ t.val hN, Ring.AtB22_here _ _ _ _ t.val h2 hN, Ring.AtBΦ_lt _ _ _ _ _ (t.val + 1) (by omega), Ring.AtB22_next _ _ _ _ t.val h2 hN]
        iintro ⟨⟨%S, %hS, HS0, HS1, HS2, HS3, HS4, ⟨⟨HP, HA⟩, HB, HF, HI⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply (runD c t _ _ _ _ _ _ _ _ _ _ _ _ _ _ _ _ _ _ _ _ _ _ _ _ _ _ _ _ _ _ _ _ _ _ _ _ _ _ ((hcond1 t).mpr h2) ((hcond2 t).mpr hj) (fun h => h3 ((hcond3 t).mp h)) (v0of m c) (Ev m c) (ins m c t) hE W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HP HF]
        · isplitl [HP]; · iexact HP
          iexact HF
        isplitl [HW]; · iexact HW
        iintro ⟨H0, H1, H2, H3, H4, H5, H6, H7, H8, H9, H10, H11, H12, H13, HS0, HS1, HS2, HS3, HS4, ⟨Q2, N0⟩, ⟨%W', HW'⟩⟩
        isplitl [HS0 HS1 HS2 HS3 HS4 HT Q2 N0 HA HB HI]
        · iexists (next (grid0.coords t) (ins m c t) (reset (grid0.coords t) (ins m c t)))
          isplitr; · ipureintro; exact fun h hj' => ((used_next m c t h hj').trans (by rw [used_reset m c t hj])).symm
          isplitl [HS0]; · iexact HS0
          isplitl [HS1]; · iexact HS1
          isplitl [HS2]; · iexact HS2
          isplitl [HS3]; · iexact HS3
          isplitl [HS4]; · iexact HS4
          isplitl [Q2 N0 HA HB HI]
          · isplitl [HA]; · iexact HA
            isplitl [Q2 HB]
            · isplitl [Q2]; · iapply (behind_of c (v0of m c) (Ev m c) _ _ (sl_sub2 t.val h2 hN)); iexact Q2
              iexact HB
            isplitl [HI]; · iexact HI
            iexact N0
          iexact HT
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      · rw [Ring.AtBΦ_lt _ _ _ _ _ t.val hN, Ring.AtB22_here _ _ _ _ t.val h2 hN, Ring.AtBΦ_lt _ _ _ _ _ (t.val + 1) (by omega), Ring.AtB22_next _ _ _ _ t.val h2 hN]
        iintro ⟨⟨%S, %hS, HS0, HS1, HS2, HS3, HS4, ⟨⟨HP, HA⟩, HB, HF, HI⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        obtain rfl := hS t.isLt hj
        iapply (runC c t _ _ _ _ _ _ _ _ _ _ _ _ _ _ _ _ _ _ _ _ _ _ _ _ _ _ _ _ _ _ _ _ _ _ _ _ _ _ ((hcond1 t).mpr h2) (fun h => hj ((hcond2 t).mp h)) (fun h => h3 ((hcond3 t).mp h)) (v0of m c) (Ev m c) (ins m c t) (used m c t.val t.isLt) hE W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        isplitl [HP HF]
        · isplitl [HP]; · iexact HP
          iexact HF
        isplitl [HW]; · iexact HW
        iintro ⟨H0, H1, H2, H3, H4, H5, H6, H7, H8, H9, H10, H11, H12, H13, HS0, HS1, HS2, HS3, HS4, ⟨Q2, N0⟩, ⟨%W', HW'⟩⟩
        isplitl [HS0 HS1 HS2 HS3 HS4 HT Q2 N0 HA HB HI]
        · iexists (next (grid0.coords t) (ins m c t) (used m c t.val t.isLt))
          isplitr; · ipureintro; exact fun h hj' => (used_next m c t h hj').symm
          isplitl [HS0]; · iexact HS0
          isplitl [HS1]; · iexact HS1
          isplitl [HS2]; · iexact HS2
          isplitl [HS3]; · iexact HS3
          isplitl [HS4]; · iexact HS4
          isplitl [Q2 N0 HA HB HI]
          · isplitl [HA]; · iexact HA
            isplitl [Q2 HB]
            · isplitl [Q2]; · iapply (behind_of c (v0of m c) (Ev m c) _ _ (sl_sub2 t.val h2 hN)); iexact Q2
              iexact HB
            isplitl [HI]; · iexact HI
            iexact N0
          iexact HT
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
  · have h3 : ¬ t.val + 1 = 64 := by omega
    rcases (show t.val = 0 ∨ t.val = 1 by omega) with h0 | h0
    · have hj : t.val % 16 = 0 := by omega
      rw [used_reset m c t hj] at hE ⊢
      rw [Ring.AtBΦ_lt _ _ _ _ _ t.val hN, Ring.AtB2_zero' 2 _ _ _ _ t.val h0, Ring.AtBΦ_lt _ _ _ _ _ (t.val + 1) (by omega), Ring.AtB22_next_zero' _ _ _ _ t.val h0]
      iintro ⟨⟨%S, %hS, HS0, HS1, HS2, HS3, HS4, ⟨⟨HP, HA⟩, HF, HI⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runA c t _ _ _ _ _ _ _ _ _ _ _ _ _ _ _ _ _ _ _ _ _ _ _ _ _ _ _ _ _ _ _ _ _ _ _ _ _ _ (fun h => h2 ((hcond1 t).mp h)) ((hcond2 t).mpr hj) (fun h => h3 ((hcond3 t).mp h)) (v0of m c) (Ev m c) (ins m c t) hE W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HP HF]
      · isplitl [HP]; · iexact HP
        iexact HF
      isplitl [HW]; · iexact HW
      iintro ⟨H0, H1, H2, H3, H4, H5, H6, H7, H8, H9, H10, H11, H12, H13, HS0, HS1, HS2, HS3, HS4, N0, ⟨%W', HW'⟩⟩
      isplitl [HS0 HS1 HS2 HS3 HS4 HT N0 HA HI]
      · iexists (next (grid0.coords t) (ins m c t) (reset (grid0.coords t) (ins m c t)))
        isplitr; · ipureintro; exact fun h hj' => ((used_next m c t h hj').trans (by rw [used_reset m c t hj])).symm
        isplitl [HS0]; · iexact HS0
        isplitl [HS1]; · iexact HS1
        isplitl [HS2]; · iexact HS2
        isplitl [HS3]; · iexact HS3
        isplitl [HS4]; · iexact HS4
        isplitl [N0 HA HI]
        · isplitl [HA]; · iexact HA
          isplitl [HI]; · iexact HI
          iexact N0
        iexact HT
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hj : ¬ t.val % 16 = 0 := by omega
      rw [Ring.AtBΦ_lt _ _ _ _ _ t.val hN, Ring.AtB22_one' _ _ _ _ t.val h0 (by decide), Ring.AtBΦ_lt _ _ _ _ _ (t.val + 1) (by omega), Ring.AtB22_next_one' _ _ _ _ t.val h0]
      iintro ⟨⟨%S, %hS, HS0, HS1, HS2, HS3, HS4, ⟨⟨HP, HA⟩, HF, HI⟩, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      obtain rfl := hS t.isLt hj
      iapply (runB c t _ _ _ _ _ _ _ _ _ _ _ _ _ _ _ _ _ _ _ _ _ _ _ _ _ _ _ _ _ _ _ _ _ _ _ _ _ _ (fun h => h2 ((hcond1 t).mp h)) (fun h => hj ((hcond2 t).mp h)) (fun h => h3 ((hcond3 t).mp h)) (v0of m c) (Ev m c) (ins m c t) (used m c t.val t.isLt) hE W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HP HF]
      · isplitl [HP]; · iexact HP
        iexact HF
      isplitl [HW]; · iexact HW
      iintro ⟨H0, H1, H2, H3, H4, H5, H6, H7, H8, H9, H10, H11, H12, H13, HS0, HS1, HS2, HS3, HS4, N0, ⟨%W', HW'⟩⟩
      isplitl [HS0 HS1 HS2 HS3 HS4 HT N0 HA HI]
      · iexists (next (grid0.coords t) (ins m c t) (used m c t.val t.isLt))
        isplitr; · ipureintro; exact fun h hj' => (used_next m c t h hj').symm
        isplitl [HS0]; · iexact HS0
        isplitl [HS1]; · iexact HS1
        isplitl [HS2]; · iexact HS2
        isplitl [HS3]; · iexact HS3
        isplitl [HS4]; · iexact HS4
        isplitl [N0 HA HI]
        · isplitl [HA]; · iexact HA
          isplitl [HI]; · iexact HI
          iexact N0
        iexact HT
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The region's definition runs the step's body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into and out of the region -/

/-- The written buffers after the region: the output array filled by the ring. -/
def Gv (c : Dev nD) (b : Ref sig .tc) : Buf (Elt F) ((c.tc : Thread nD τ).loc b) :=
  if h : b = main_v6_0 then h ▸ outAll c (v0of m c) (Ev m c) else V m c b
/-- The ring's output array at the end. -/
theorem Gv_main (c : Dev nD) : Gv m c main_v6_0 = outAll c (v0of m c) (Ev m c) := dif_pos rfl

/-- The region's own semaphores, written out. -/
theorem ownSems0_list (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 20) 0 ∗ semVal ((c : Thread nD τ), SemLoc.dma 21) 0) := by
  rw [Pipeline.ownSems0_eq_of_list c osem [0, 1] (by decide) (by decide)]; rfl

/-- What the region is handed and hands back, spelled out. -/
theorem PhiDRV_eq (c : Dev nD) (G : (c : Dev nD) → (b : Ref sig .tc) → Buf (Elt F) ((c.tc : Thread nD τ).loc b)) :
    (Pipeline.ΦDRV osem spec0 H R (V m) G c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d))
        ∗ iprop(semVal ((c : Thread nD τ), SemLoc.dma 20) 0 ∗ semVal ((c : Thread nD τ), SemLoc.dma 21) 0) ∗ emp ∗ (((c : Thread nD τ).loc main_v6_0) ↦{fullShare} G c main_v6_0)) := by
  unfold Pipeline.ΦDRV
  rw [scopedRest0_eq, ownSems0_list, show H = ∅ from rfl, show R = {main_v6_0} from rfl, BI.bigSep_empty, BI.bigSep_singleton]; simp only [scM0, scM1, scM2, scM3, scM4, scM5, owns_whole]; try rfl

/-- The region is entered with the carried state at anything and the ring before its first step. -/
theorem hin (c : Dev nD) : Pipeline.ΦDRV osem spec0 H R (V m) (V m) c ⊢ (dats m 0 c).Φ 0 := by
  rw [PhiDRV_eq, show (dats m 0 c).Φ 0 = PhiR m c 0 from rfl]
  unfold PhiR
  iintro ⟨⟨⟨%d0, HS0⟩, ⟨%d1, HS1⟩, ⟨%d2, HS2⟩, ⟨%d3, HS3⟩, ⟨%d4, HS4⟩, HS5⟩, HQ, -, HO⟩
  iexists (⟨d0, d1, d2, d3, d4⟩ : St F)
  isplitr; · ipureintro; exact fun _ h => absurd rfl h
  isplitl [HS0]; · iexact HS0
  isplitl [HS1]; · iexact HS1
  isplitl [HS2]; · iexact HS2
  isplitl [HS3]; · iexact HS3
  isplitl [HS4]; · iexact HS4
  iapply (ring_in (F := F) c (v0of m c) (Ev m c))
  isplitl [HS5]; · iexact HS5
  isplitl [HQ]; · iexact HQ
  iexact HO

/-- It is left with the ring drained and the output array filled. -/
theorem hout (c : Dev nD) : (dats m 0 c).Φ (Fin.last cfg0.N) ⊢ Pipeline.ΦDRV osem spec0 H R (V m) (Gv m) c := by
  rw [PhiDRV_eq, Gv_main, show (dats m 0 c).Φ (Fin.last cfg0.N) = PhiR m c grid0.N from rfl]
  unfold PhiR
  rw [show ringAt c (v0of m c) (Ev m c) grid0.N = ringAt c (v0of m c) (Ev m c) 64 by rw [N_0]]
  iintro ⟨%S, -, HS0, HS1, HS2, HS3, HS4, HR, HT⟩
  ihave HX := (ring_out (F := F) c (v0of m c) (Ev m c)) $$ [HR HT]
  · isplitl [HR]; · iexact HR
    iexact HT
  icases HX with ⟨HS5, HQ, HO⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact HS5
  isplitl [HQ]; · iexact HQ
  isplitr; · iempintro
  iexact HO

/-! ## The run -/

set_option maxHeartbeats 800000 in
/-- The program around its one region. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The contents the later host lines start from: the region's arrays and the ring's output. -/
abbrev endVals (c : Dev nD) : Valuation τ sig (Elt F) :=
  Pipeline.withArrays spec0 c (Pipeline.withR (V0 m c) R c (Gv m c)) fun w => (dats m 0 c).arrAt w cfg0.N

set_option backward.isDefEq.respectTransparency.types false in
set_option maxHeartbeats 800000 in
/-- THE RUN: every execution ends, each window's array at what the pipeline wrote, every other buffer at what the later host
    lines leave of it, every counter at zero. -/
theorem run : θ_run defs (onTc (τ := τ) (main (F := F))) ⟨m, fun _ => 0, ρ⟩ (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after hostOps1 (endVals m c) (Proc.devRef .tc b))
      ∧ r.2.sem = fun _ => 0) :=
  Pipeline.θ_run_frame_dmaR_aroundV (Q' := _) cfgs (dats m) (0 : Fin 1) launch0 osem defs₀ Variants.none ownSemFacts H R H_sub R_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gv m)
    (hmain := hmainD m Variants.none) (hA := A_eq m) (hin := hin m) (hout := hout m)
    (hQ' := fun r h => ⟨fun c => ⟨(h.1 c).1, fun b hb => by simpa using (h.1 c).2 b hb⟩, h.2⟩)

end Cert.KernelIdeal.Enc

end

end
-- ==== Proof.KernelIdeal.Frame.lean ====
/-
  The frame of `KernelIdeal`: from the run of `Whole.lean`, every argument of the program ends as it was launched, and every
  semaphore counter ends at zero.
-/
module

public import proofs.«01_k».proof.Proof.KernelIdeal.Whole

@[expose] public section

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option maxHeartbeats 800000 in
/-- No later host line writes `main_arg6`, no window's array or ring output is it: it ends as launched. -/
theorem end_arg6 (c : Dev nD) : StableHlo.after hostOps1 (endVals m c) (Proc.devRef .tc main_arg6) = m ((c : Thread nD τ).loc main_arg6) := by
  rw [StableHlo.after_of_forall_not_mem (b := Proc.devRef .tc main_arg6) _ _ (List.forall_iff_forall_mem.mp (by
      simp only [hostOps1, List.Forall, StableHlo.nullary_writes, StableHlo.unary_writes, StableHlo.reshape_writes, Finset.mem_singleton]
      repeat' apply And.intro
      all_goals exact StableHlo.devRef_ne_of_ne (by decide))),
    endVals, Pipeline.withArrays_of_ne _ c _ _ main_arg6 (by exact (by decide : ∀ w, Pipeline.arrRef spec0 w ≠ main_arg6)),
    Pipeline.withR_of_not_mem _ R c _ main_arg6 (by decide)]
  exact V_main_arg6 m c

set_option maxHeartbeats 800000 in
/-- No later host line writes `main_arg8`, no window's array or ring output is it: it ends as launched. -/
theorem end_arg8 (c : Dev nD) : StableHlo.after hostOps1 (endVals m c) (Proc.devRef .tc main_arg8) = m ((c : Thread nD τ).loc main_arg8) := by
  rw [StableHlo.after_of_forall_not_mem (b := Proc.devRef .tc main_arg8) _ _ (List.forall_iff_forall_mem.mp (by
      simp only [hostOps1, List.Forall, StableHlo.nullary_writes, StableHlo.unary_writes, StableHlo.reshape_writes, Finset.mem_singleton]
      repeat' apply And.intro
      all_goals exact StableHlo.devRef_ne_of_ne (by decide))),
    endVals, Pipeline.withArrays_of_ne _ c _ _ main_arg8 (by exact (by decide : ∀ w, Pipeline.arrRef spec0 w ≠ main_arg8)),
    Pipeline.withR_of_not_mem _ R c _ main_arg8 (by decide)]
  exact V_main_arg8 m c

set_option maxHeartbeats 800000 in
/-- No later host line writes `main_arg10`, no window's array or ring output is it: it ends as launched. -/
theorem end_arg10 (c : Dev nD) : StableHlo.after hostOps1 (endVals m c) (Proc.devRef .tc main_arg10) = m ((c : Thread nD τ).loc main_arg10) := by
  rw [StableHlo.after_of_forall_not_mem (b := Proc.devRef .tc main_arg10) _ _ (List.forall_iff_forall_mem.mp (by
      simp only [hostOps1, List.Forall, StableHlo.nullary_writes, StableHlo.unary_writes, StableHlo.reshape_writes, Finset.mem_singleton]
      repeat' apply And.intro
      all_goals exact StableHlo.devRef_ne_of_ne (by decide))),
    endVals, Pipeline.withArrays_of_ne _ c _ _ main_arg10 (by exact (by decide : ∀ w, Pipeline.arrRef spec0 w ≠ main_arg10)),
    Pipeline.withR_of_not_mem _ R c _ main_arg10 (by decide)]
  exact V_main_arg10 m c

set_option maxHeartbeats 1600000 in
/-- THE FRAME: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).1 5).trans (((dats m 0 c).arrAt_in 5 rfl _).trans ((A_eq m c 5).trans (V_main_arg5 m c))),
    ((h.1 c).2 main_arg6 (Pipeline.mem_restRefs_of main_arg6 (by decide) (by decide))).trans (end_arg6 m c),
    ((h.1 c).1 7).trans (((dats m 0 c).arrAt_in 7 rfl _).trans ((A_eq m c 7).trans (V_main_arg7 m c))),
    ((h.1 c).2 main_arg8 (Pipeline.mem_restRefs_of main_arg8 (by decide) (by decide))).trans (end_arg8 m c),
    ((h.1 c).1 9).trans (((dats m 0 c).arrAt_in 9 rfl _).trans ((A_eq m c 9).trans (V_main_arg9 m c))),
    ((h.1 c).2 main_arg10 (Pipeline.mem_restRefs_of main_arg10 (by decide) (by decide))).trans (end_arg10 m c)⟩, h.2⟩) (run m ρ)

end Cert.KernelIdeal.Enc

end

end
-- ==== Proof.Math.Seq.lean ====
module

public import Idealize.ShloMosaic.Lib.ValueIdx
public import Idealize.ShloMosaic.PureOps.Ideal
public import Mathlib.Analysis.SpecialFunctions.Pow.Real

@[expose] public section

noncomputable section

namespace Cert.Enc

/-- The running maximum of the first `k` values (`⊥` of none). -/
def mxE (x : ℕ → EReal) : ℕ → EReal
  | 0 => ⊥
  | k + 1 => max (mxE x k) (x k)

open Classical in
/-- The last time among the first `k` at which a value exceeds all before it (`-1` when none does). -/
def agI (x : ℕ → EReal) : ℕ → ℤ
  | 0 => -1
  | k + 1 => if mxE x k < x k then (k : ℤ) else agI x k

/-- The sum of the first `k` values. -/
def csE (x : ℕ → EReal) (k : ℕ) : EReal := ∑ s ∈ Finset.range k, x s

/-- The position is −1 or one of the first `k` times. -/
theorem agI_bounds (x : ℕ → EReal) : ∀ k, -1 ≤ agI x k ∧ agI x k < k
  | 0 => by simp [agI]
  | k + 1 => by
    have h := agI_bounds x k
    unfold agI
    split_ifs <;> push_cast <;> omega

/-- The maximum with `K` of the first `k` values. -/
def fold (K : EReal) (f : ℕ → EReal) : ℕ → EReal
  | 0 => K
  | k + 1 => max (fold K f k) (f k)

/-- A bound of the maximum is a bound of all it is taken of. -/
theorem fold_le (K : EReal) (f : ℕ → EReal) (n : ℕ) (M : EReal) :
    fold K f n ≤ M ↔ K ≤ M ∧ ∀ i < n, f i ≤ M := by
  induction n with
  | zero => simp [fold]
  | succ n ih =>
    rw [fold, max_le_iff, ih]
    constructor
    · rintro ⟨⟨h1, h2⟩, h3⟩
      refine ⟨h1, fun i hi => ?_⟩
      rcases Nat.lt_succ_iff_lt_or_eq.1 hi with h | h
      · exact h2 i h
      · exact h ▸ h3
    · rintro ⟨h1, h2⟩
      exact ⟨⟨h1, fun i hi => h2 i (by omega)⟩, h2 n (by omega)⟩

/-- One stage of the block scan: each place's maximum with the place `w` before it, `c` where there is none. -/
def stg (c : EReal) (w : ℕ) (g : Fin 128 → EReal) (r : Fin 128) : EReal :=
  max (g r) (if h : r.val < w then c else g ⟨r.val - w, by omega⟩)

/-- `g` holds each place's maximum over the `w` places up to it, of `f` and the filler `c`. -/
def IsWin (c : EReal) (w : ℕ) (f g : Fin 128 → EReal) : Prop :=
  ∀ (r : Fin 128) (M : EReal), g r ≤ M ↔ (∀ i < w, ∀ h : i ≤ r.val, f ⟨r.val - i, by omega⟩ ≤ M) ∧ (r.val + 1 < w → c ≤ M)

/-- Each value is the maximum of the one place up to it. -/
theorem isWin_one (c : EReal) (f : Fin 128 → EReal) : IsWin c 1 f f := by
  intro r M
  constructor
  · intro h
    exact ⟨fun i hi hr => by have : i = 0 := by omega
                             subst this; exact h, fun h1 => by omega⟩
  · rintro ⟨h, -⟩
    exact h 0 (by omega) (by omega)

/-- A stage doubles the window. -/
theorem isWin_stg (c : EReal) (w : ℕ) (hw : 0 < w) (f g : Fin 128 → EReal) (h : IsWin c w f g) :
    IsWin c (w + w) f (stg c w g) := by
  intro r M
  unfold stg
  rw [max_le_iff, h r M]
  by_cases hr : r.val < w
  · rw [dif_pos hr]
    constructor
    · rintro ⟨⟨h1, -⟩, h3⟩
      refine ⟨fun i hi hir => h1 i (by omega) hir, fun _ => h3⟩
    · rintro ⟨h1, h2⟩
      exact ⟨⟨fun i hi hir => h1 i (by omega) hir, fun hh => h2 (by omega)⟩, h2 (by omega)⟩
  · rw [dif_neg hr, h ⟨r.val - w, by omega⟩ M]
    constructor
    · rintro ⟨⟨h1, h2⟩, h3, h4⟩
      refine ⟨fun i hi hir => ?_, fun hh => h4 (by simp only; omega)⟩
      by_cases hiw : i < w
      · exact h1 i hiw hir
      · have := h3 (i - w) (by omega) (by simp only; omega)
        have e : (⟨r.val - w - (i - w), by omega⟩ : Fin 128) = ⟨r.val - i, by omega⟩ := Fin.ext (by simp only; omega)
        rw [← e]; exact this
    · rintro ⟨h1, h2⟩
      refine ⟨⟨fun i hi hir => h1 i (by omega) hir, fun hh => by omega⟩, fun i hi hir => ?_, fun hh => h2 (by simp only at hh; omega)⟩
      have := h1 (i + w) (by omega) (by simp only at hir; omega)
      have e : (⟨r.val - w - i, by omega⟩ : Fin 128) = ⟨r.val - (i + w), by omega⟩ := Fin.ext (by simp only; omega)
      rw [e]; exact this

/-- The block's seven-stage scan. -/
def scan7 (c : EReal) (f : Fin 128 → EReal) : Fin 128 → EReal :=
  stg c 64 (stg c 32 (stg c 16 (stg c 8 (stg c 4 (stg c 2 (stg c 1 f))))))

/-- The scan with a carry at least the filler is the running maximum that starts from the carry. -/
theorem scan7_fold (c K : EReal) (hc : c ≤ K) (f : Fin 128 → EReal) (F : ℕ → EReal) (hF : ∀ r : Fin 128, f r = F r.val) (r : Fin 128) :
    max (scan7 c f r) K = fold K F (r.val + 1) := by
  have h7 : IsWin c 128 f (scan7 c f) :=
    isWin_stg c 64 (by omega) _ _ <| isWin_stg c 32 (by omega) _ _ <| isWin_stg c 16 (by omega) _ _ <| isWin_stg c 8 (by omega) _ _ <|
    isWin_stg c 4 (by omega) _ _ <| isWin_stg c 2 (by omega) _ _ <| isWin_stg c 1 (by omega) _ _ <| isWin_one c f
  refine eq_of_forall_ge_iff fun M => ?_
  rw [max_le_iff, fold_le, h7 r M]
  constructor
  · rintro ⟨⟨h1, -⟩, h3⟩
    refine ⟨h3, fun i hi => ?_⟩
    have := h1 (r.val - i) (by omega) (by omega)
    rw [hF] at this
    simpa only [show r.val - (r.val - i) = i by omega] using this
  · rintro ⟨h1, h2⟩
    refine ⟨⟨fun i hi hir => ?_, fun _ => hc.trans h1⟩, h1⟩
    rw [hF]
    exact h2 _ (by simp only; omega)

/-- The running maximum goes on from a carry. -/
theorem fold_mxE (x : ℕ → EReal) (a : ℕ) : ∀ k, fold (mxE x a) (fun i => x (a + i)) k = mxE x (a + k)
  | 0 => rfl
  | k + 1 => by rw [fold, fold_mxE x a k]; rfl

open Classical in
/-- The position goes on from a carry, as a maximum of candidate times. -/
theorem fold_agI (x : ℕ → EReal) (a : ℕ) : ∀ k,
    fold ((agI x a : ℝ) : EReal) (fun i => if mxE x (a + i) < x (a + i) then (((a + i : ℕ) : ℝ) : EReal) else ((-1 : ℝ) : EReal)) k
      = ((agI x (a + k) : ℝ) : EReal)
  | 0 => rfl
  | k + 1 => by
    rw [fold, fold_agI x a k]
    have hb := agI_bounds x (a + k)
    show _ = ((agI x (a + k + 1) : ℝ) : EReal)
    rw [agI]
    split_ifs with h
    · rw [max_eq_right]
      · simp
      · rw [EReal.coe_le_coe_iff]
        exact_mod_cast hb.2.le
    · rw [max_eq_left]
      rw [EReal.coe_le_coe_iff]
      exact_mod_cast hb.1

/-- The running sum goes on from a carry. -/
theorem csE_add (x : ℕ → EReal) (a k : ℕ) : csE x (a + k) = csE x a + ∑ s ∈ Finset.range k, x (a + s) := by
  unfold csE; rw [Finset.sum_range_add]

end Cert.Enc

end

end
-- ==== Proof.KernelIdeal.Pay.lean ====
module

public import proofs.«01_k».proof.Proof.KernelIdeal.Values
public import proofs.«01_k».proof.Proof.Math.Seq
public import Idealize.ShloMosaic.Lib.ValueIdx
public import Idealize.ShloMosaic.Lib.ValueLayout
public import Idealize.ShloMosaic.Lib.Pipeline.Value
public import Idealize.ShloMosaic.PureOps.Ideal.Laws

@[expose] public section

set_option maxRecDepth 16384

noncomputable section

namespace Cert.KernelIdeal.Enc

open Idealize.ShloMosaic Idealize.ShloMosaic.TcCoe Idealize.ShloMosaic.ValueIdx
open Cert.KernelIdeal Cert.KernelIdeal.Gen Cert.Enc

/-! ## Products of matrices, at an index -/

/-- The tile's product with a row block of the weights, entry by entry. -/
theorem mmA (φ₁ φ₂ : FTy) (l : FVec Ideal S1024x256 φ₁) (r : FVec Ideal S256x256 φ₂) (i : Fin 1024) (j : Fin 256) :
    matmul dot_S1024x256_S256x256_S1024x256_1_0_0_1_n_n none l r (constant S1024x256 .f32 0x00000000#32) (ix2 i j)
      = ∑ k : Fin 256, l (ix2 i k) * r (ix2 k j) := by
  refine (Ideal.matmul_constant_zero_apply _ _ l r (ix2 i j)).trans ?_
  refine Fintype.sum_equiv (contrEquiv1 dot_S1024x256_S256x256_S1024x256_1_0_0_1_n_n 256 rfl rfl) _ _ (fun q => ?_)
  refine congrArg₂ (· * ·) (congrArg l ?_) (congrArg r ?_) <;>
    · funext a; match a with
      | ⟨0, _⟩ => rfl
      | ⟨1, _⟩ => rfl

/-- The product with the triangle, entry by entry. -/
theorem mmT (φ₁ φ₂ : FTy) (l : FVec Ideal S128x128 φ₁) (r : FVec Ideal S128x256 φ₂) (i : Fin 128) (j : Fin 256) :
    matmul dot_S128x128_S128x256_S128x256_1_0_0_1_n_n none l r (constant S128x256 .f32 0x00000000#32) (ix2 i j)
      = ∑ k : Fin 128, l (ix2 i k) * r (ix2 k j) := by
  refine (Ideal.matmul_constant_zero_apply _ _ l r (ix2 i j)).trans ?_
  refine Fintype.sum_equiv (contrEquiv1 dot_S128x128_S128x256_S128x256_1_0_0_1_n_n 128 rfl rfl) _ _ (fun q => ?_)
  refine congrArg₂ (· * ·) (congrArg l ?_) (congrArg r ?_) <;>
    · funext a; match a with
      | ⟨0, _⟩ => rfl
      | ⟨1, _⟩ => rfl

/-- The demography's first product, entry by entry. -/
theorem mmD1 (φ₁ φ₂ : FTy) (l : FVec Ideal S32x8 φ₁) (r : FVec Ideal S8x40 φ₂) (i : Fin 32) (j : Fin 40) :
    matmul dot_S32x8_S8x40_S32x40_1_0_0_1_n_n none l r (constant S32x40 .f32 0x00000000#32) (ix2 i j)
      = ∑ k : Fin 8, l (ix2 i k) * r (ix2 k j) := by
  refine (Ideal.matmul_constant_zero_apply _ _ l r (ix2 i j)).trans ?_
  refine Fintype.sum_equiv (contrEquiv1 dot_S32x8_S8x40_S32x40_1_0_0_1_n_n 8 rfl rfl) _ _ (fun q => ?_)
  refine congrArg₂ (· * ·) (congrArg l ?_) (congrArg r ?_) <;>
    · funext a; match a with
      | ⟨0, _⟩ => rfl
      | ⟨1, _⟩ => rfl

/-- The demography's second product, entry by entry. -/
theorem mmD2 (φ₁ φ₂ : FTy) (l : FVec Ideal S32x40 φ₁) (r : FVec Ideal S40x20 φ₂) (i : Fin 32) (j : Fin 20) :
    matmul dot_S32x40_S40x20_S32x20_1_0_0_1_n_n none l r (constant S32x20 .f32 0x00000000#32) (ix2 i j)
      = ∑ k : Fin 40, l (ix2 i k) * r (ix2 k j) := by
  refine (Ideal.matmul_constant_zero_apply _ _ l r (ix2 i j)).trans ?_
  refine Fintype.sum_equiv (contrEquiv1 dot_S32x40_S40x20_S32x20_1_0_0_1_n_n 40 rfl rfl) _ _ (fun q => ?_)
  refine congrArg₂ (· * ·) (congrArg l ?_) (congrArg r ?_) <;>
    · funext a; match a with
      | ⟨0, _⟩ => rfl
      | ⟨1, _⟩ => rfl

/-- The demography's part of the linear layer, entry by entry. -/
theorem mmD3 (φ₁ φ₂ : FTy) (l : FVec Ideal S8x20 φ₁) (r : FVec Ideal S20x256 φ₂) (i : Fin 8) (j : Fin 256) :
    matmul dot_S8x20_S20x256_S8x256_1_0_0_1_n_n none l r (constant S8x256 .f32 0x00000000#32) (ix2 i j)
      = ∑ k : Fin 20, l (ix2 i k) * r (ix2 k j) := by
  refine (Ideal.matmul_constant_zero_apply _ _ l r (ix2 i j)).trans ?_
  refine Fintype.sum_equiv (contrEquiv1 dot_S8x20_S20x256_S8x256_1_0_0_1_n_n 20 rfl rfl) _ _ (fun q => ?_)
  refine congrArg₂ (· * ·) (congrArg l ?_) (congrArg r ?_) <;>
    · funext a; match a with
      | ⟨0, _⟩ => rfl
      | ⟨1, _⟩ => rfl

/-! ## Reshapes and broadcasts, at an index -/

section Layout
variable {α : Type}

/-- Row `128 b + r` of the flattened block. -/
def fl (b : Fin 8) (r : Fin 128) : Fin 1024 := ⟨128 * b.val + r.val, by omega⟩

/-- Subjects and times flattened, at an index. -/
theorem sc_fl (v : S8x128x256.Idx → α) (h : S8x128x256.ShapeCasts S1024x256) (b : Fin 8) (r : Fin 128) (d : Fin 256) :
    shapeCast S1024x256 v h (ix2 (fl b r) d) = v (ix3 b r d) :=
  shapeCast_apply v h _ _ (by
    rw [Shape.rowMajor_val_three, Shape.rowMajor_val_two]
    show (b.val * 128 + r.val) * 256 + d.val = (128 * b.val + r.val) * 256 + d.val
    omega)

/-- Subjects and times apart again, at an index. -/
theorem sc_unfl (v : S1024x256.Idx → α) (h : S1024x256.ShapeCasts S8x128x256) (b : Fin 8) (r : Fin 128) (d : Fin 256) :
    shapeCast S8x128x256 v h (ix3 b r d) = v (ix2 (fl b r) d) :=
  shapeCast_apply v h _ _ (by
    rw [Shape.rowMajor_val_three, Shape.rowMajor_val_two]
    show (128 * b.val + r.val) * 256 + d.val = (b.val * 128 + r.val) * 256 + d.val
    omega)

/-- A unit axis put in the middle, at an index. -/
theorem sc_mid (v : S8x256.Idx → α) (h : S8x256.ShapeCasts S8x1x256) (b : Fin 8) (u : Fin 1) (d : Fin 256) :
    shapeCast S8x1x256 v h (ix3 b u d) = v (ix2 b d) :=
  shapeCast_apply v h _ _ (by
    rw [Shape.rowMajor_val_three, Shape.rowMajor_val_two]
    show b.val * 256 + d.val = (b.val * 1 + u.val) * 256 + d.val
    have := u.isLt; omega)

/-- A unit axis taken from the middle, at an index. -/
theorem sc_unmid (v : S8x1x256.Idx → α) (h : S8x1x256.ShapeCasts S8x256) (b : Fin 8) (d : Fin 256) :
    shapeCast S8x256 v h (ix2 b d) = v (ix3 b (0 : Fin 1) d) :=
  shapeCast_apply v h _ _ (by
    rw [Shape.rowMajor_val_three, Shape.rowMajor_val_two]
    show (b.val * 1 + 0) * 256 + d.val = b.val * 256 + d.val
    omega)

/-- A broadcast over the times, at an index. -/
theorem bc_mid (v : S8x1x256.Idx → α) (h : S8x1x256.Broadcasts S8x128x256) (b : Fin 8) (r : Fin 128) (d : Fin 256) :
    broadcastTo S8x128x256 v h (ix3 b r d) = v (ix3 b (0 : Fin 1) d) :=
  broadcastTo_apply v h _ _ (fun a => by
    match a with
    | ⟨0, _⟩ => rfl
    | ⟨1, _⟩ => rfl
    | ⟨2, _⟩ => rfl)

/-- A broadcast over the channels, at an index. -/
theorem bc_row (v : S1x256.Idx → α) (h : S1x256.Broadcasts S128x256) (r : Fin 128) (d : Fin 256) :
    broadcastTo S128x256 v h (ix2 r d) = v (ix2 (0 : Fin 1) d) :=
  broadcastTo_apply v h _ _ (fun a => by
    match a with
    | ⟨0, _⟩ => rfl
    | ⟨1, _⟩ => rfl)

end Layout

/-! ## The linear layer on a block -/

variable (i : grid0.Coords) (X : Ins Ideal) (S : St Ideal)

/-- The block of the linear layer, at an index. -/
theorem xt_apply (b : Fin 8) (r : Fin 128) (d : Fin 256) :
    xt X S (ix3 b r d) = ((((∑ k : Fin 256, X.x1 (ix3 b r k) * X.w0 (ix2 k d)) + ∑ k : Fin 256, X.x2 (ix3 b r k) * X.w1 (ix2 k d))
      + ∑ k : Fin 256, X.x3 (ix3 b r k) * X.w2 (ix2 k d)) + ∑ k : Fin 256, X.x4 (ix3 b r k) * X.w3 (ix2 k d)) + S.s4 (ix2 b d) := by
  unfold xt k0_pay11
  simp only [addf_apply, sc_unfl, bc_mid, sc_mid, mmA, truncf_apply]
  unfold k0_pay10
  simp only [addf_apply, mmA, truncf_apply, sc_fl]
  unfold k0_pay8 k0_pay9
  simp only [sc_fl]

/-- The rounded part is the value itself, over the reals. -/
theorem xhi_apply (b : Fin 8) (r : Fin 128) (d : Fin 256) : xhi X S (ix2 (fl b r) d) = xt X S (ix3 b r d) := by
  unfold xhi k0_pay13 k0_pay12
  simp only [truncf_apply, sc_fl]
  rfl

/-- The rest is the value less itself. -/
theorem xlo_apply (b : Fin 8) (r : Fin 128) (d : Fin 256) : xlo X S (ix2 (fl b r) d) = xt X S (ix3 b r d) - xt X S (ix3 b r d) := by
  unfold xlo k0_pay14 k0_pay13 k0_pay12
  simp only [truncf_apply, extf_apply, subf_apply, sc_fl]
  rfl

/-! ## The running sums -/

/-- Subject `b`'s running sums from the triangle's rows. -/
def cuE (b : Fin 8) (r : Fin 128) (d : Fin 256) : EReal :=
  (∑ s : Fin 128, X.x11 (ix2 r s) * xt X S (ix3 b s d)) + (∑ s : Fin 128, X.x11 (ix2 r s) * (xt X S (ix3 b s d) - xt X S (ix3 b s d)))
    + S.s0 (ix2 b d)

/-- The triangle is the window's array. -/
theorem tri_eq : tri X = X.x11 := by
  unfold tri k0_pay15
  exact shapeCast_self _ _

/-- The running sums of one subject, of the generic form in which each is written. -/
theorem cu_form (o : ℕ) (b : Fin 8) (ho : o = 128 * b.val) (h1 h2 : S1024x256.Slices ![o, 0] S128x256)
    (hb : S1x256.Broadcasts S128x256) (h3 : S8x256.Slices ![b.val, 0] S1x256) (r : Fin 128) (d : Fin 256) :
    addf (addf (matmul dot_S128x128_S128x256_S128x256_1_0_0_1_n_n none (tri X) (extractStridedSlice S128x256 ![o, 0] (xhi X S) h1) (constant S128x256 .f32 0x00000000#32))
        (matmul dot_S128x128_S128x256_S128x256_1_0_0_1_n_n none (tri X) (extractStridedSlice S128x256 ![o, 0] (xlo X S) h2) (constant S128x256 .f32 0x00000000#32)))
      (broadcastTo S128x256 (extractStridedSlice S1x256 ![b.val, 0] S.s0 h3) hb) (ix2 r d) = cuE X S b r d := by
  subst ho
  unfold cuE
  rw [addf_apply, addf_apply, mmT, mmT, bc_row, tri_eq]
  refine congrArg₂ (· + ·) (congrArg₂ (· + ·) ?_ ?_) ?_
  · refine Finset.sum_congr rfl fun s _ => congrArg (X.x11 (ix2 r s) * ·) ?_
    rw [slice2_axis0_apply _ _ _ _ _ (fl b s) rfl, xhi_apply]
  · refine Finset.sum_congr rfl fun s _ => congrArg (X.x11 (ix2 r s) * ·) ?_
    rw [slice2_axis0_apply _ _ _ _ _ (fl b s) rfl, xlo_apply]
  · exact slice2_axis0_apply _ _ _ _ _ b rfl

/-- This subject's running sum. -/
theorem cu0_apply (r : Fin 128) (d : Fin 256) : cu0 X S (ix2 r d) = cuE X S 0 r d := cu_form X S 0 0 rfl _ _ _ _ r d
/-- This subject's running sum. -/
theorem cu1_apply (r : Fin 128) (d : Fin 256) : cu1 X S (ix2 r d) = cuE X S 1 r d := cu_form X S 128 1 rfl _ _ _ _ r d
/-- This subject's running sum. -/
theorem cu2_apply (r : Fin 128) (d : Fin 256) : cu2 X S (ix2 r d) = cuE X S 2 r d := cu_form X S 256 2 rfl _ _ _ _ r d
/-- This subject's running sum. -/
theorem cu3_apply (r : Fin 128) (d : Fin 256) : cu3 X S (ix2 r d) = cuE X S 3 r d := cu_form X S 384 3 rfl _ _ _ _ r d
/-- This subject's running sum. -/
theorem cu4_apply (r : Fin 128) (d : Fin 256) : cu4 X S (ix2 r d) = cuE X S 4 r d := cu_form X S 512 4 rfl _ _ _ _ r d
/-- This subject's running sum. -/
theorem cu5_apply (r : Fin 128) (d : Fin 256) : cu5 X S (ix2 r d) = cuE X S 5 r d := cu_form X S 640 5 rfl _ _ _ _ r d
/-- This subject's running sum. -/
theorem cu6_apply (r : Fin 128) (d : Fin 256) : cu6 X S (ix2 r d) = cuE X S 6 r d := cu_form X S 768 6 rfl _ _ _ _ r d
/-- This subject's running sum. -/
theorem cu7_apply (r : Fin 128) (d : Fin 256) : cu7 X S (ix2 r d) = cuE X S 7 r d := cu_form X S 896 7 rfl _ _ _ _ r d

/-- Eight blocks one below the other, at an index. -/
theorem cat8 (p0 p1 p2 p3 p4 p5 p6 p7 : S128x256.Idx → EReal) (hc : Shape.Concatenates [S128x256, S128x256, S128x256, S128x256, S128x256, S128x256, S128x256, S128x256] S1024x256 0) (b : Fin 8) (r : Fin 128) (d : Fin 256)
    (j : S1024x256.Idx) (hj0 : (j 0).val = 128 * b.val + r.val) (hj1 : (j 1).val = d.val) :
    concatenate S1024x256 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j = (![p0, p1, p2, p3, p4, p5, p6, p7] : Fin 8 → S128x256.Idx → EReal) b (ix2 r d) := by
  have hj (a : Fin 2) (ha : a ≠ 0) : (ix2 r d a).val = (j a).val := by
    match a with
    | ⟨0, _⟩ => exact absurd rfl ha
    | ⟨1, _⟩ => exact hj1.symm
  match b, hj0 with
  | ⟨0, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 0 (by show 0 < 8; decide) S128x256 p0 rfl rfl 0 rfl (ix2 r d) hj (by
      rw [hj0]; rfl)
  | ⟨1, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 1 (by show 1 < 8; decide) S128x256 p1 rfl rfl 128 rfl (ix2 r d) hj (by
      rw [hj0]; rfl)
  | ⟨2, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 2 (by show 2 < 8; decide) S128x256 p2 rfl rfl 256 rfl (ix2 r d) hj (by
      rw [hj0]; rfl)
  | ⟨3, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 3 (by show 3 < 8; decide) S128x256 p3 rfl rfl 384 rfl (ix2 r d) hj (by
      rw [hj0]; rfl)
  | ⟨4, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 4 (by show 4 < 8; decide) S128x256 p4 rfl rfl 512 rfl (ix2 r d) hj (by
      rw [hj0]; rfl)
  | ⟨5, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 5 (by show 5 < 8; decide) S128x256 p5 rfl rfl 640 rfl (ix2 r d) hj (by
      rw [hj0]; rfl)
  | ⟨6, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 6 (by show 6 < 8; decide) S128x256 p6 rfl rfl 768 rfl (ix2 r d) hj (by
      rw [hj0]; rfl)
  | ⟨7, _⟩, hj0 => exact concatenate_apply_piece 0 [⟨S128x256, p0⟩, ⟨S128x256, p1⟩, ⟨S128x256, p2⟩, ⟨S128x256, p3⟩, ⟨S128x256, p4⟩, ⟨S128x256, p5⟩, ⟨S128x256, p6⟩, ⟨S128x256, p7⟩] hc j 7 (by show 7 < 8; decide) S128x256 p7 rfl rfl 896 rfl (ix2 r d) hj (by
      rw [hj0]; rfl)

/-- Eight rows one below the other, at an index. -/
theorem cat8r (p0 p1 p2 p3 p4 p5 p6 p7 : S1x256.Idx → EReal) (hc : Shape.Concatenates [S1x256, S1x256, S1x256, S1x256, S1x256, S1x256, S1x256, S1x256] S8x256 0) (b : Fin 8) (r : Fin 1) (d : Fin 256)
    (j : S8x256.Idx) (hj0 : (j 0).val = 1 * b.val + r.val) (hj1 : (j 1).val = d.val) :
    concatenate S8x256 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j = (![p0, p1, p2, p3, p4, p5, p6, p7] : Fin 8 → S1x256.Idx → EReal) b (ix2 r d) := by
  have hj (a : Fin 2) (ha : a ≠ 0) : (ix2 r d a).val = (j a).val := by
    match a with
    | ⟨0, _⟩ => exact absurd rfl ha
    | ⟨1, _⟩ => exact hj1.symm
  match b, hj0 with
  | ⟨0, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 0 (by show 0 < 8; decide) S1x256 p0 rfl rfl 0 rfl (ix2 r d) hj (by
      rw [hj0]; rfl)
  | ⟨1, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 1 (by show 1 < 8; decide) S1x256 p1 rfl rfl 1 rfl (ix2 r d) hj (by
      rw [hj0]; rfl)
  | ⟨2, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 2 (by show 2 < 8; decide) S1x256 p2 rfl rfl 2 rfl (ix2 r d) hj (by
      rw [hj0]; rfl)
  | ⟨3, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 3 (by show 3 < 8; decide) S1x256 p3 rfl rfl 3 rfl (ix2 r d) hj (by
      rw [hj0]; rfl)
  | ⟨4, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 4 (by show 4 < 8; decide) S1x256 p4 rfl rfl 4 rfl (ix2 r d) hj (by
      rw [hj0]; rfl)
  | ⟨5, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 5 (by show 5 < 8; decide) S1x256 p5 rfl rfl 5 rfl (ix2 r d) hj (by
      rw [hj0]; rfl)
  | ⟨6, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 6 (by show 6 < 8; decide) S1x256 p6 rfl rfl 6 rfl (ix2 r d) hj (by
      rw [hj0]; rfl)
  | ⟨7, _⟩, hj0 => exact concatenate_apply_piece 0 [⟨S1x256, p0⟩, ⟨S1x256, p1⟩, ⟨S1x256, p2⟩, ⟨S1x256, p3⟩, ⟨S1x256, p4⟩, ⟨S1x256, p5⟩, ⟨S1x256, p6⟩, ⟨S1x256, p7⟩] hc j 7 (by show 7 < 8; decide) S1x256 p7 rfl rfl 7 rfl (ix2 r d) hj (by
      rw [hj0]; rfl)

/-- The running sums of all subjects. -/
theorem cum_apply (b : Fin 8) (r : Fin 128) (d : Fin 256) : cum X S (ix3 b r d) = cuE X S b r d := by
  unfold cum k0_pay34
  rw [sc_unfl]
  refine (cat8 _ _ _ _ _ _ _ _ _ b r d _ rfl rfl).trans ?_
  match b with
  | ⟨0, _⟩ => exact cu0_apply X S r d
  | ⟨1, _⟩ => exact cu1_apply X S r d
  | ⟨2, _⟩ => exact cu2_apply X S r d
  | ⟨3, _⟩ => exact cu3_apply X S r d
  | ⟨4, _⟩ => exact cu4_apply X S r d
  | ⟨5, _⟩ => exact cu5_apply X S r d
  | ⟨6, _⟩ => exact cu6_apply X S r d
  | ⟨7, _⟩ => exact cu7_apply X S r d

/-- The last row of a subject's running sums. -/
theorem last_row (v : FVec Ideal S128x256 .f32) (h : S128x256.Slices ![127, 0] S1x256) (d : Fin 256) :
    extractStridedSlice S1x256 ![127, 0] v h (ix2 (0 : Fin 1) d) = v (ix2 (127 : Fin 128) d) :=
  slice2_axis0_apply _ _ _ _ _ _ rfl

/-- The sum carried on is the tile's last. -/
theorem ns0_apply (b : Fin 8) (d : Fin 256) : ns0 X S (ix2 b d) = cuE X S b 127 d := by
  unfold ns0 k0_pay35
  rw [shapeCast_self]
  refine (cat8r _ _ _ _ _ _ _ _ _ b (0 : Fin 1) d _ (by show b.val = 1 * b.val + 0; omega) rfl).trans ?_
  match b with
  | ⟨0, _⟩ => exact (last_row (cu0 X S) slices_S128x256_o127_0_S1x256 d).trans (cu0_apply X S 127 d)
  | ⟨1, _⟩ => exact (last_row (cu1 X S) slices_S128x256_o127_0_S1x256 d).trans (cu1_apply X S 127 d)
  | ⟨2, _⟩ => exact (last_row (cu2 X S) slices_S128x256_o127_0_S1x256 d).trans (cu2_apply X S 127 d)
  | ⟨3, _⟩ => exact (last_row (cu3 X S) slices_S128x256_o127_0_S1x256 d).trans (cu3_apply X S 127 d)
  | ⟨4, _⟩ => exact (last_row (cu4 X S) slices_S128x256_o127_0_S1x256 d).trans (cu4_apply X S 127 d)
  | ⟨5, _⟩ => exact (last_row (cu5 X S) slices_S128x256_o127_0_S1x256 d).trans (cu5_apply X S 127 d)
  | ⟨6, _⟩ => exact (last_row (cu6 X S) slices_S128x256_o127_0_S1x256 d).trans (cu6_apply X S 127 d)
  | ⟨7, _⟩ => exact (last_row (cu7 X S) slices_S128x256_o127_0_S1x256 d).trans (cu7_apply X S 127 d)

/-! ## The scans -/

/-- The word of −∞. -/
theorem ofBits_ninf : Ideal.ofBits .f32 0xFF800000#32 = ⊥ := by simp [Ideal.ofBits, Ideal.ieee]
/-- The word of −1. -/
theorem ofBits_none : Ideal.ofBits .f32 0xBF800000#32 = ((-1 : ℝ) : EReal) := by
  simp [Ideal.ofBits, Ideal.ieee]
  rw [← EReal.coe_mul]; norm_num

/-- One stage of a block scan, as an array. -/
def stA (w w' : ℕ) (c : EReal) (hs : S8x128x256.Slices ![0, 0, 0] ⟨3, ![8, w', 256]⟩)
    (hc : Shape.Concatenates [(⟨3, ![8, w, 256]⟩ : Shape), ⟨3, ![8, w', 256]⟩] S8x128x256 1)
    (x : FVec Ideal S8x128x256 .f32) : FVec Ideal S8x128x256 .f32 :=
  maximumf x (concatenate S8x128x256 1 [⟨⟨3, ![8, w, 256]⟩, broadcast ⟨3, ![8, w, 256]⟩ c⟩, ⟨⟨3, ![8, w', 256]⟩, extractStridedSlice ⟨3, ![8, w', 256]⟩ ![0, 0, 0] x hs⟩] hc)

/-- A block moved `w` rows down under the rows `g`, at an index. -/
theorem cat_shift (w w' : ℕ) (hw : w + w' = 128) (g : (⟨3, ![8, w, 256]⟩ : Shape).Idx → EReal) (x : S8x128x256.Idx → EReal)
    (hs : S8x128x256.Slices ![0, 0, 0] ⟨3, ![8, w', 256]⟩)
    (hc : Shape.Concatenates [(⟨3, ![8, w, 256]⟩ : Shape), ⟨3, ![8, w', 256]⟩] S8x128x256 1) (b : Fin 8) (r : Fin 128) (d : Fin 256) :
    concatenate S8x128x256 1 [⟨⟨3, ![8, w, 256]⟩, g⟩, ⟨⟨3, ![8, w', 256]⟩, extractStridedSlice ⟨3, ![8, w', 256]⟩ ![0, 0, 0] x hs⟩] hc (ix3 b r d)
      = if h : r.val < w then g (ix3 b ⟨r.val, h⟩ d) else x (ix3 b ⟨r.val - w, by omega⟩ d) := by
  by_cases hr : r.val < w
  · rw [dif_pos hr]
    exact concatenate_pair_apply_left _ _ _ hc _ rfl (ix3 b ⟨r.val, hr⟩ d) (fun a => by
      match a with
      | ⟨0, _⟩ => rfl
      | ⟨1, _⟩ => rfl
      | ⟨2, _⟩ => rfl)
  · rw [dif_neg hr]
    refine (concatenate_pair_apply_right _ _ _ hc _ rfl rfl (ix3 b ⟨r.val - w, by omega⟩ d) (fun a ha => by
      match a with
      | ⟨0, _⟩ => rfl
      | ⟨1, _⟩ => exact absurd rfl ha
      | ⟨2, _⟩ => rfl) (by show r.val - w + w = r.val; omega)).trans ?_
    exact slice3_axis1_apply _ _ _ _ _ _ ⟨r.val - w, by omega⟩ (by simp)

/-- One stage of the scan in a tile, entry by entry. -/
theorem stA_apply (w w' : ℕ) (hw : w + w' = 128) (c : EReal) (hs : S8x128x256.Slices ![0, 0, 0] ⟨3, ![8, w', 256]⟩)
    (hc : Shape.Concatenates [(⟨3, ![8, w, 256]⟩ : Shape), ⟨3, ![8, w', 256]⟩] S8x128x256 1)
    (x : FVec Ideal S8x128x256 .f32) (b : Fin 8) (r : Fin 128) (d : Fin 256) :
    stA w w' c hs hc x (ix3 b r d) = stg c w (fun r => x (ix3 b r d)) r := by
  unfold stA
  rw [maximumf_apply, cat_shift w w' hw]
  rfl

/-- The block's seven stages. -/
def sevA (c : EReal) (x : FVec Ideal S8x128x256 .f32) : FVec Ideal S8x128x256 .f32 :=
  stA 64 64 c slices_S8x128x256_o0_0_0_S8x64x256 concatenates_S8x64x256_S8x64x256_S8x128x256_d1 <|
  stA 32 96 c slices_S8x128x256_o0_0_0_S8x96x256 concatenates_S8x32x256_S8x96x256_S8x128x256_d1 <|
  stA 16 112 c slices_S8x128x256_o0_0_0_S8x112x256 concatenates_S8x16x256_S8x112x256_S8x128x256_d1 <|
  stA 8 120 c slices_S8x128x256_o0_0_0_S8x120x256 concatenates_S8x8x256_S8x120x256_S8x128x256_d1 <|
  stA 4 124 c slices_S8x128x256_o0_0_0_S8x124x256 concatenates_S8x4x256_S8x124x256_S8x128x256_d1 <|
  stA 2 126 c slices_S8x128x256_o0_0_0_S8x126x256 concatenates_S8x2x256_S8x126x256_S8x128x256_d1 <|
  stA 1 127 c slices_S8x128x256_o0_0_0_S8x127x256 concatenates_S8x1x256_S8x127x256_S8x128x256_d1 x

/-- The seven stages in a tile, entry by entry. -/
theorem sevA_apply (c : EReal) (x : FVec Ideal S8x128x256 .f32) (b : Fin 8) (r : Fin 128) (d : Fin 256) :
    sevA c x (ix3 b r d) = scan7 c (fun r => x (ix3 b r d)) r := by
  unfold sevA scan7
  simp only [stA_apply _ _ (show 64 + 64 = 128 from rfl), stA_apply _ _ (show 32 + 96 = 128 from rfl), stA_apply _ _ (show 16 + 112 = 128 from rfl),
    stA_apply _ _ (show 8 + 120 = 128 from rfl), stA_apply _ _ (show 4 + 124 = 128 from rfl), stA_apply _ _ (show 2 + 126 = 128 from rfl),
    stA_apply _ _ (show 1 + 127 = 128 from rfl)]

/-- The running maximum as the scan and the carry. -/
theorem pay37_form (v : FVec Ideal S8x128x256 .f32) (u : FVec Ideal S8x256 .f32) :
    k0_pay37 v u = maximumf (sevA (Ideal.ofBits .f32 0xFF800000#32) v) (broadcastTo S8x128x256 (k0_pay36 u) broadcasts_S8x1x256_S8x128x256) := rfl

/-- The running maximum, entry by entry. -/
theorem cmx_apply (b : Fin 8) (r : Fin 128) (d : Fin 256) :
    cmx X S (ix3 b r d) = max (scan7 ⊥ (fun r => xt X S (ix3 b r d)) r) (S.s1 (ix2 b d)) := by
  unfold cmx
  rw [pay37_form, maximumf_apply, sevA_apply, bc_mid, ofBits_ninf]
  unfold k0_pay36
  rw [sc_mid]

/-- The maximum before a time: the carry, then the maxima one time back. -/
theorem pay38_form (v : FVec Ideal S8x128x256 .f32) (u : FVec Ideal S8x256 .f32) :
    k0_pay38 v u = concatenate S8x128x256 1 [⟨S8x1x256, k0_pay36 u⟩, ⟨S8x127x256, extractStridedSlice S8x127x256 ![0, 0, 0] (k0_pay37 v u) slices_S8x128x256_o0_0_0_S8x127x256⟩]
      concatenates_S8x1x256_S8x127x256_S8x128x256_d1 := rfl

/-- The maxima before each row: the carry at the first, then the row above. -/
theorem pmx_apply (b : Fin 8) (r : Fin 128) (d : Fin 256) :
    pmx X S (ix3 b r d) = if h : r.val = 0 then S.s1 (ix2 b d) else cmx X S (ix3 b ⟨r.val - 1, by omega⟩ d) := by
  unfold pmx
  rw [pay38_form]
  refine (cat_shift 1 127 rfl _ _ _ _ b r d).trans ?_
  by_cases hr : r.val = 0
  · rw [dif_pos hr, dif_pos (by omega)]
    unfold k0_pay36
    have e : (⟨r.val, by omega⟩ : Fin 1) = 0 := Fin.ext hr
    exact sc_mid _ _ _ _ _
  · rw [dif_neg hr, dif_neg (by omega)]
    rfl

/-- The last time's row. -/
theorem last_mid (v : FVec Ideal S8x128x256 .f32) (h1 h2) (b : Fin 8) (d : Fin 256) :
    shapeCast S8x256 (shapeCast S8x256 (extractStridedSlice S8x1x256 ![0, 127, 0] v slices_S8x128x256_o0_127_0_S8x1x256) h1) h2 (ix2 b d)
      = v (ix3 b (127 : Fin 128) d) := by
  rw [shapeCast_self, sc_unmid]
  exact slice3_axis1_apply _ _ _ _ _ _ 127 rfl

/-- The maximum carried on is the tile's last. -/
theorem ns1_apply (b : Fin 8) (d : Fin 256) : (next i X S).s1 (ix2 b d) = cmx X S (ix3 b 127 d) := by
  show k0_pay39 _ _ (ix2 b d) = _
  unfold k0_pay39
  exact last_mid _ _ _ b d

/-- The candidate index of a row: its time when the row's value exceeds the maximum before it. -/
def candA : FVec Ideal S8x128x256 .f32 :=
  select (cmpf .ogt (xt X S) (pmx X S))
    (sitofp .f32 (addi (broadcast S8x128x256 (Scalar.muli (jw i) 128#32)) (iota .tc S8x128x256 32 [1] iota_S8x128x256_d1_w32)))
    (broadcast S8x128x256 (Ideal.ofBits .f32 0xBF800000#32))

/-- The index as the scan of the candidates and the carry. -/
theorem pay40_form (u : FVec Ideal S8x256 .f32) :
    k0_pay40 (jw i) (xt X S) (pmx X S) u = maximumf (sevA (Ideal.ofBits .f32 0xBF800000#32) (candA i X S))
      (broadcastTo S8x128x256 (shapeCast S8x1x256 u (by rfl)) broadcasts_S8x1x256_S8x128x256) := rfl

/-- A time as a word. -/
theorem time_toInt (r : ℕ) (hr : r < 128) :
    (Scalar.muli (jw i) 128#32 + BitVec.ofNat 32 r).toInt = ((128 * (i 1).val + r : ℕ) : ℤ) := by
  have hj : (i 1).val < 16 := (i 1).isLt
  have e : (Scalar.muli (jw i) 128#32 + BitVec.ofNat 32 r) = BitVec.ofNat 32 (128 * (i 1).val + r) := by
    apply BitVec.eq_of_toNat_eq
    show ((BitVec.ofNat 32 (i 1).val * 128#32) + BitVec.ofNat 32 r).toNat = _
    simp only [BitVec.toNat_add, BitVec.toNat_mul, BitVec.toNat_ofNat]
    omega
  rw [e, BitVec.toInt_eq_toNat_of_lt (by simp only [BitVec.toNat_ofNat]; omega)]
  simp only [BitVec.toNat_ofNat]
  omega

open Classical in
/-- The candidate: the time where the value exceeds all before it, −1 elsewhere. -/
theorem cand_apply (b : Fin 8) (r : Fin 128) (d : Fin 256) :
    candA i X S (ix3 b r d) = if pmx X S (ix3 b r d) < xt X S (ix3 b r d) then (((128 * (i 1).val + r.val : ℕ) : ℝ) : EReal) else ((-1 : ℝ) : EReal) := by
  unfold candA
  have e : (sitofp .f32 (addi (broadcast S8x128x256 (Scalar.muli (jw i) 128#32)) (iota .tc S8x128x256 32 [1] iota_S8x128x256_d1_w32)) : FVec Ideal S8x128x256 .f32) (ix3 b r d)
      = (((128 * (i 1).val + r.val : ℕ) : ℝ) : EReal) := by
    show (((Scalar.muli (jw i) 128#32 + iota .tc S8x128x256 32 [1] iota_S8x128x256_d1_w32 (ix3 b r d)).toInt : ℝ) : EReal) = _
    rw [show iota .tc S8x128x256 32 [1] iota_S8x128x256_d1_w32 (ix3 b r d) = BitVec.ofNat 32 r.val from iota_single_apply .., time_toInt i r.val r.isLt]
    simp
  rw [select_apply, e]
  show (if BitVec.ofBool (decide (pmx X S (ix3 b r d) < xt X S (ix3 b r d))) = 1#1 then _ else Ideal.ofBits .f32 0xBF800000#32) = _
  rw [ofBits_none]
  by_cases h : pmx X S (ix3 b r d) < xt X S (ix3 b r d) <;> simp [h]

/-- The index, entry by entry. -/
theorem cti_apply (b : Fin 8) (r : Fin 128) (d : Fin 256) :
    cti i X S (ix3 b r d) = max (scan7 ((-1 : ℝ) : EReal) (fun r => candA i X S (ix3 b r d)) r) (S.s2 (ix2 b d)) := by
  unfold cti
  rw [pay40_form, maximumf_apply, sevA_apply, bc_mid, ofBits_none, sc_mid]

/-- The index carried on is the tile's last. -/
theorem ns2_apply (b : Fin 8) (d : Fin 256) : (next i X S).s2 (ix2 b d) = cti i X S (ix3 b 127 d) := by
  show k0_pay41 _ _ _ _ (ix2 b d) = _
  unfold k0_pay41
  exact last_mid _ _ _ b d

end Cert.KernelIdeal.Enc

end

end
-- ==== Proof.Math.Norm.lean ====
module

public import Idealize.ShloMosaic.Lib.ValueIdx
public import Idealize.ShloMosaic.PureOps.Ideal
public import Mathlib.Analysis.SpecialFunctions.Pow.Real

@[expose] public section

noncomputable section

namespace Cert.Enc

open Idealize.ShloMosaic

/-- The mean of 256 reals. -/
def mu (f : Fin 256 → ℝ) : ℝ := (∑ i, f i) / 256

/-- Their variance. -/
def vr (f : Fin 256 → ℝ) : ℝ := (∑ i, (f i - mu f) * (f i - mu f)) / 256

/-- Normalisation over the reals. -/
def LNR (f : Fin 256 → ℝ) (e : ℝ) (i : Fin 256) : ℝ := (f i - mu f) * (Real.sqrt (vr f + e))⁻¹

/-- The variance is not negative. -/
theorem vr_nonneg (f : Fin 256 → ℝ) : 0 ≤ vr f :=
  div_nonneg (Finset.sum_nonneg fun i _ => mul_self_nonneg _) (by norm_num)

/-- The variance is the mean of the squares less the square of the mean. -/
theorem vr_eq (f : Fin 256 → ℝ) : vr f = (∑ i, f i * f i) / 256 - mu f * mu f := by
  have h : ∑ i, (f i - mu f) * (f i - mu f) = ∑ i, f i * f i - 2 * mu f * ∑ i, f i + 256 * (mu f * mu f) := by
    rw [Finset.mul_sum, ← Finset.sum_sub_distrib]
    have : (256 : ℝ) * (mu f * mu f) = ∑ _i : Fin 256, mu f * mu f := by simp
    rw [this, ← Finset.sum_add_distrib]
    exact Finset.sum_congr rfl fun i _ => by ring
  have hs : ∑ i, f i = 256 * mu f := by unfold mu; ring
  unfold vr
  rw [h, hs]; ring

/-- Scaling by a positive real is a change of the stabilising term. -/
theorem LNR_smul (f : Fin 256 → ℝ) (s e : ℝ) (hs : 0 < s) (i : Fin 256) :
    LNR (fun i => f i * s) e i = LNR f (e / (s * s)) i := by
  have hm : mu (fun i => f i * s) = mu f * s := by
    unfold mu; rw [← Finset.sum_mul]; ring
  have hv : vr (fun i => f i * s) + e = (s * s) * (vr f + e / (s * s)) := by
    have : vr (fun i => f i * s) = vr f * (s * s) := by
      unfold vr; rw [hm, div_mul_eq_mul_div, Finset.sum_mul]
      congr 1
      exact Finset.sum_congr rfl fun i _ => by ring
    rw [this]
    field_simp
  unfold LNR
  rw [hm, hv, Real.sqrt_mul (mul_self_nonneg s), Real.sqrt_mul_self hs.le, mul_inv]
  field_simp

/-- The sum of reals among the extended reals. -/
theorem coe_sum (f : Fin 256 → ℝ) : ∑ i, ((f i : ℝ) : EReal) = ((∑ i, f i : ℝ) : EReal) := by
  induction (Finset.univ : Finset (Fin 256)) using Finset.induction_on with
  | empty => simp
  | insert a s ha ih => rw [Finset.sum_insert ha, Finset.sum_insert ha, ih, EReal.coe_add]

/-- The literal's value. -/
theorem lit256 : Ideal.ofBits .f32 0x43800000#32 = ((256 : ℝ) : EReal) := by
  simp [Ideal.ofBits, Ideal.ieee]
  rw [← EReal.coe_mul]; norm_num

/-- The literal's value. -/
theorem lit2048 : Ideal.ofBits .f32 0x45000000#32 = ((2048 : ℝ) : EReal) := by
  simp [Ideal.ofBits, Ideal.ieee]
  rw [← EReal.coe_mul]; norm_num

/-- The stabilising term as the f32 literal has it. -/
def epsR : ℝ := 10995116 / 1099511627776

/-- The literal's value. -/
theorem litEps : Ideal.ofBits .f32 0x3727C5AC#32 = (epsR : EReal) := by
  simp [Ideal.ofBits, Ideal.ieee]
  rw [← EReal.coe_mul]; congr 1; unfold epsR; norm_num

/-- The literal's value. -/
theorem litEps2 : Ideal.ofBits .f32 0x4227C5AC#32 = ((epsR * 4194304 : ℝ) : EReal) := by
  simp [Ideal.ofBits, Ideal.ieee]
  rw [← EReal.coe_mul]; congr 1; unfold epsR; norm_num

/-- The literal's value. -/
theorem litTop : Ideal.ofBits .f32 0x7F800000#32 = ⊤ := by simp [Ideal.ofBits, Ideal.ieee]

/-- The stabilising term is positive. -/
theorem epsR_pos : 0 < epsR := by unfold epsR; norm_num

/-- Normalisation as the kernel writes it. -/
def kLN (F : Fin 256 → EReal) (e : EReal) (i : Fin 256) : EReal :=
  (F i - Ideal.div (∑ k, F k) (Ideal.ofBits .f32 0x43800000#32))
    * Ideal.rsqrt ((Ideal.div (∑ k, F k * F k) (Ideal.ofBits .f32 0x43800000#32)
        - Ideal.div (∑ k, F k) (Ideal.ofBits .f32 0x43800000#32) * Ideal.div (∑ k, F k) (Ideal.ofBits .f32 0x43800000#32)) + e)

/-- Normalisation as the reference writes it. -/
def rLN (F : Fin 256 → EReal) (e : EReal) (i : Fin 256) : EReal :=
  (F i - Ideal.div (0 + ∑ k, F k) (Ideal.ofBits .f32 0x43800000#32))
    * Ideal.rsqrt (Ideal.div (0 + ∑ k, (F k - Ideal.div (0 + ∑ k, F k) (Ideal.ofBits .f32 0x43800000#32)) * (F k - Ideal.div (0 + ∑ k, F k) (Ideal.ofBits .f32 0x43800000#32)))
        (Ideal.ofBits .f32 0x43800000#32) + e)

/-- The division of a real by 256. -/
theorem div_256 (r : ℝ) : Ideal.div (r : EReal) (Ideal.ofBits .f32 0x43800000#32) = ((r / 256 : ℝ) : EReal) := by
  rw [lit256, Ideal.div_coe (by norm_num), ← EReal.coe_mul]; congr 1; ring

/-- The reciprocal root of a positive real. -/
theorem rsqrt_pos (r : ℝ) (h : 0 < r) : Ideal.rsqrt (r : EReal) = (((Real.sqrt r)⁻¹ : ℝ) : EReal) := by
  rw [Ideal.rsqrt_coe, if_neg (not_lt.2 h.le), if_neg h.ne']

/-- The kernel's normalisation of real entries. -/
theorem kLN_coe (f : Fin 256 → ℝ) (e : ℝ) (he : 0 < e) (i : Fin 256) :
    kLN (fun k => (f k : EReal)) (e : EReal) i = (LNR f e i : EReal) := by
  unfold kLN
  simp only [← EReal.coe_mul, coe_sum, div_256, ← EReal.coe_sub, ← EReal.coe_add]
  rw [rsqrt_pos]
  · rw [← EReal.coe_mul]; unfold LNR
    rw [show (∑ i, f i) / 256 = mu f from rfl, ← vr_eq]
  · rw [show (∑ i, f i) / 256 = mu f from rfl, ← vr_eq]
    have := vr_nonneg f; linarith

/-- The reference's normalisation of real entries. -/
theorem rLN_coe (f : Fin 256 → ℝ) (e : ℝ) (he : 0 < e) (i : Fin 256) :
    rLN (fun k => (f k : EReal)) (e : EReal) i = (LNR f e i : EReal) := by
  unfold rLN
  simp only [zero_add, coe_sum, div_256, ← EReal.coe_sub, ← EReal.coe_mul, ← EReal.coe_add]
  rw [rsqrt_pos]
  · rw [← EReal.coe_mul]; rfl
  · have := vr_nonneg f
    exact add_pos_of_nonneg_of_pos this he

/-- The two agree on real rows. -/
theorem kLN_eq_rLN (F : Fin 256 → EReal) (hF : ∀ k, ∃ r : ℝ, F k = r) (i : Fin 256) :
    kLN F (Ideal.ofBits .f32 0x3727C5AC#32) i = rLN F (Ideal.ofBits .f32 0x3727C5AC#32) i := by
  choose f hf using hF
  obtain rfl : F = fun k => (f k : EReal) := funext hf
  rw [litEps, kLN_coe _ _ epsR_pos, rLN_coe _ _ epsR_pos]

/-- The mean row: dividing by the length is the larger stabilising term. -/
theorem kLN_mean (F : Fin 256 → EReal) (hF : ∀ k, ∃ r : ℝ, F k = r) (i : Fin 256) :
    kLN F (Ideal.ofBits .f32 0x4227C5AC#32) i
      = rLN (fun k => Ideal.div (F k) (Ideal.ofBits .f32 0x45000000#32)) (Ideal.ofBits .f32 0x3727C5AC#32) i := by
  choose f hf using hF
  obtain rfl : F = fun k => (f k : EReal) := funext hf
  have h : (fun k => Ideal.div (f k : EReal) (Ideal.ofBits .f32 0x45000000#32)) = fun k => ((f k * (1 / 2048) : ℝ) : EReal) := by
    funext k; rw [lit2048, Ideal.div_coe (by norm_num), ← EReal.coe_mul]
  rw [h, litEps, litEps2, kLN_coe _ _ (mul_pos epsR_pos (by norm_num)), rLN_coe _ _ epsR_pos, LNR_smul _ _ _ (by norm_num)]
  congr 2; ring

/-- The scaled-sum row: multiplying by the reciprocal root of the count is the stabilising term times the count. -/
theorem kLN_root (F : Fin 256 → EReal) (hF : ∀ k, ∃ r : ℝ, F k = r) (n : ℝ) (hn : 0 < n) (i : Fin 256) :
    kLN F (Ideal.ofBits .f32 0x3727C5AC#32 * (n : EReal)) i
      = rLN (fun k => F k * Ideal.rsqrt (n : EReal)) (Ideal.ofBits .f32 0x3727C5AC#32) i := by
  choose f hf using hF
  obtain rfl : F = fun k => (f k : EReal) := funext hf
  rw [litEps, rsqrt_pos n hn]
  simp only [← EReal.coe_mul]
  rw [kLN_coe _ _ (mul_pos epsR_pos hn), rLN_coe _ _ epsR_pos, LNR_smul _ _ _ (inv_pos.2 (Real.sqrt_pos.2 hn))]
  congr 2
  rw [← mul_inv, Real.mul_self_sqrt hn.le, div_inv_eq_mul]

end Cert.Enc

end

end
-- ==== Proof.Math.Data.lean ====
module

public import proofs.«01_k».proof.Proof.Math.Seq
public import proofs.«01_k».proof.Proof.Math.Norm

@[expose] public section

noncomputable section

namespace Cert.Enc

open Idealize.ShloMosaic

/-- The eleven arguments, entry by entry. -/
structure Data where
  a0 : Fin 32 → Fin 8 → EReal
  a1 : Fin 32 → Fin 2048 → Fin 256 → EReal
  a2 : Fin 32 → Fin 2048 → Fin 256 → EReal
  a3 : Fin 32 → Fin 2048 → Fin 256 → EReal
  a4 : Fin 32 → Fin 2048 → Fin 256 → EReal
  a5 : Fin 8 → Fin 40 → EReal
  a6 : Fin 40 → EReal
  a7 : Fin 40 → Fin 20 → EReal
  a8 : Fin 20 → EReal
  a9 : Fin 1044 → Fin 256 → EReal
  a10 : Fin 256 → EReal

/-- A value that is a real number. -/
def IsR (x : EReal) : Prop := ∃ r : ℝ, x = r

/-- Real numbers are closed under this. -/
theorem IsR.zero : IsR 0 := ⟨0, rfl⟩
/-- Real numbers are closed under this. -/
theorem IsR.add {x y : EReal} : IsR x → IsR y → IsR (x + y) := by
  rintro ⟨a, rfl⟩ ⟨b, rfl⟩; exact ⟨a + b, (EReal.coe_add a b).symm⟩
/-- Real numbers are closed under this. -/
theorem IsR.mul {x y : EReal} : IsR x → IsR y → IsR (x * y) := by
  rintro ⟨a, rfl⟩ ⟨b, rfl⟩; exact ⟨a * b, (EReal.coe_mul a b).symm⟩
/-- Real numbers are closed under this. -/
theorem IsR.max {x y : EReal} (hx : IsR x) (hy : IsR y) : IsR (Max.max x y) := by
  rcases max_choice x y with h | h <;> rw [h] <;> assumption
/-- Real numbers are closed under this. -/
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
/-- A real number less itself is zero. -/
theorem IsR.sub_self {x : EReal} : IsR x → x - x = 0 := by
  rintro ⟨a, rfl⟩; rw [← EReal.coe_sub, _root_.sub_self]; rfl
/-- A real number is above −∞. -/
theorem IsR.bot_lt {x : EReal} : IsR x → ⊥ < x := by
  rintro ⟨a, rfl⟩; exact EReal.bot_lt_coe a

namespace Data
variable (D : Data)

/-- Every entry is a real number. -/
structure Real : Prop where
  a0 : ∀ n p, IsR (D.a0 n p)
  a1 : ∀ n t k, IsR (D.a1 n t k)
  a2 : ∀ n t k, IsR (D.a2 n t k)
  a3 : ∀ n t k, IsR (D.a3 n t k)
  a4 : ∀ n t k, IsR (D.a4 n t k)
  a5 : ∀ p k, IsR (D.a5 p k)
  a6 : ∀ k, IsR (D.a6 k)
  a7 : ∀ k e, IsR (D.a7 k e)
  a8 : ∀ e, IsR (D.a8 e)
  a9 : ∀ k d, IsR (D.a9 k d)
  a10 : ∀ d, IsR (D.a10 d)

/-- The first demography layer. -/
def dem1 (n : Fin 32) (k : Fin 40) : EReal := max ((∑ p : Fin 8, D.a0 n p * D.a5 p k) + D.a6 k) 0
/-- The second. -/
def dem (n : Fin 32) (e : Fin 20) : EReal := max ((∑ k : Fin 40, D.dem1 n k * D.a7 k e) + D.a8 e) 0
/-- The demography's part of the linear layer. -/
def lin (n : Fin 32) (d : Fin 256) : EReal := (∑ e : Fin 20, D.dem n e * D.a9 ⟨1024 + e.val, by omega⟩ d) + D.a10 d
/-- The linear layer of a subject and channel at each time. -/
def x (n : Fin 32) (d : Fin 256) (T : ℕ) : EReal :=
  if h : T < 2048 then ((((∑ k : Fin 256, D.a1 n ⟨T, h⟩ k * D.a9 ⟨k.val, by omega⟩ d) + ∑ k : Fin 256, D.a2 n ⟨T, h⟩ k * D.a9 ⟨256 + k.val, by omega⟩ d)
    + ∑ k : Fin 256, D.a3 n ⟨T, h⟩ k * D.a9 ⟨512 + k.val, by omega⟩ d) + ∑ k : Fin 256, D.a4 n ⟨T, h⟩ k * D.a9 ⟨768 + k.val, by omega⟩ d) + D.lin n d
  else 0

variable {D}

/-- It is a real number. -/
theorem Real.dem1 (h : D.Real) (n : Fin 32) (k : Fin 40) : IsR (D.dem1 n k) :=
  ((IsR.sum _ _ fun p _ => (h.a0 n p).mul (h.a5 p k)).add (h.a6 k)).max .zero
/-- It is a real number. -/
theorem Real.dem (h : D.Real) (n : Fin 32) (e : Fin 20) : IsR (D.dem n e) :=
  ((IsR.sum _ _ fun k _ => (h.dem1 n k).mul (h.a7 k e)).add (h.a8 e)).max .zero
/-- It is a real number. -/
theorem Real.lin (h : D.Real) (n : Fin 32) (d : Fin 256) : IsR (D.lin n d) :=
  (IsR.sum _ _ fun e _ => (h.dem n e).mul (h.a9 _ d)).add (h.a10 d)
/-- It is a real number. -/
theorem Real.x (h : D.Real) (n : Fin 32) (d : Fin 256) (T : ℕ) : IsR (D.x n d T) := by
  unfold Data.x
  split_ifs with hT
  · exact ((((IsR.sum _ _ fun k _ => (h.a1 n _ k).mul (h.a9 _ d)).add (IsR.sum _ _ fun k _ => (h.a2 n _ k).mul (h.a9 _ d))).add
      (IsR.sum _ _ fun k _ => (h.a3 n _ k).mul (h.a9 _ d))).add (IsR.sum _ _ fun k _ => (h.a4 n _ k).mul (h.a9 _ d))).add (h.lin n d)
  · exact .zero
/-- It is a real number. -/
theorem Real.cs (h : D.Real) (n : Fin 32) (d : Fin 256) (k : ℕ) : IsR (csE (D.x n d) k) :=
  IsR.sum _ _ fun s _ => h.x n d s
/-- It is a real number. -/
theorem Real.mx (h : D.Real) (n : Fin 32) (d : Fin 256) : ∀ k, IsR (mxE (D.x n d) (k + 1))
  | 0 => by
    show IsR (max ⊥ (D.x n d 0))
    rw [max_eq_right bot_le]; exact h.x n d 0
  | k + 1 => (Real.mx h n d k).max (h.x n d (k + 1))

end Data

/-- The activation of a maximum at a time: padded by a zero except at the last. -/
def actE (m : EReal) (T : ℕ) : EReal := if T < 2047 then max m 0 else m

/-- It is a real number. -/
theorem IsR.act {m : EReal} (h : IsR m) (T : ℕ) : IsR (actE m T) := by
  unfold actE; split_ifs
  · exact h.max .zero
  · exact h

open Classical in
/-- The index at a time: the padding's where the maximum is not positive. -/
def idxE (m : EReal) (a : BitVec 32) (T : ℕ) : BitVec 32 := if T < 2047 ∧ m ≤ 0 then BitVec.ofNat 32 T - 2047#32 else a

/-- The activation of a subject's channel. -/
def Data.act (D : Data) (n : Fin 32) (T : ℕ) (d : Fin 256) : EReal := actE (mxE (D.x n d) (T + 1)) T
/-- The index of a subject's channel. -/
def Data.idx (D : Data) (n : Fin 32) (T : ℕ) (d : Fin 256) : BitVec 32 :=
  idxE (mxE (D.x n d) (T + 1)) (BitVec.ofInt 32 (agI (D.x n d) (T + 1))) T
/-- The encoder's output as the reference's operations give it. -/
def Data.out (D : Data) (n : Fin 32) (T : ℕ) (f : Fin 788) : EReal :=
  if h0 : f.val < 256 then rLN (fun d => D.act n T d) (Ideal.ofBits .f32 0x3727C5AC#32) ⟨f.val, h0⟩
  else if h1 : f.val < 512 then rLN (fun d => Ideal.div (csE (D.x n d) (T + 1)) (Ideal.ofBits .f32 0x45000000#32)) (Ideal.ofBits .f32 0x3727C5AC#32) ⟨f.val - 256, by omega⟩
  else if h2 : f.val < 768 then rLN (fun d => csE (D.x n d) (T + 1) * Ideal.rsqrt (((T + 1 : ℕ) : ℝ) : EReal)) (Ideal.ofBits .f32 0x3727C5AC#32) ⟨f.val - 512, by omega⟩
  else D.dem n (⟨f.val - 768, by omega⟩ : Fin 20)

/-- It is a real number. -/
theorem Data.Real.act {D : Data} (h : D.Real) (n : Fin 32) (T : ℕ) (d : Fin 256) : IsR (D.act n T d) := (h.mx n d T).act T

end Cert.Enc

end

end
-- ==== Proof.KernelIdeal.Out.lean ====
module

public import proofs.«01_k».proof.Proof.KernelIdeal.Pay
public import proofs.«01_k».proof.Proof.Math.Data
public import Idealize.ShloMosaic.Lib.WritesUnit
public import Idealize.ShloMosaic.Lib.IdealHost

@[expose] public section

set_option maxRecDepth 16384

noncomputable section

namespace Cert.KernelIdeal.Enc

open Idealize.ShloMosaic Idealize.ShloMosaic.TcCoe Idealize.ShloMosaic.ValueIdx
open Cert.KernelIdeal Cert.KernelIdeal.Gen Cert.Enc

variable (i : grid0.Coords) (X : Ins Ideal) (S : St Ideal)

/-! ## The demography -/

/-- The first demography layer. -/
def dem1K (n : Fin 32) (k : Fin 40) : EReal := max ((∑ p : Fin 8, X.x0 (ix2 n p) * X.x5 (ix2 p k)) + X.x6 (ix2 (0 : Fin 1) k)) 0
/-- The second. -/
def demK (n : Fin 32) (e : Fin 20) : EReal := max ((∑ k : Fin 40, dem1K X n k * X.x7 (ix2 k e)) + X.x8 (ix2 (0 : Fin 1) e)) 0

/-- Subject `b` of block `g`. -/
def sub (g : Fin 4) (b : Fin 8) : Fin 32 := ⟨8 * g.val + b.val, by omega⟩

/-- The block of subjects of a grid point. -/
def gb : Fin 4 := i 0

/-- The group's row of the demography. -/
theorem dem_apply (g : Fin 4) (b : Fin 8) (e : Fin 20) : X.dem (ix3 g b e) = demK X (sub g b) e := by
  unfold Ins.dem k0_pay4
  refine (shapeCast_apply _ _ _ (ix2 (sub g b) e) (by
    rw [Shape.rowMajor_val_three, Shape.rowMajor_val_two]
    show (8 * g.val + b.val) * 20 + e.val = (g.val * 8 + b.val) * 20 + e.val
    omega)).trans ?_
  rw [maximumf_apply, addf_apply, mmD2]
  refine congrArg₂ max (congrArg₂ (· + ·) (Finset.sum_congr rfl fun k _ => ?_) ?_) Ideal.ofBits_zero_f32
  · refine congrArg (· * X.x7 (ix2 k e)) ?_
    rw [truncf_apply, maximumf_apply, addf_apply, mmD1]
    refine congrArg₂ max (congrArg₂ (· + ·) (Finset.sum_congr rfl fun p _ => rfl) ?_) Ideal.ofBits_zero_f32
    refine (broadcastTo_apply _ _ _ (ix2 (0 : Fin 1) k) (fun a => by
      match a with
      | ⟨0, _⟩ => rfl
      | ⟨1, _⟩ => rfl)).trans ?_
    exact congrFun (shapeCast_self _ _) _
  · refine (broadcastTo_apply _ _ _ (ix2 (0 : Fin 1) e) (fun a => by
      match a with
      | ⟨0, _⟩ => rfl
      | ⟨1, _⟩ => rfl)).trans ?_
    exact congrFun (shapeCast_self _ _) _

/-- The subjects' own demography picked out of all blocks'. -/
theorem pay5_apply (v : FVec Ideal S4x8x20 .f32) (b : Fin 8) (e : Fin 20) : k0_pay5 i v (ix2 b e) = v (ix3 (gb i) b e) := by
  unfold k0_pay5
  refine (Ideal.multiReduction_add_single _ _ reduces_S4x8x20_S8x20 (.inl rfl) rfl (ix2 b e)).trans ?_
  have h (g : Fin 4) : (select (cmpi .eq (iota .tc S4x8x20 32 [0] iota_S4x8x20_d0_w32) (broadcast S4x8x20 (BitVec.ofNat 32 (i 0).val))) v
      (broadcast S4x8x20 (Scalar.ofBits (F := Ideal) .f32 0x00000000#32)) : FVec Ideal S4x8x20 .f32) (ix3 g b e) = if g = gb i then v (ix3 (gb i) b e) else 0 := by
    rw [select_apply]
    have hi : iota .tc S4x8x20 32 [0] iota_S4x8x20_d0_w32 (ix3 g b e) = BitVec.ofNat 32 g.val := iota_single_apply ..
    have hc : cmpi .eq (iota .tc S4x8x20 32 [0] iota_S4x8x20_d0_w32) (broadcast S4x8x20 (BitVec.ofNat 32 (i 0).val)) (ix3 g b e)
        = BitVec.ofBool (decide (g = gb i)) := by
      show Scalar.cmpi .eq (iota .tc S4x8x20 32 [0] iota_S4x8x20_d0_w32 (ix3 g b e)) (BitVec.ofNat 32 (i 0).val) = _
      rw [hi]
      have h4 : (i 0).val < 4 := (i 0).isLt
      by_cases hg : g = gb i
      · subst hg; simp [Scalar.cmpi, IntOp.cmpi, show (i 0).val = (gb i).val from rfl]
      · have this_ne : g.val ≠ (i 0).val := fun h => hg (Fin.ext h)
        have : BitVec.ofNat 32 g.val ≠ BitVec.ofNat 32 (i 0).val := by
          intro h
          have := congrArg BitVec.toNat h
          have h5 : g.val ≠ (i 0).val := this_ne
          simp only [BitVec.toNat_ofNat] at this
          have := g.isLt
          omega
        simp only [Scalar.cmpi, IntOp.cmpi, hg, decide_false]
        rw [beq_false_of_ne this]
    rw [hc]
    by_cases hg : g = gb i
    · subst hg; simp [Scalar.select]
    · simp only [hg, decide_false, if_false]
      exact Ideal.ofBits_zero_f32
  refine (Finset.sum_congr rfl fun g _ => (congrArg _ (?_ : _ = ix3 g b e)).trans (h g)).trans ?_
  · funext a; match a with
      | ⟨0, _⟩ => rfl
      | ⟨1, _⟩ => rfl
      | ⟨2, _⟩ => rfl
  · exact (Finset.sum_ite_eq' Finset.univ (gb i) (fun _ => v (ix3 (gb i) b e))).trans (if_pos (Finset.mem_univ _))

/-- The reset running sum is zero. -/
theorem reset_s0 (b : Fin 8) (d : Fin 256) : (reset i X).s0 (ix2 b d) = 0 := by
  show k0_pay1 (F := Ideal) (ix2 b d) = _
  unfold k0_pay1
  rw [shapeCast_self]; exact Ideal.ofBits_zero_f32
/-- The reset maximum is −∞. -/
theorem reset_s1 (b : Fin 8) (d : Fin 256) : (reset i X).s1 (ix2 b d) = ⊥ := by
  show k0_pay2 (F := Ideal) (ix2 b d) = _
  unfold k0_pay2
  rw [shapeCast_self]; exact ofBits_ninf
/-- The reset index is −1. -/
theorem reset_s2 (b : Fin 8) (d : Fin 256) : (reset i X).s2 (ix2 b d) = ((-1 : ℝ) : EReal) := by
  show k0_pay3 (F := Ideal) (ix2 b d) = _
  unfold k0_pay3
  rw [shapeCast_self]; exact ofBits_none
/-- The reset demography is the group's. -/
theorem reset_s3 (b : Fin 8) (e : Fin 20) : (reset i X).s3 (ix2 b e) = demK X (sub (gb i) b) e := by
  show k0_pay6 i X.dem (ix2 b e) = _
  unfold k0_pay6
  rw [shapeCast_self, pay5_apply, dem_apply]
/-- The reset linear part is the demography's. -/
theorem reset_s4 (b : Fin 8) (d : Fin 256) :
    (reset i X).s4 (ix2 b d) = (∑ e : Fin 20, demK X (sub (gb i) b) e * X.w4 (ix2 e d)) + X.x10 (ix2 (0 : Fin 1) d) := by
  show k0_pay7 i X.dem X.w4 X.x10 (ix2 b d) = _
  unfold k0_pay7
  rw [shapeCast_self, addf_apply, mmD3]
  refine congrArg₂ (· + ·) (Finset.sum_congr rfl fun e _ => congrArg (· * X.w4 (ix2 e d)) ?_) ?_
  · rw [truncf_apply, pay5_apply, dem_apply]
  · refine (broadcastTo_apply _ _ _ (ix2 (0 : Fin 1) d) (fun a => by
      match a with
      | ⟨0, _⟩ => rfl
      | ⟨1, _⟩ => rfl)).trans ?_
    exact congrFun (shapeCast_self _ _) _

/-! ## The outputs -/

/-- The swap of times and channels, at an index. -/
theorem tr_apply {α : Type} (v : S8x128x256.Idx → α) (b : Fin 8) (d : Fin 256) (r : Fin 128) :
    transpose S8x256x128 [0, 2, 1] v transposes_S8x128x256_p0_2_1_S8x256x128 (ix3 b d r) = v (ix3 b r d) :=
  transpose_apply _ _ _ _ _ (fun a => by
    match a with
    | ⟨0, _⟩ => rfl
    | ⟨1, _⟩ => rfl
    | ⟨2, _⟩ => rfl)

/-- The running sum with times last. -/
theorem cumT_apply (b : Fin 8) (d : Fin 256) (r : Fin 128) : cumT X S (ix3 b d r) = cuE X S b r d := by
  unfold cumT k0_pay42
  exact (tr_apply _ b d r).trans (cum_apply X S b r d)

/-- A time's word. -/
theorem word_apply (b : Fin 8) (d : Fin 256) (r : Fin 128) : k0_pay43 (jw i) (ix3 b d r) = BitVec.ofNat 32 (128 * (i 1).val + r.val) := by
  unfold k0_pay43
  show Scalar.muli (jw i) 128#32 + iota .tc S8x256x128 32 [2] iota_S8x256x128_d2_w32 (ix3 b d r) = _
  rw [show iota .tc S8x256x128 32 [2] iota_S8x256x128_d2_w32 (ix3 b d r) = BitVec.ofNat 32 r.val from iota_single_apply ..]
  have hj : (i 1).val < 16 := (i 1).isLt
  have hr := r.isLt
  apply BitVec.eq_of_toNat_eq
  show ((BitVec.ofNat 32 (i 1).val * 128#32) + BitVec.ofNat 32 r.val).toNat = _
  simp only [BitVec.toNat_add, BitVec.toNat_mul, BitVec.toNat_ofNat]
  omega

/-- The comparison of a time with the last one. -/
theorem slt_2047 (T : ℕ) (hT : T < 2048) : Scalar.cmpi .slt (BitVec.ofNat 32 T) 2047#32 = BitVec.ofBool (decide (T < 2047)) := by
  have e : (BitVec.ofNat 32 T).slt 2047#32 = decide (T < 2047) := by
    rw [BitVec.slt, BitVec.toInt_eq_toNat_of_lt (by simp only [BitVec.toNat_ofNat]; omega), BitVec.toInt_eq_toNat_of_lt (by decide)]
    simp only [BitVec.toNat_ofNat]
    congr 1
    apply propext
    omega
  simp [Scalar.cmpi, IntOp.cmpi, e]

/-- Where the window still holds padding. -/
theorem pay44_apply (b : Fin 8) (d : Fin 256) (r : Fin 128) : k0_pay44 (jw i) (ix3 b d r) = BitVec.ofBool (decide (128 * (i 1).val + r.val < 2047)) := by
  unfold k0_pay44
  show Scalar.cmpi .slt (k0_pay43 (jw i) (ix3 b d r)) 2047#32 = _
  have hj : (i 1).val < 16 := (i 1).isLt
  rw [word_apply, slt_2047 _ (by omega)]

/-- The step's activations, entry by entry. -/
theorem act_apply (b : Fin 8) (d : Fin 256) (r : Fin 128) :
    act i X S (ix3 b d r) = actE (cmx X S (ix3 b r d)) (128 * (i 1).val + r.val) := by
  unfold act k0_pay45
  rw [select_apply, maximumf_apply, tr_apply, pay44_apply]
  unfold actE
  by_cases h : 128 * (i 1).val + r.val < 2047
  · simp only [h, decide_true, if_true]
    exact congrArg (max _) Ideal.ofBits_zero_f32
  · simp [h, Scalar.select]

/-- The step's indices, entry by entry. -/
theorem idx_apply (b : Fin 8) (d : Fin 256) (r : Fin 128) :
    idx i X S (ix3 b d r) = idxE (cmx X S (ix3 b r d)) (Ideal.fptosi 32 (cti i X S (ix3 b r d))) (128 * (i 1).val + r.val) := by
  unfold idx k0_pay46
  rw [select_apply]
  have ha : k0_pay45 (jw i) (cmx X S) (ix3 b d r) = actE (cmx X S (ix3 b r d)) (128 * (i 1).val + r.val) := act_apply i X S b d r
  show (if (k0_pay44 (jw i) (ix3 b d r) &&& BitVec.ofBool (decide (k0_pay45 (jw i) (cmx X S) (ix3 b d r) ≤ Ideal.ofBits .f32 0x00000000#32))) = 1#1
    then k0_pay43 (jw i) (ix3 b d r) - 2047#32 else Ideal.fptosi 32 (transpose S8x256x128 [0, 2, 1] (cti i X S) transposes_S8x128x256_p0_2_1_S8x256x128 (ix3 b d r))) = _
  rw [ha, pay44_apply, word_apply, tr_apply, Ideal.ofBits_zero_f32]
  unfold idxE actE
  by_cases h : 128 * (i 1).val + r.val < 2047
  · by_cases h2 : cmx X S (ix3 b r d) ≤ 0 <;> simp [h, h2]
  · simp [h]

/-! ## The normalised rows -/

section Rows
variable (v : FVec Ideal S8x256x128 .f32)

/-- The sum over the channels. -/
theorem red_apply (v : FVec Ideal S8x256x128 .f32) (b : Fin 8) (r : Fin 128) :
    multiReduction .add [1] S8x128 v 0x00000000#32 reduces_S8x256x128_S8x128 (.inl rfl) rfl (ix2 b r) = ∑ d : Fin 256, v (ix3 b d r) := by
  refine (Ideal.multiReduction_add_single _ _ reduces_S8x256x128_S8x128 (.inl rfl) rfl (ix2 b r)).trans ?_
  refine Finset.sum_congr rfl fun d _ => congrArg v ?_
  funext a; match a with
    | ⟨0, _⟩ => rfl
    | ⟨1, _⟩ => rfl
    | ⟨2, _⟩ => rfl

/-- A unit axis put between, at an index. -/
theorem sc_red {α : Type} (v : S8x128.Idx → α) (h : S8x128.ShapeCasts S8x1x128) (b : Fin 8) (u : Fin 1) (r : Fin 128) :
    shapeCast S8x1x128 v h (ix3 b u r) = v (ix2 b r) :=
  shapeCast_apply v h _ _ (by
    rw [Shape.rowMajor_val_three, Shape.rowMajor_val_two]
    show b.val * 128 + r.val = (b.val * 1 + u.val) * 128 + r.val
    have := u.isLt; omega)

/-- A broadcast over the channels, at an index. -/
theorem bc_red {α : Type} (v : S8x1x128.Idx → α) (b : Fin 8) (d : Fin 256) (r : Fin 128) :
    broadcastTo S8x256x128 v broadcasts_S8x1x128_S8x256x128 (ix3 b d r) = v (ix3 b (0 : Fin 1) r) :=
  broadcastTo_apply v _ _ _ (fun a => by
    match a with
    | ⟨0, _⟩ => rfl
    | ⟨1, _⟩ => rfl
    | ⟨2, _⟩ => rfl)

/-- The mean over the channels. -/
theorem mean_apply (b : Fin 8) (r : Fin 128) :
    k0_pay47 v (ix3 b (0 : Fin 1) r) = Ideal.div (∑ d : Fin 256, v (ix3 b d r)) (Ideal.ofBits .f32 0x43800000#32) := by
  unfold k0_pay47
  rw [divf_apply, sc_red, red_apply]
  rfl

/-- The mean of the squares less the square of the mean. -/
theorem var_apply (b : Fin 8) (r : Fin 128) :
    k0_pay48 v (ix3 b (0 : Fin 1) r) = Ideal.div (∑ d : Fin 256, v (ix3 b d r) * v (ix3 b d r)) (Ideal.ofBits .f32 0x43800000#32)
      - Ideal.div (∑ d : Fin 256, v (ix3 b d r)) (Ideal.ofBits .f32 0x43800000#32) * Ideal.div (∑ d : Fin 256, v (ix3 b d r)) (Ideal.ofBits .f32 0x43800000#32) := by
  unfold k0_pay48
  rw [subf_apply, divf_apply, sc_red, red_apply, mulf_apply, mean_apply]
  rfl

/-- The entry less the mean. -/
theorem cen_apply (b : Fin 8) (d : Fin 256) (r : Fin 128) :
    k0_pay49 v (ix3 b d r) = v (ix3 b d r) - Ideal.div (∑ d : Fin 256, v (ix3 b d r)) (Ideal.ofBits .f32 0x43800000#32) := by
  unfold k0_pay49
  rw [subf_apply, bc_red, mean_apply]

/-- The normalised running sum with the average's ε. -/
theorem row2_apply (b : Fin 8) (d : Fin 256) (r : Fin 128) :
    k0_pay50 v (ix3 b d r) = kLN (fun d => v (ix3 b d r)) (Ideal.ofBits .f32 0x4227C5AC#32) d := by
  unfold k0_pay50 kLN
  rw [mulf_apply, cen_apply, bc_red]
  refine congrArg (HMul.hMul (α := EReal) (β := EReal) (γ := EReal) _) ?_
  show Ideal.rsqrt (k0_pay48 v (ix3 b (0 : Fin 1) r) + Ideal.ofBits .f32 0x4227C5AC#32) = _
  rw [var_apply]

/-- The reciprocal root with ε times the count. -/
theorem cnt_apply (b : Fin 8) (r : Fin 128) :
    k0_pay51 (jw i) v (ix3 b (0 : Fin 1) r) = Ideal.rsqrt (k0_pay48 v (ix3 b (0 : Fin 1) r)
      + Ideal.ofBits .f32 0x3727C5AC#32 * (((128 * (i 1).val + r.val + 1 : ℕ) : ℝ) : EReal)) := by
  unfold k0_pay51
  show Ideal.rsqrt (k0_pay48 v (ix3 b (0 : Fin 1) r) + Ideal.ofBits .f32 0x3727C5AC#32
    * ((((Scalar.muli (jw i) 128#32 + iota .tc S8x1x128 32 [2] iota_S8x1x128_d2_w32 (ix3 b (0 : Fin 1) r)).toInt : ℝ) : EReal) + Ideal.ofBits .f32 0x3F800000#32)) = _
  rw [show iota .tc S8x1x128 32 [2] iota_S8x1x128_d2_w32 (ix3 b (0 : Fin 1) r) = BitVec.ofNat 32 r.val from iota_single_apply ..,
    time_toInt i r.val r.isLt, Ideal.ofBits_one_f32]
  congr 3
  push_cast
  rfl

/-- The normalised running sum with ε times the count, as it is stored. -/
theorem row3_apply (b : Fin 8) (d : Fin 256) (r : Fin 128) (u : Fin 1) :
    k0_pay54 (k0_pay49 v) (k0_pay51 (jw i) v) (ix4 u b d r)
      = kLN (fun d => v (ix3 b d r)) (Ideal.ofBits .f32 0x3727C5AC#32 * (((128 * (i 1).val + r.val + 1 : ℕ) : ℝ) : EReal)) d := by
  unfold k0_pay54 kLN
  rw [shapeCast_abc_1abc_apply, mulf_apply, cen_apply, bc_red, cnt_apply, var_apply]

/-- The same as it is stored. -/
theorem row2'_apply (b : Fin 8) (d : Fin 256) (r : Fin 128) (u : Fin 1) :
    k0_pay53 (k0_pay50 v) (ix4 u b d r) = kLN (fun d => v (ix3 b d r)) (Ideal.ofBits .f32 0x4227C5AC#32) d := by
  unfold k0_pay53
  rw [shapeCast_abc_1abc_apply, row2_apply]

/-- The normalised activations, as they are stored. -/
theorem row1_apply (b : Fin 8) (d : Fin 256) (r : Fin 128) (u : Fin 1) :
    k0_pay52 v (ix4 u b d r) = kLN (fun d => v (ix3 b d r)) (Ideal.ofBits .f32 0x3727C5AC#32) d := by
  unfold k0_pay52
  rw [shapeCast_abc_1abc_apply, mulf_apply, bc_red, subf_apply, bc_red, divf_apply, sc_red, red_apply]
  unfold kLN
  refine congrArg (HMul.hMul (α := EReal) (β := EReal) (γ := EReal) _) ?_
  show Ideal.rsqrt (k0_pay48 v (ix3 b (0 : Fin 1) r) + Ideal.ofBits .f32 0x3727C5AC#32) = _
  rw [var_apply]

end Rows

/-! ## The demography's rows -/

/-- A subject's demography broadcast along the times, as it is stored. -/
theorem col_apply (o : ℕ) (ho : o < 8) (v : FVec Ideal S8x20 .f32) (hs : S20x8.Slices ![0, o] S20x1) (h1 : S20x1.ShapeCasts S20x1)
    (h2 : S20x128.ShapeCasts S1x1x20x128) (e : Fin 20) (r : Fin 128) (u u' : Fin 1) :
    shapeCast S1x1x20x128 (broadcastTo S20x128 (shapeCast S20x1 (extractStridedSlice S20x1 ![0, o] (k0_pay55 v) hs) h1) broadcasts_S20x1_S20x128) h2 (ix4 u u' e r)
      = v (ix2 (⟨o, ho⟩ : Fin 8) e) := by
  refine (shapeCast_apply _ _ _ (ix2 e r) (by
    rw [Shape.rowMajor_val_four, Shape.rowMajor_val_two]
    show e.val * 128 + r.val = ((u.val * 1 + u'.val) * 20 + e.val) * 128 + r.val
    have := u.isLt; have := u'.isLt; omega)).trans ?_
  refine (broadcastTo_apply _ _ _ (ix2 e (0 : Fin 1)) (fun a => by
    match a with
    | ⟨0, _⟩ => rfl
    | ⟨1, _⟩ => rfl)).trans ?_
  rw [shapeCast_self]
  refine (slice2_axis1_apply _ _ _ _ _ (⟨o, ho⟩ : Fin 8) rfl).trans ?_
  unfold k0_pay55
  exact transpose_apply _ _ _ _ _ (fun a => by
    match a with
    | ⟨0, _⟩ => rfl
    | ⟨1, _⟩ => rfl)

/-! ## A grid point's slot of the scratch ring -/

/-- What a point's slot holds for a subject at feature `f` and time `r` of the block. -/
def rowE (b : Fin 8) (f : Fin 788) (r : Fin 128) : EReal :=
  if h0 : f.val < 256 then kLN (fun d => act i X S (ix3 b d r)) (Ideal.ofBits .f32 0x3727C5AC#32) ⟨f.val, h0⟩
  else if h1 : f.val < 512 then kLN (fun d => cuE X S b r d) (Ideal.ofBits .f32 0x4227C5AC#32) ⟨f.val - 256, by omega⟩
  else if h2 : f.val < 768 then kLN (fun d => cuE X S b r d) (Ideal.ofBits .f32 0x3727C5AC#32 * (((128 * (i 1).val + r.val + 1 : ℕ) : ℝ) : EReal)) ⟨f.val - 512, by omega⟩
  else S.s3 (ix2 b (⟨f.val - 768, by omega⟩ : Fin 20))

set_option maxHeartbeats 2000000 in
/-- The slot's contents after the step's stores, entry by entry. -/
theorem slab_apply (c : Dev nD) (t : Fin grid0.N) (g : Fin 2) (hg : g = Ring.sl 2 t.val) (b : Fin 8) (f : Fin 788) (r : Fin 128) :
    (slabVal c t X S : S2x8x788x128.Idx → EReal) (ix4 g b f r) = rowE (grid0.coords t) X S b f r := by
  subst hg
  unfold slabVal
  show scM5.view.read (Elt Ideal) (scM5.view.writes (Elt Ideal) _ (slabL t X S)) (ix4 (Ring.sl 2 t.val) b f r) = _
  unfold rowE
  have hb := b.isLt; have hf := f.isLt
  by_cases h0 : f.val < 256
  · rw [dif_pos h0]
    unfold slabL
    refine (View.read_writes_cons_unit_of_not_mem (size := S1x1x20x128.size) scM5.view _ _ _ _ _ (off28_eq t) 2 (by left; show f.val < 768; omega)).trans ?_
    refine (View.read_writes_cons_unit_of_not_mem (size := S1x1x20x128.size) scM5.view _ _ _ _ _ (off27_eq t) 2 (by left; show f.val < 768; omega)).trans ?_
    refine (View.read_writes_cons_unit_of_not_mem (size := S1x1x20x128.size) scM5.view _ _ _ _ _ (off26_eq t) 2 (by left; show f.val < 768; omega)).trans ?_
    refine (View.read_writes_cons_unit_of_not_mem (size := S1x1x20x128.size) scM5.view _ _ _ _ _ (off25_eq t) 2 (by left; show f.val < 768; omega)).trans ?_
    refine (View.read_writes_cons_unit_of_not_mem (size := S1x1x20x128.size) scM5.view _ _ _ _ _ (off24_eq t) 2 (by left; show f.val < 768; omega)).trans ?_
    refine (View.read_writes_cons_unit_of_not_mem (size := S1x1x20x128.size) scM5.view _ _ _ _ _ (off23_eq t) 2 (by left; show f.val < 768; omega)).trans ?_
    refine (View.read_writes_cons_unit_of_not_mem (size := S1x1x20x128.size) scM5.view _ _ _ _ _ (off22_eq t) 2 (by left; show f.val < 768; omega)).trans ?_
    refine (View.read_writes_cons_unit_of_not_mem (size := S1x1x20x128.size) scM5.view _ _ _ _ _ (off21_eq t) 2 (by left; show f.val < 768; omega)).trans ?_
    refine (View.read_writes_cons_unit_of_not_mem (size := S1x8x256x128.size) scM5.view _ _ _ _ _ (off20_eq t) 2 (by left; show f.val < 512; omega)).trans ?_
    refine (View.read_writes_cons_unit_of_not_mem (size := S1x8x256x128.size) scM5.view _ _ _ _ _ (off19_eq t) 2 (by left; show f.val < 256; omega)).trans ?_
    refine (View.read_writes_cons_unit_of_mem (size := S1x8x256x128.size) scM5.view _ _ _ _ _ (ix4 (0 : Fin 1) b (⟨f.val, h0⟩ : Fin 256) r) (off18_eq t) (fun a => by
      match a with
      | ⟨0, _⟩ => exact (Nat.add_zero _).symm
      | ⟨1, _⟩ => exact (Nat.zero_add _).symm
      | ⟨2, _⟩ => exact (Nat.zero_add _).symm
      | ⟨3, _⟩ => exact (Nat.zero_add _).symm)).trans ?_
    exact row1_apply _ _ _ _ _
  rw [dif_neg h0]
  by_cases h1 : f.val < 512
  · rw [dif_pos h1]
    unfold slabL
    refine (View.read_writes_cons_unit_of_not_mem (size := S1x1x20x128.size) scM5.view _ _ _ _ _ (off28_eq t) 2 (by left; show f.val < 768; omega)).trans ?_
    refine (View.read_writes_cons_unit_of_not_mem (size := S1x1x20x128.size) scM5.view _ _ _ _ _ (off27_eq t) 2 (by left; show f.val < 768; omega)).trans ?_
    refine (View.read_writes_cons_unit_of_not_mem (size := S1x1x20x128.size) scM5.view _ _ _ _ _ (off26_eq t) 2 (by left; show f.val < 768; omega)).trans ?_
    refine (View.read_writes_cons_unit_of_not_mem (size := S1x1x20x128.size) scM5.view _ _ _ _ _ (off25_eq t) 2 (by left; show f.val < 768; omega)).trans ?_
    refine (View.read_writes_cons_unit_of_not_mem (size := S1x1x20x128.size) scM5.view _ _ _ _ _ (off24_eq t) 2 (by left; show f.val < 768; omega)).trans ?_
    refine (View.read_writes_cons_unit_of_not_mem (size := S1x1x20x128.size) scM5.view _ _ _ _ _ (off23_eq t) 2 (by left; show f.val < 768; omega)).trans ?_
    refine (View.read_writes_cons_unit_of_not_mem (size := S1x1x20x128.size) scM5.view _ _ _ _ _ (off22_eq t) 2 (by left; show f.val < 768; omega)).trans ?_
    refine (View.read_writes_cons_unit_of_not_mem (size := S1x1x20x128.size) scM5.view _ _ _ _ _ (off21_eq t) 2 (by left; show f.val < 768; omega)).trans ?_
    refine (View.read_writes_cons_unit_of_not_mem (size := S1x8x256x128.size) scM5.view _ _ _ _ _ (off20_eq t) 2 (by left; show f.val < 512; omega)).trans ?_
    refine (View.read_writes_cons_unit_of_mem (size := S1x8x256x128.size) scM5.view _ _ _ _ _ (ix4 (0 : Fin 1) b (⟨f.val - 256, by omega⟩ : Fin 256) r) (off19_eq t) (fun a => by
      match a with
      | ⟨0, _⟩ => exact (Nat.add_zero _).symm
      | ⟨1, _⟩ => exact (Nat.zero_add _).symm
      | ⟨2, _⟩ => show f.val = 256 + (f.val - 256); omega
      | ⟨3, _⟩ => exact (Nat.zero_add _).symm)).trans ?_
    refine (row2'_apply _ _ _ _ _).trans ?_
    simp only [cumT_apply]
  rw [dif_neg h1]
  by_cases h2 : f.val < 768
  · rw [dif_pos h2]
    unfold slabL
    refine (View.read_writes_cons_unit_of_not_mem (size := S1x1x20x128.size) scM5.view _ _ _ _ _ (off28_eq t) 2 (by left; show f.val < 768; omega)).trans ?_
    refine (View.read_writes_cons_unit_of_not_mem (size := S1x1x20x128.size) scM5.view _ _ _ _ _ (off27_eq t) 2 (by left; show f.val < 768; omega)).trans ?_
    refine (View.read_writes_cons_unit_of_not_mem (size := S1x1x20x128.size) scM5.view _ _ _ _ _ (off26_eq t) 2 (by left; show f.val < 768; omega)).trans ?_
    refine (View.read_writes_cons_unit_of_not_mem (size := S1x1x20x128.size) scM5.view _ _ _ _ _ (off25_eq t) 2 (by left; show f.val < 768; omega)).trans ?_
    refine (View.read_writes_cons_unit_of_not_mem (size := S1x1x20x128.size) scM5.view _ _ _ _ _ (off24_eq t) 2 (by left; show f.val < 768; omega)).trans ?_
    refine (View.read_writes_cons_unit_of_not_mem (size := S1x1x20x128.size) scM5.view _ _ _ _ _ (off23_eq t) 2 (by left; show f.val < 768; omega)).trans ?_
    refine (View.read_writes_cons_unit_of_not_mem (size := S1x1x20x128.size) scM5.view _ _ _ _ _ (off22_eq t) 2 (by left; show f.val < 768; omega)).trans ?_
    refine (View.read_writes_cons_unit_of_not_mem (size := S1x1x20x128.size) scM5.view _ _ _ _ _ (off21_eq t) 2 (by left; show f.val < 768; omega)).trans ?_
    refine (View.read_writes_cons_unit_of_mem (size := S1x8x256x128.size) scM5.view _ _ _ _ _ (ix4 (0 : Fin 1) b (⟨f.val - 512, by omega⟩ : Fin 256) r) (off20_eq t) (fun a => by
      match a with
      | ⟨0, _⟩ => exact (Nat.add_zero _).symm
      | ⟨1, _⟩ => exact (Nat.zero_add _).symm
      | ⟨2, _⟩ => show f.val = 512 + (f.val - 512); omega
      | ⟨3, _⟩ => exact (Nat.zero_add _).symm)).trans ?_
    refine (row3_apply _ _ _ _ _ _).trans ?_
    simp only [cumT_apply]
  rw [dif_neg h2]
  unfold slabL
  match b, hb with
  | ⟨0, _⟩, _ =>
    refine (View.read_writes_cons_unit_of_not_mem (size := S1x1x20x128.size) scM5.view _ _ _ _ _ (off28_eq t) 1 (by left; show 0 < 7; decide)).trans ?_
    refine (View.read_writes_cons_unit_of_not_mem (size := S1x1x20x128.size) scM5.view _ _ _ _ _ (off27_eq t) 1 (by left; show 0 < 6; decide)).trans ?_
    refine (View.read_writes_cons_unit_of_not_mem (size := S1x1x20x128.size) scM5.view _ _ _ _ _ (off26_eq t) 1 (by left; show 0 < 5; decide)).trans ?_
    refine (View.read_writes_cons_unit_of_not_mem (size := S1x1x20x128.size) scM5.view _ _ _ _ _ (off25_eq t) 1 (by left; show 0 < 4; decide)).trans ?_
    refine (View.read_writes_cons_unit_of_not_mem (size := S1x1x20x128.size) scM5.view _ _ _ _ _ (off24_eq t) 1 (by left; show 0 < 3; decide)).trans ?_
    refine (View.read_writes_cons_unit_of_not_mem (size := S1x1x20x128.size) scM5.view _ _ _ _ _ (off23_eq t) 1 (by left; show 0 < 2; decide)).trans ?_
    refine (View.read_writes_cons_unit_of_not_mem (size := S1x1x20x128.size) scM5.view _ _ _ _ _ (off22_eq t) 1 (by left; show 0 < 1; decide)).trans ?_
    refine (View.read_writes_cons_unit_of_mem (size := S1x1x20x128.size) scM5.view _ _ _ _ _ (ix4 (0 : Fin 1) (0 : Fin 1) (⟨f.val - 768, by omega⟩ : Fin 20) r) (off21_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 0 (by decide) S.s3 slices_S20x8_o0_0_S20x1 (by rfl) (by rfl) ⟨f.val - 768, by omega⟩ r 0 0
  | ⟨1, _⟩, _ =>
    refine (View.read_writes_cons_unit_of_not_mem (size := S1x1x20x128.size) scM5.view _ _ _ _ _ (off28_eq t) 1 (by left; show 1 < 7; decide)).trans ?_
    refine (View.read_writes_cons_unit_of_not_mem (size := S1x1x20x128.size) scM5.view _ _ _ _ _ (off27_eq t) 1 (by left; show 1 < 6; decide)).trans ?_
    refine (View.read_writes_cons_unit_of_not_mem (size := S1x1x20x128.size) scM5.view _ _ _ _ _ (off26_eq t) 1 (by left; show 1 < 5; decide)).trans ?_
    refine (View.read_writes_cons_unit_of_not_mem (size := S1x1x20x128.size) scM5.view _ _ _ _ _ (off25_eq t) 1 (by left; show 1 < 4; decide)).trans ?_
    refine (View.read_writes_cons_unit_of_not_mem (size := S1x1x20x128.size) scM5.view _ _ _ _ _ (off24_eq t) 1 (by left; show 1 < 3; decide)).trans ?_
    refine (View.read_writes_cons_unit_of_not_mem (size := S1x1x20x128.size) scM5.view _ _ _ _ _ (off23_eq t) 1 (by left; show 1 < 2; decide)).trans ?_
    refine (View.read_writes_cons_unit_of_mem (size := S1x1x20x128.size) scM5.view _ _ _ _ _ (ix4 (0 : Fin 1) (0 : Fin 1) (⟨f.val - 768, by omega⟩ : Fin 20) r) (off22_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 1 (by decide) S.s3 slices_S20x8_o0_1_S20x1 (by rfl) (by rfl) ⟨f.val - 768, by omega⟩ r 0 0
  | ⟨2, _⟩, _ =>
    refine (View.read_writes_cons_unit_of_not_mem (size := S1x1x20x128.size) scM5.view _ _ _ _ _ (off28_eq t) 1 (by left; show 2 < 7; decide)).trans ?_
    refine (View.read_writes_cons_unit_of_not_mem (size := S1x1x20x128.size) scM5.view _ _ _ _ _ (off27_eq t) 1 (by left; show 2 < 6; decide)).trans ?_
    refine (View.read_writes_cons_unit_of_not_mem (size := S1x1x20x128.size) scM5.view _ _ _ _ _ (off26_eq t) 1 (by left; show 2 < 5; decide)).trans ?_
    refine (View.read_writes_cons_unit_of_not_mem (size := S1x1x20x128.size) scM5.view _ _ _ _ _ (off25_eq t) 1 (by left; show 2 < 4; decide)).trans ?_
    refine (View.read_writes_cons_unit_of_not_mem (size := S1x1x20x128.size) scM5.view _ _ _ _ _ (off24_eq t) 1 (by left; show 2 < 3; decide)).trans ?_
    refine (View.read_writes_cons_unit_of_mem (size := S1x1x20x128.size) scM5.view _ _ _ _ _ (ix4 (0 : Fin 1) (0 : Fin 1) (⟨f.val - 768, by omega⟩ : Fin 20) r) (off23_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 2 (by decide) S.s3 slices_S20x8_o0_2_S20x1 (by rfl) (by rfl) ⟨f.val - 768, by omega⟩ r 0 0
  | ⟨3, _⟩, _ =>
    refine (View.read_writes_cons_unit_of_not_mem (size := S1x1x20x128.size) scM5.view _ _ _ _ _ (off28_eq t) 1 (by left; show 3 < 7; decide)).trans ?_
    refine (View.read_writes_cons_unit_of_not_mem (size := S1x1x20x128.size) scM5.view _ _ _ _ _ (off27_eq t) 1 (by left; show 3 < 6; decide)).trans ?_
    refine (View.read_writes_cons_unit_of_not_mem (size := S1x1x20x128.size) scM5.view _ _ _ _ _ (off26_eq t) 1 (by left; show 3 < 5; decide)).trans ?_
    refine (View.read_writes_cons_unit_of_not_mem (size := S1x1x20x128.size) scM5.view _ _ _ _ _ (off25_eq t) 1 (by left; show 3 < 4; decide)).trans ?_
    refine (View.read_writes_cons_unit_of_mem (size := S1x1x20x128.size) scM5.view _ _ _ _ _ (ix4 (0 : Fin 1) (0 : Fin 1) (⟨f.val - 768, by omega⟩ : Fin 20) r) (off24_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 3 (by decide) S.s3 slices_S20x8_o0_3_S20x1 (by rfl) (by rfl) ⟨f.val - 768, by omega⟩ r 0 0
  | ⟨4, _⟩, _ =>
    refine (View.read_writes_cons_unit_of_not_mem (size := S1x1x20x128.size) scM5.view _ _ _ _ _ (off28_eq t) 1 (by left; show 4 < 7; decide)).trans ?_
    refine (View.read_writes_cons_unit_of_not_mem (size := S1x1x20x128.size) scM5.view _ _ _ _ _ (off27_eq t) 1 (by left; show 4 < 6; decide)).trans ?_
    refine (View.read_writes_cons_unit_of_not_mem (size := S1x1x20x128.size) scM5.view _ _ _ _ _ (off26_eq t) 1 (by left; show 4 < 5; decide)).trans ?_
    refine (View.read_writes_cons_unit_of_mem (size := S1x1x20x128.size) scM5.view _ _ _ _ _ (ix4 (0 : Fin 1) (0 : Fin 1) (⟨f.val - 768, by omega⟩ : Fin 20) r) (off25_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 4 (by decide) S.s3 slices_S20x8_o0_4_S20x1 (by rfl) (by rfl) ⟨f.val - 768, by omega⟩ r 0 0
  | ⟨5, _⟩, _ =>
    refine (View.read_writes_cons_unit_of_not_mem (size := S1x1x20x128.size) scM5.view _ _ _ _ _ (off28_eq t) 1 (by left; show 5 < 7; decide)).trans ?_
    refine (View.read_writes_cons_unit_of_not_mem (size := S1x1x20x128.size) scM5.view _ _ _ _ _ (off27_eq t) 1 (by left; show 5 < 6; decide)).trans ?_
    refine (View.read_writes_cons_unit_of_mem (size := S1x1x20x128.size) scM5.view _ _ _ _ _ (ix4 (0 : Fin 1) (0 : Fin 1) (⟨f.val - 768, by omega⟩ : Fin 20) r) (off26_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 5 (by decide) S.s3 slices_S20x8_o0_5_S20x1 (by rfl) (by rfl) ⟨f.val - 768, by omega⟩ r 0 0
  | ⟨6, _⟩, _ =>
    refine (View.read_writes_cons_unit_of_not_mem (size := S1x1x20x128.size) scM5.view _ _ _ _ _ (off28_eq t) 1 (by left; show 6 < 7; decide)).trans ?_
    refine (View.read_writes_cons_unit_of_mem (size := S1x1x20x128.size) scM5.view _ _ _ _ _ (ix4 (0 : Fin 1) (0 : Fin 1) (⟨f.val - 768, by omega⟩ : Fin 20) r) (off27_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 6 (by decide) S.s3 slices_S20x8_o0_6_S20x1 (by rfl) (by rfl) ⟨f.val - 768, by omega⟩ r 0 0
  | ⟨7, _⟩, _ =>
    refine (View.read_writes_cons_unit_of_mem (size := S1x1x20x128.size) scM5.view _ _ _ _ _ (ix4 (0 : Fin 1) (0 : Fin 1) (⟨f.val - 768, by omega⟩ : Fin 20) r) (off28_eq t) (fun a => by
      match a with
      | ⟨0, _⟩ => exact (Nat.add_zero _).symm
      | ⟨1, _⟩ => rfl
      | ⟨2, _⟩ => show f.val = 768 + (f.val - 768); omega
      | ⟨3, _⟩ => exact (Nat.zero_add _).symm)).trans ?_
    exact col_apply 7 (by decide) S.s3 slices_S20x8_o0_7_S20x1 (by rfl) (by rfl) ⟨f.val - 768, by omega⟩ r 0 0

end Cert.KernelIdeal.Enc

end

end
-- ==== Proof.KernelIdeal.Inv.lean ====
module

public import proofs.«01_k».proof.Proof.KernelIdeal.Out

@[expose] public section

set_option maxRecDepth 16384

noncomputable section

namespace Cert.KernelIdeal.Enc

open Idealize.ShloMosaic Idealize.ShloMosaic.TcCoe Idealize.ShloMosaic.ValueIdx
open Cert.KernelIdeal Cert.KernelIdeal.Gen Cert.Enc

variable (D : Data) (i : grid0.Coords) (X : Ins Ideal) (S : St Ideal)

/-- The time of a row of a point's block. -/
def tm (r : Fin 128) : Fin 2048 := ⟨128 * (i 1).val + r.val, by have : (i 1).val < 16 := (i 1).isLt; omega⟩

/-- A point's blocks are the arguments' blocks. -/
structure Reads : Prop where
  x0 : ∀ n p, X.x0 (ix2 n p) = D.a0 n p
  x1 : ∀ b r k, X.x1 (ix3 b r k) = D.a1 (sub (gb i) b) (tm i r) k
  x2 : ∀ b r k, X.x2 (ix3 b r k) = D.a2 (sub (gb i) b) (tm i r) k
  x3 : ∀ b r k, X.x3 (ix3 b r k) = D.a3 (sub (gb i) b) (tm i r) k
  x4 : ∀ b r k, X.x4 (ix3 b r k) = D.a4 (sub (gb i) b) (tm i r) k
  x5 : ∀ p k, X.x5 (ix2 p k) = D.a5 p k
  x6 : ∀ k, X.x6 (ix2 (0 : Fin 1) k) = D.a6 k
  x7 : ∀ k e, X.x7 (ix2 k e) = D.a7 k e
  x8 : ∀ e, X.x8 (ix2 (0 : Fin 1) e) = D.a8 e
  x9 : ∀ k d, X.x9 (ix2 k d) = D.a9 k d
  x10 : ∀ d, X.x10 (ix2 (0 : Fin 1) d) = D.a10 d
  x11 : ∀ r s, X.x11 (ix2 r s) = if s.val ≤ r.val then 1 else 0

/-- The state a point starts from, told of the sequences. -/
structure Inv : Prop where
  s0 : ∀ b d, S.s0 (ix2 b d) = csE (D.x (sub (gb i) b) d) (128 * (i 1).val)
  s1 : ∀ b d, S.s1 (ix2 b d) = mxE (D.x (sub (gb i) b) d) (128 * (i 1).val)
  s2 : ∀ b d, S.s2 (ix2 b d) = ((agI (D.x (sub (gb i) b) d) (128 * (i 1).val) : ℝ) : EReal)
  s3 : ∀ b e, S.s3 (ix2 b e) = D.dem (sub (gb i) b) e
  s4 : ∀ b d, S.s4 (ix2 b d) = D.lin (sub (gb i) b) d

variable {D i X S}

/-- A row block of the weights, by its offset. -/
theorem w_idx (o n : ℕ) (inb : ∀ a, (![o, 0] : Fin 2 → ℕ) a + (![n, 256] : Fin 2 → ℕ) a ≤ S1044x256.size a) (k : Fin n) (d : Fin 256) (h : o + k.val < 1044) :
    (Rect.unit (s := S1044x256) ![o, 0] ![n, 256] inb).toLoadRect.idx (ix2 k d) = ix2 (⟨o + k.val, h⟩ : Fin 1044) d := by
  funext a
  match a with
  | ⟨0, _⟩ => exact Fin.ext (by show o + 1 * k.val = o + k.val; omega)
  | ⟨1, _⟩ => exact Fin.ext (by show 0 + 1 * d.val = d.val; omega)

/-- The row block of the weights that this operand takes. -/
theorem Reads.w0 (h : Reads D i X) (k d) : X.w0 (ix2 k d) = D.a9 ⟨k.val, by omega⟩ d := by
  refine (congrArg X.x9 (w_idx 0 256 inb_S1044x256_S256x256_0_0 k d (by omega))).trans ((h.x9 _ d).trans ?_)
  congr 1; exact Fin.ext (Nat.zero_add _)
/-- The row block of the weights that this operand takes. -/
theorem Reads.w1 (h : Reads D i X) (k d) : X.w1 (ix2 k d) = D.a9 ⟨256 + k.val, by omega⟩ d :=
  (congrArg X.x9 (w_idx 256 256 inb_S1044x256_S256x256_256_0 k d (by omega))).trans (h.x9 _ d)
/-- The row block of the weights that this operand takes. -/
theorem Reads.w2 (h : Reads D i X) (k d) : X.w2 (ix2 k d) = D.a9 ⟨512 + k.val, by omega⟩ d :=
  (congrArg X.x9 (w_idx 512 256 inb_S1044x256_S256x256_512_0 k d (by omega))).trans (h.x9 _ d)
/-- The row block of the weights that this operand takes. -/
theorem Reads.w3 (h : Reads D i X) (k d) : X.w3 (ix2 k d) = D.a9 ⟨768 + k.val, by omega⟩ d :=
  (congrArg X.x9 (w_idx 768 256 inb_S1044x256_S256x256_768_0 k d (by omega))).trans (h.x9 _ d)
/-- The row block of the weights that this operand takes. -/
theorem Reads.w4 (h : Reads D i X) (e d) : X.w4 (ix2 e d) = D.a9 ⟨1024 + e.val, by omega⟩ d :=
  (congrArg X.x9 (w_idx 1024 20 inb_S1044x256_S20x256_1024_0 e d (by omega))).trans (h.x9 _ d)

/-- The kernel's demography is that of the arguments. -/
theorem Reads.dem (h : Reads D i X) (n e) : demK X n e = D.dem n e := by
  unfold demK dem1K Data.dem Data.dem1
  simp only [h.x0, h.x5, h.x6, h.x7, h.x8]

/-- The starting state at a first time block. -/
theorem inv_reset (h : Reads D i X) (hi : (i 1).val = 0) : Inv D i (reset i X) where
  s0 b d := by rw [reset_s0, hi]; rfl
  s1 b d := by rw [reset_s1, hi]; rfl
  s2 b d := by rw [reset_s2, hi]; unfold agI; simp
  s3 b e := by rw [reset_s3, h.dem]
  s4 b d := by
    rw [reset_s4]; unfold Data.lin
    simp only [h.dem, h.w4, h.x10]

/-- The tile's linear layer is that of the arguments. -/
theorem xt_eq (h : Reads D i X) (hS : Inv D i S) (b : Fin 8) (r : Fin 128) (d : Fin 256) :
    xt X S (ix3 b r d) = D.x (sub (gb i) b) d (128 * (i 1).val + r.val) := by
  rw [xt_apply]
  unfold Data.x
  rw [dif_pos (show 128 * (i 1).val + r.val < 2048 from (tm i r).isLt), hS.s4]
  simp only [h.x1, h.x2, h.x3, h.x4, h.w0, h.w1, h.w2, h.w3]
  rfl

/-- A product with the lower triangle of ones is a running sum. -/
theorem sum_tri (f : ℕ → EReal) (r : Fin 128) : (∑ s : Fin 128, (if s.val ≤ r.val then (1 : EReal) else 0) * f s.val) = ∑ s ∈ Finset.range (r.val + 1), f s := by
  rw [Fin.sum_univ_eq_sum_range (fun s => (if s ≤ r.val then (1 : EReal) else 0) * f s) 128]
  rw [← Finset.sum_subset (s₁ := Finset.range (r.val + 1))]
  · refine Finset.sum_congr rfl fun s hs => ?_
    rw [if_pos (by have := Finset.mem_range.1 hs; omega), one_mul]
  · intro s hs
    have := Finset.mem_range.1 hs
    exact Finset.mem_range.2 (by have := r.isLt; omega)
  · intro s _ hs
    rw [if_neg (fun h => hs (Finset.mem_range.2 (by omega))), zero_mul]

/-- The tile's running sum with its carry is the whole prefix's. -/
theorem cuE_eq (hD : D.Real) (h : Reads D i X) (hS : Inv D i S) (b : Fin 8) (r : Fin 128) (d : Fin 256) :
    cuE X S b r d = csE (D.x (sub (gb i) b) d) (128 * (i 1).val + r.val + 1) := by
  unfold cuE
  have h2 : (∑ s : Fin 128, X.x11 (ix2 r s) * (xt X S (ix3 b s d) - xt X S (ix3 b s d))) = 0 := by
    refine Finset.sum_eq_zero fun s _ => ?_
    rw [xt_eq h hS, (hD.x _ _ _).sub_self, mul_zero]
  rw [h2, add_zero, hS.s0, add_comm, Nat.add_assoc, csE_add]
  refine congrArg (_ + ·) ?_
  rw [← sum_tri (fun s => D.x (sub (gb i) b) d (128 * (i 1).val + s)) r]
  exact Finset.sum_congr rfl fun s _ => by rw [h.x11, xt_eq h hS]

/-- The tile's running maximum with its carry is the whole prefix's. -/
theorem cmx_eq (h : Reads D i X) (hS : Inv D i S) (b : Fin 8) (r : Fin 128) (d : Fin 256) :
    cmx X S (ix3 b r d) = mxE (D.x (sub (gb i) b) d) (128 * (i 1).val + r.val + 1) := by
  rw [cmx_apply, hS.s1, scan7_fold ⊥ _ bot_le _ (fun k => D.x (sub (gb i) b) d (128 * (i 1).val + k)) (fun r => xt_eq h hS b r d), fold_mxE]
  rfl

/-- The maximum before a time. -/
theorem pmx_eq (h : Reads D i X) (hS : Inv D i S) (b : Fin 8) (r : Fin 128) (d : Fin 256) :
    pmx X S (ix3 b r d) = mxE (D.x (sub (gb i) b) d) (128 * (i 1).val + r.val) := by
  rw [pmx_apply]
  split_ifs with hr
  · rw [hS.s1, hr]; rfl
  · rw [cmx_eq h hS]
    congr 1
    show 128 * (i 1).val + (r.val - 1) + 1 = _
    omega

/-- The time at which the prefix's maximum is first reached. -/
theorem cti_eq (h : Reads D i X) (hS : Inv D i S) (b : Fin 8) (r : Fin 128) (d : Fin 256) :
    cti i X S (ix3 b r d) = ((agI (D.x (sub (gb i) b) d) (128 * (i 1).val + r.val + 1) : ℝ) : EReal) := by
  classical
  have hb := agI_bounds (D.x (sub (gb i) b) d) (128 * (i 1).val)
  rw [cti_apply, hS.s2, scan7_fold _ _ (by rw [EReal.coe_le_coe_iff]; exact_mod_cast hb.1) _
    (fun k => if mxE (D.x (sub (gb i) b) d) (128 * (i 1).val + k) < D.x (sub (gb i) b) d (128 * (i 1).val + k) then (((128 * (i 1).val + k : ℕ) : ℝ) : EReal) else ((-1 : ℝ) : EReal))
    (fun r => by rw [cand_apply, pmx_eq h hS, xt_eq h hS]), fold_agI]
  rfl

/-- The state after a block is the next block's. -/
theorem inv_next (hD : D.Real) (h : Reads D i X) (hS : Inv D i S) (i' : grid0.Coords) (h0 : gb i' = gb i) (h1 : (i' 1).val = (i 1).val + 1) :
    Inv D i' (next i X S) where
  s0 b d := by
    show ns0 X S (ix2 b d) = _
    rw [ns0_apply, cuE_eq hD h hS, h0, h1]; rfl
  s1 b d := by rw [ns1_apply, cmx_eq h hS, h0, h1]; rfl
  s2 b d := by rw [ns2_apply, cti_eq h hS, h0, h1]; rfl
  s3 b e := by rw [h0]; exact hS.s3 b e
  s4 b d := by rw [h0]; exact hS.s4 b d

/-- The conversion of a small integer to a word. -/
theorem fptosi_int (a : ℤ) (h1 : -1 ≤ a) (h2 : a < 4096) : Ideal.fptosi 32 ((a : ℝ) : EReal) = BitVec.ofInt 32 a := by
  unfold Ideal.fptosi
  rw [Ideal.toIntClamped_coe, Int.floor_intCast, Int.ceil_intCast, ite_self]
  congr 1
  norm_num
  omega

/-- The tile's activations are those of the arguments. -/
theorem act_eq (h : Reads D i X) (hS : Inv D i S) (b : Fin 8) (r : Fin 128) (d : Fin 256) :
    act i X S (ix3 b d r) = D.act (sub (gb i) b) (128 * (i 1).val + r.val) d := by
  rw [act_apply, cmx_eq h hS]; rfl

/-- The tile's indices are those of the arguments. -/
theorem idx_eq (h : Reads D i X) (hS : Inv D i S) (b : Fin 8) (r : Fin 128) (d : Fin 256) :
    idx i X S (ix3 b d r) = D.idx (sub (gb i) b) (128 * (i 1).val + r.val) d := by
  have hb := agI_bounds (D.x (sub (gb i) b) d) (128 * (i 1).val + r.val + 1)
  have := (tm i r).isLt
  have : 128 * (i 1).val + r.val < 2048 := this
  rw [idx_apply, cmx_eq h hS, cti_eq h hS, fptosi_int _ hb.1 (by omega)]; rfl

/-- What a point's slot holds is the encoder's output. -/
theorem row_eq (hD : D.Real) (h : Reads D i X) (hS : Inv D i S) (b : Fin 8) (f : Fin 788) (r : Fin 128) :
    rowE i X S b f r = D.out (sub (gb i) b) (128 * (i 1).val + r.val) f := by
  unfold rowE Data.out
  simp only [act_eq h hS, cuE_eq hD h hS]
  split_ifs with h0 h1 h2
  · exact kLN_eq_rLN _ (fun d => hD.act _ _ d) _
  · exact kLN_mean _ (fun d => hD.cs _ d _) _
  · exact kLN_root _ (fun d => hD.cs _ d _) _ (by positivity) _
  · exact hS.s3 _ _

end Cert.KernelIdeal.Enc

end

end
-- ==== Proof.Math.Args.lean ====
module

public import proofs.«01_k».proof.Proof.Math.Data
public import Idealize.ShloMosaic.Lib.ValueIdx

@[expose] public section

noncomputable section

namespace Cert.Enc

open Idealize.ShloMosaic Idealize.ShloMosaic.ValueIdx

/-- The arguments' entries, read off the eleven arrays. -/
def Data.of (b0 : (⟨2, ![32, 8]⟩ : Shape).Idx → EReal) (b1 b2 b3 b4 : (⟨3, ![32, 2048, 256]⟩ : Shape).Idx → EReal)
    (b5 : (⟨2, ![8, 40]⟩ : Shape).Idx → EReal) (b6 : (⟨1, ![40]⟩ : Shape).Idx → EReal) (b7 : (⟨2, ![40, 20]⟩ : Shape).Idx → EReal)
    (b8 : (⟨1, ![20]⟩ : Shape).Idx → EReal) (b9 : (⟨2, ![1044, 256]⟩ : Shape).Idx → EReal) (b10 : (⟨1, ![256]⟩ : Shape).Idx → EReal) : Data where
  a0 n p := b0 (ix2 n p)
  a1 n t k := b1 (ix3 n t k)
  a2 n t k := b2 (ix3 n t k)
  a3 n t k := b3 (ix3 n t k)
  a4 n t k := b4 (ix3 n t k)
  a5 p k := b5 (ix2 p k)
  a6 k := b6 (ix1 k)
  a7 k e := b7 (ix2 k e)
  a8 e := b8 (ix1 e)
  a9 k d := b9 (ix2 k d)
  a10 d := b10 (ix1 d)

/-- The three results as arrays: the encoder's output, -/
def Data.outArr (D : Data) : (⟨3, ![32, 2048, 788]⟩ : Shape).Idx → EReal := fun j => D.out (j 0) (j 1).val (j 2)
/-- the indices, -/
def Data.idxArr (D : Data) : (⟨3, ![32, 256, 2048]⟩ : Shape).Idx → BitVec 32 := fun j => D.idx (j 0) (j 2).val (j 1)
/-- the activations. -/
def Data.actArr (D : Data) : (⟨3, ![32, 256, 2048]⟩ : Shape).Idx → EReal := fun j => D.act (j 0) (j 2).val (j 1)

end Cert.Enc

end

end
-- ==== Proof.KernelIdeal.Arr.lean ====
module

public import proofs.«01_k».proof.Proof.KernelIdeal.Inv
public import proofs.«01_k».proof.Proof.KernelIdeal.Whole
public import proofs.«01_k».proof.Proof.Math.Args

@[expose] public section

set_option maxRecDepth 16384

noncomputable section

namespace Cert.KernelIdeal.Enc

open Idealize.ShloMosaic Idealize.ShloMosaic.TcCoe Idealize.ShloMosaic.ValueIdx Idealize.ShloMosaic.Tactic
open Idealize.ShloMosaic.Pipeline (Dat)
open Idealize.SL.Sem
open Cert.KernelIdeal Cert.KernelIdeal.Gen Cert.Enc

variable (m : (ℓ : Loc nD τ sig) → Buf (Elt Ideal) ℓ) (c : Dev nD)

/-- A device's arguments, entry by entry. -/
def dataK : Data := Data.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-! ## What the region finds in the arrays the host lines fill -/

/-- A vector reshaped to one row. -/
theorem row_one {n : ℕ} (x : (⟨1, ![n]⟩ : Shape).Idx → EReal) (h : (⟨1, ![n]⟩ : Shape).ShapeCasts (⟨2, ![1, n]⟩ : Shape)) (k : Fin n) :
    shapeCast (⟨2, ![1, n]⟩ : Shape) x h (ix2 (0 : Fin 1) k) = x (ix1 k) :=
  shapeCast_apply _ _ _ _ (by rw [Shape.rowMajor_val_two, Shape.rowMajor_val_one]; show k.val = 0 * n + k.val; omega)

/-- The bias as a row, as the region finds it. -/
theorem V_main_v3 (k : Fin 40) : (V m c main_v3 : S1x40.Idx → EReal) (ix2 (0 : Fin 1) k) = m ((c : Thread nD τ).loc main_arg6) (ix1 k) := by
  have e : (V m c main_v3 : S1x40.Idx → EReal) = shapeCast S1x40 (m ((c : Thread nD τ).loc main_arg6)) shapeCasts_S40_S1x40 := by
    show StableHlo.after _ _ (Proc.devRef .tc main_v3) = _
    simp only [hostOps0, hostOps0_1, hostOps0_2, List.flatten_cons, List.flatten_nil, List.append_nil, List.cons_append, List.nil_append]
    after_results_simp
    rfl
  rw [e]
  exact row_one _ _ k
/-- The bias as a row, as the region finds it. -/
theorem V_main_v4 (k : Fin 20) : (V m c main_v4 : S1x20.Idx → EReal) (ix2 (0 : Fin 1) k) = m ((c : Thread nD τ).loc main_arg8) (ix1 k) := by
  have e : (V m c main_v4 : S1x20.Idx → EReal) = shapeCast S1x20 (m ((c : Thread nD τ).loc main_arg8)) shapeCasts_S20_S1x20 := by
    show StableHlo.after _ _ (Proc.devRef .tc main_v4) = _
    simp only [hostOps0, hostOps0_1, hostOps0_2, List.flatten_cons, List.flatten_nil, List.append_nil, List.cons_append, List.nil_append]
    after_results_simp
    rfl
  rw [e]
  exact row_one _ _ k
/-- The bias as a row, as the region finds it. -/
theorem V_main_v5 (k : Fin 256) : (V m c main_v5 : S1x256.Idx → EReal) (ix2 (0 : Fin 1) k) = m ((c : Thread nD τ).loc main_arg10) (ix1 k) := by
  have e : (V m c main_v5 : S1x256.Idx → EReal) = shapeCast S1x256 (m ((c : Thread nD τ).loc main_arg10)) shapeCasts_S256_S1x256 := by
    show StableHlo.after _ _ (Proc.devRef .tc main_v5) = _
    simp only [hostOps0, hostOps0_1, hostOps0_2, List.flatten_cons, List.flatten_nil, List.append_nil, List.cons_append, List.nil_append]
    after_results_simp
    rfl
  rw [e]
  exact row_one _ _ k

/-- Signed comparison of small words. -/
theorem sle_small (a b : ℕ) (ha : a < 128) (hb : b < 128) :
    (if BitVec.sle (BitVec.ofNat 32 b) (BitVec.ofNat 32 a + 0#32) then (1#1 : BitVec 1) else 0#1) = if b ≤ a then 1#1 else 0#1 := by
  have h : BitVec.sle (BitVec.ofNat 32 b) (BitVec.ofNat 32 a + 0#32) = decide (b ≤ a) := by
    rw [BitVec.add_zero, BitVec.sle_eq_decide, BitVec.toInt_eq_toNat_of_lt (by simp; omega), BitVec.toInt_eq_toNat_of_lt (by simp; omega)]
    simp only [BitVec.toNat_ofNat, Nat.cast_le]
    rw [Nat.mod_eq_of_lt (by omega), Nat.mod_eq_of_lt (by omega)]
  rw [h]; simp

/-- The triangle of ones. -/
theorem V_main_v2 (r s : Fin 128) : (V m c main_v2 : S128x128.Idx → EReal) (ix2 r s) = if s.val ≤ r.val then (1 : EReal) else (0 : EReal) := by
  have e : (V m c main_v2 : S128x128.Idx → EReal) (ix2 r s) = Scalar.select (Scalar.cmpi .sge (BitVec.ofNat 32 r.val + 0#32) (BitVec.ofNat 32 s.val))
      (Ideal.ofBits .f32 0x3F800000#32) (Ideal.ofBits .f32 0x00000000#32) := by
    show StableHlo.after _ _ (Proc.devRef .tc main_v2) _ = _
    simp only [hostOps0, hostOps0_1, hostOps0_2, List.flatten_cons, List.flatten_nil, List.append_nil, List.cons_append, List.nil_append]
    after_results_simp
    rfl
  rw [e, Ideal.ofBits_zero_f32, Ideal.ofBits_one_f32]
  have h := sle_small r.val s.val r.isLt s.isLt
  by_cases hrs : s.val ≤ r.val
  · rw [if_pos hrs] at *
    unfold Scalar.select Scalar.cmpi IntOp.cmpi
    simp at h ⊢
    simp [h]
    try rfl
  · rw [if_neg hrs] at *
    unfold Scalar.select Scalar.cmpi IntOp.cmpi
    simp at h ⊢
    simp [h]
    try rfl

/-! ## The grid's points -/

/-- A step's coordinates: the group of eight subjects and the tile of 128 times. -/
theorem co_eq : ∀ t : Fin grid0.N, ((grid0.coords t) 0).val = t.val / 16 ∧ ((grid0.coords t) 1).val = t.val % 16 := by decide +kernel

/-- The blocks that the input windows bring at a step. -/
theorem ix_blk : ∀ t : Fin grid0.N, (win0_1.index t 0 = ((grid0.coords t) 0).val ∧ win0_1.index t 1 = ((grid0.coords t) 1).val ∧ win0_1.index t 2 = 0)
    ∧ (win0_2.index t 0 = ((grid0.coords t) 0).val ∧ win0_2.index t 1 = ((grid0.coords t) 1).val ∧ win0_2.index t 2 = 0)
    ∧ (win0_3.index t 0 = ((grid0.coords t) 0).val ∧ win0_3.index t 1 = ((grid0.coords t) 1).val ∧ win0_3.index t 2 = 0)
    ∧ (win0_4.index t 0 = ((grid0.coords t) 0).val ∧ win0_4.index t 1 = ((grid0.coords t) 1).val ∧ win0_4.index t 2 = 0) := by decide +kernel
/-- The blocks that the output windows take at a step. -/
theorem ix_out : ∀ t : Fin grid0.N, (win0_12.index t 0 = t.val / 16 ∧ win0_12.index t 1 = 0 ∧ win0_12.index t 2 = t.val % 16)
    ∧ (win0_13.index t 0 = t.val / 16 ∧ win0_13.index t 1 = 0 ∧ win0_13.index t 2 = t.val % 16) := by decide +kernel

variable (t : Fin grid0.N)

/-- The step's block of this series: its subjects at its times. -/
theorem ins_x1 (b : Fin 8) (r : Fin 128) (k : Fin 256) : (ins m c t).x1 (ix3 b r k) = (dataK m c).a1 (sub (gb (grid0.coords t)) b) (tm (grid0.coords t) r) k := by
  obtain ⟨h0, h1, h2⟩ := (ix_blk t).1
  show iblk m c 1 t (ix3 b r k) = m ((c : Thread nD τ).loc main_arg1) (ix3 _ _ _)
  rw [← V_main_arg1 m c]
  unfold iblk
  rw [View.read_apply]
  show V m c main_arg1 _ = V m c main_arg1 _
  congr 1
  funext a
  apply Fin.ext
  match a with
  | ⟨0, _⟩ => show win0_1.index t 0 * 8 + 1 * b.val = 8 * ((grid0.coords t) 0).val + b.val; rw [h0]; omega
  | ⟨1, _⟩ => show win0_1.index t 1 * 128 + 1 * r.val = 128 * ((grid0.coords t) 1).val + r.val; rw [h1]; omega
  | ⟨2, _⟩ => show win0_1.index t 2 * 256 + 1 * k.val = k.val; rw [h2]; omega
/-- The step's block of this series: its subjects at its times. -/
theorem ins_x2 (b : Fin 8) (r : Fin 128) (k : Fin 256) : (ins m c t).x2 (ix3 b r k) = (dataK m c).a2 (sub (gb (grid0.coords t)) b) (tm (grid0.coords t) r) k := by
  obtain ⟨h0, h1, h2⟩ := (ix_blk t).2.1
  show iblk m c 2 t (ix3 b r k) = m ((c : Thread nD τ).loc main_arg2) (ix3 _ _ _)
  rw [← V_main_arg2 m c]
  unfold iblk
  rw [View.read_apply]
  show V m c main_arg2 _ = V m c main_arg2 _
  congr 1
  funext a
  apply Fin.ext
  match a with
  | ⟨0, _⟩ => show win0_2.index t 0 * 8 + 1 * b.val = 8 * ((grid0.coords t) 0).val + b.val; rw [h0]; omega
  | ⟨1, _⟩ => show win0_2.index t 1 * 128 + 1 * r.val = 128 * ((grid0.coords t) 1).val + r.val; rw [h1]; omega
  | ⟨2, _⟩ => show win0_2.index t 2 * 256 + 1 * k.val = k.val; rw [h2]; omega
/-- The step's block of this series: its subjects at its times. -/
theorem ins_x3 (b : Fin 8) (r : Fin 128) (k : Fin 256) : (ins m c t).x3 (ix3 b r k) = (dataK m c).a3 (sub (gb (grid0.coords t)) b) (tm (grid0.coords t) r) k := by
  obtain ⟨h0, h1, h2⟩ := (ix_blk t).2.2.1
  show iblk m c 3 t (ix3 b r k) = m ((c : Thread nD τ).loc main_arg3) (ix3 _ _ _)
  rw [← V_main_arg3 m c]
  unfold iblk
  rw [View.read_apply]
  show V m c main_arg3 _ = V m c main_arg3 _
  congr 1
  funext a
  apply Fin.ext
  match a with
  | ⟨0, _⟩ => show win0_3.index t 0 * 8 + 1 * b.val = 8 * ((grid0.coords t) 0).val + b.val; rw [h0]; omega
  | ⟨1, _⟩ => show win0_3.index t 1 * 128 + 1 * r.val = 128 * ((grid0.coords t) 1).val + r.val; rw [h1]; omega
  | ⟨2, _⟩ => show win0_3.index t 2 * 256 + 1 * k.val = k.val; rw [h2]; omega
/-- The step's block of this series: its subjects at its times. -/
theorem ins_x4 (b : Fin 8) (r : Fin 128) (k : Fin 256) : (ins m c t).x4 (ix3 b r k) = (dataK m c).a4 (sub (gb (grid0.coords t)) b) (tm (grid0.coords t) r) k := by
  obtain ⟨h0, h1, h2⟩ := (ix_blk t).2.2.2
  show iblk m c 4 t (ix3 b r k) = m ((c : Thread nD τ).loc main_arg4) (ix3 _ _ _)
  rw [← V_main_arg4 m c]
  unfold iblk
  rw [View.read_apply]
  show V m c main_arg4 _ = V m c main_arg4 _
  congr 1
  funext a
  apply Fin.ext
  match a with
  | ⟨0, _⟩ => show win0_4.index t 0 * 8 + 1 * b.val = 8 * ((grid0.coords t) 0).val + b.val; rw [h0]; omega
  | ⟨1, _⟩ => show win0_4.index t 1 * 128 + 1 * r.val = 128 * ((grid0.coords t) 1).val + r.val; rw [h1]; omega
  | ⟨2, _⟩ => show win0_4.index t 2 * 256 + 1 * k.val = k.val; rw [h2]; omega
/-- This window brings its whole array. -/
theorem ins_x0 (p : Fin 32) (q : Fin 8) : (ins m c t).x0 (ix2 p q) = V m c main_arg0 (ix2 p q) := by
  show iblk m c 0 t (ix2 p q) = _
  unfold iblk
  rw [View.read_apply]
  show V m c main_arg0 _ = V m c main_arg0 _
  congr 1
  funext a
  apply Fin.ext
  match a with
  | ⟨0, _⟩ => show 0 * 32 + 1 * p.val = p.val; omega
  | ⟨1, _⟩ => show 0 * 8 + 1 * q.val = q.val; omega
/-- This window brings its whole array. -/
theorem ins_x5 (p : Fin 8) (q : Fin 40) : (ins m c t).x5 (ix2 p q) = V m c main_arg5 (ix2 p q) := by
  show iblk m c 5 t (ix2 p q) = _
  unfold iblk
  rw [View.read_apply]
  show V m c main_arg5 _ = V m c main_arg5 _
  congr 1
  funext a
  apply Fin.ext
  match a with
  | ⟨0, _⟩ => show 0 * 8 + 1 * p.val = p.val; omega
  | ⟨1, _⟩ => show 0 * 40 + 1 * q.val = q.val; omega
/-- This window brings its whole array. -/
theorem ins_x6 (p : Fin 1) (q : Fin 40) : (ins m c t).x6 (ix2 p q) = V m c main_v3 (ix2 p q) := by
  show iblk m c 6 t (ix2 p q) = _
  unfold iblk
  rw [View.read_apply]
  show V m c main_v3 _ = V m c main_v3 _
  congr 1
  funext a
  apply Fin.ext
  match a with
  | ⟨0, _⟩ => show 0 * 1 + 1 * p.val = p.val; omega
  | ⟨1, _⟩ => show 0 * 40 + 1 * q.val = q.val; omega
/-- This window brings its whole array. -/
theorem ins_x7 (p : Fin 40) (q : Fin 20) : (ins m c t).x7 (ix2 p q) = V m c main_arg7 (ix2 p q) := by
  show iblk m c 7 t (ix2 p q) = _
  unfold iblk
  rw [View.read_apply]
  show V m c main_arg7 _ = V m c main_arg7 _
  congr 1
  funext a
  apply Fin.ext
  match a with
  | ⟨0, _⟩ => show 0 * 40 + 1 * p.val = p.val; omega
  | ⟨1, _⟩ => show 0 * 20 + 1 * q.val = q.val; omega
/-- This window brings its whole array. -/
theorem ins_x8 (p : Fin 1) (q : Fin 20) : (ins m c t).x8 (ix2 p q) = V m c main_v4 (ix2 p q) := by
  show iblk m c 8 t (ix2 p q) = _
  unfold iblk
  rw [View.read_apply]
  show V m c main_v4 _ = V m c main_v4 _
  congr 1
  funext a
  apply Fin.ext
  match a with
  | ⟨0, _⟩ => show 0 * 1 + 1 * p.val = p.val; omega
  | ⟨1, _⟩ => show 0 * 20 + 1 * q.val = q.val; omega
/-- This window brings its whole array. -/
theorem ins_x9 (p : Fin 1044) (q : Fin 256) : (ins m c t).x9 (ix2 p q) = V m c main_arg9 (ix2 p q) := by
  show iblk m c 9 t (ix2 p q) = _
  unfold iblk
  rw [View.read_apply]
  show V m c main_arg9 _ = V m c main_arg9 _
  congr 1
  funext a
  apply Fin.ext
  match a with
  | ⟨0, _⟩ => show 0 * 1044 + 1 * p.val = p.val; omega
  | ⟨1, _⟩ => show 0 * 256 + 1 * q.val = q.val; omega
/-- This window brings its whole array. -/
theorem ins_x10 (p : Fin 1) (q : Fin 256) : (ins m c t).x10 (ix2 p q) = V m c main_v5 (ix2 p q) := by
  show iblk m c 10 t (ix2 p q) = _
  unfold iblk
  rw [View.read_apply]
  show V m c main_v5 _ = V m c main_v5 _
  congr 1
  funext a
  apply Fin.ext
  match a with
  | ⟨0, _⟩ => show 0 * 1 + 1 * p.val = p.val; omega
  | ⟨1, _⟩ => show 0 * 256 + 1 * q.val = q.val; omega
/-- This window brings its whole array. -/
theorem ins_x11 (p : Fin 128) (q : Fin 128) : (ins m c t).x11 (ix2 p q) = V m c main_v2 (ix2 p q) := by
  show iblk m c 11 t (ix2 p q) = _
  unfold iblk
  rw [View.read_apply]
  show V m c main_v2 _ = V m c main_v2 _
  congr 1
  funext a
  apply Fin.ext
  match a with
  | ⟨0, _⟩ => show 0 * 128 + 1 * p.val = p.val; omega
  | ⟨1, _⟩ => show 0 * 128 + 1 * q.val = q.val; omega

/-- Every point's blocks are the arguments'. -/
theorem reads : Reads (dataK m c) (grid0.coords t) (ins m c t) where
  x0 n p := (ins_x0 m c t n p).trans (congrFun (V_main_arg0 m c) _)
  x1 := ins_x1 m c t
  x2 := ins_x2 m c t
  x3 := ins_x3 m c t
  x4 := ins_x4 m c t
  x5 p k := (ins_x5 m c t p k).trans (congrFun (V_main_arg5 m c) _)
  x6 k := (ins_x6 m c t 0 k).trans (V_main_v3 m c k)
  x7 k e := (ins_x7 m c t k e).trans (congrFun (V_main_arg7 m c) _)
  x8 e := (ins_x8 m c t 0 e).trans (V_main_v4 m c e)
  x9 k d := (ins_x9 m c t k d).trans (congrFun (V_main_arg9 m c) _)
  x10 d := (ins_x10 m c t 0 d).trans (V_main_v5 m c d)
  x11 r s := (ins_x11 m c t r s).trans (V_main_v2 m c r s)

/-- Every point starts from the sequences' state. -/
theorem inv (hD : (dataK m c).Real) : ∀ (n : ℕ) (h : n < grid0.N), Inv (dataK m c) (grid0.coords ⟨n, h⟩) (used m c n h)
  | 0, h => by
    rw [show used m c 0 h = _ from used_reset m c ⟨0, h⟩ rfl]
    exact inv_reset (reads m c _) ((co_eq _).2.trans rfl)
  | n + 1, h => by
    by_cases h0 : (n + 1) % 16 = 0
    · rw [show used m c (n + 1) h = _ from used_reset m c ⟨n + 1, h⟩ h0]
      exact inv_reset (reads m c _) ((co_eq _).2.trans h0)
    · rw [show used m c (n + 1) h = _ from used_next m c ⟨n, Nat.lt_of_succ_lt h⟩ h h0]
      refine inv_next hD (reads m c _) (inv hD n _) _ (Fin.ext ?_) ?_
      · show ((grid0.coords ⟨n + 1, h⟩) 0).val = ((grid0.coords ⟨n, _⟩) 0).val
        rw [(co_eq _).1, (co_eq _).1]; show (n + 1) / 16 = n / 16; omega
      · rw [(co_eq _).2, (co_eq _).2]; show (n + 1) % 16 = n % 16 + 1; omega

/-! ## The two windowed results -/

/-- A step flushes its block of the indices. -/
theorem flushed_12 (hD : (dataK m c).Real) (t : Fin cfg0.N) :
    (dats m 0 c).flushed 12 t = ((cfg0.win 12).blk t).view.read (Elt Ideal) ((dataK m c).idxArr : Buf (Elt Ideal) ((c : Thread nD τ).loc main_v6_1)) := by
  obtain ⟨h0, h1, h2⟩ := (ix_out t).1
  show (cfg0.win 12).cut (grid0.coords t) ((dats m 0 c).after 12 t) = _
  rw [after0_12]
  funext y
  rw [View.read_apply]
  have hy : y = ix3 (n0 := 8) (n1 := 256) (n2 := 128) (y 0) (y 1) (y 2) := eq_ix3 y
  refine Eq.trans (b := idx (grid0.coords t) (ins m c t) (used m c t.val t.isLt) (ix3 (n0 := 8) (n1 := 256) (n2 := 128) (y 0) (y 1) (y 2))) ?_ ?_
  · show idx (grid0.coords t) (ins m c t) (used m c t.val t.isLt) _ = _
    congr 1
  refine (idx_eq (reads m c t) (inv m c hD t.val t.isLt) (y 0) (y 2) (y 1)).trans ?_
  obtain ⟨c0, c1⟩ := co_eq t
  show (dataK m c).idx _ _ _ = (dataK m c).idx _ _ _
  congr 1
  · apply Fin.ext
    show 8 * ((grid0.coords t) 0).val + (y 0).val = win0_12.index t 0 * 8 + 1 * (y 0).val
    rw [h0, c0]; omega
  · show 128 * ((grid0.coords t) 1).val + (y 2).val = win0_12.index t 2 * 128 + 1 * (y 2).val
    rw [h2, c1]; omega
  · apply Fin.ext
    show (y 1).val = win0_12.index t 1 * 256 + 1 * (y 1).val
    rw [h1]; omega

/-- The index array at the end. -/
theorem final_12 (hD : (dataK m c).Real) : (dats m 0 c).arrAt 12 cfg0.N = ((dataK m c).idxArr : Buf (Elt Ideal) ((c : Thread nD τ).loc main_v6_1)) :=
  (dats m 0 c).arrAt_eq_of_cover 12 _ (fun t _ => flushed_12 m c hD t) fun i => by
    have i0 : (i 0 : Nat) < 32 := (i 0).isLt
    have i1 : (i 1 : Nat) < 256 := (i 1).isLt
    have i2 : (i 2 : Nat) < 2048 := (i 2).isLt
    have hN : grid0.N = 64 := N_0
    have hlt : 16 * ((i 0 : Nat) / 8) + (i 2 : Nat) / 128 < grid0.N := by omega
    refine ⟨⟨16 * ((i 0 : Nat) / 8) + (i 2 : Nat) / 128, hlt⟩, flush0_12 _, ?_⟩
    generalize ht : (⟨16 * ((i 0 : Nat) / 8) + (i 2 : Nat) / 128, hlt⟩ : Fin grid0.N) = t
    have hv : t.val = 16 * ((i 0 : Nat) / 8) + (i 2 : Nat) / 128 := by rw [← ht]
    obtain ⟨h0, h1, h2⟩ := (ix_out t).1
    show i ∈ ((View.whole main_v6_1).slice (win0_12.rect t)).set
    rw [View.set_slice_whole, Rect.mem_set_unit]
    intro a
    match a with
    | ⟨0, _⟩ => show win0_12.index t 0 * 8 ≤ (i 0 : Nat) ∧ (i 0 : Nat) < win0_12.index t 0 * 8 + 8
                rw [h0]; omega
    | ⟨1, _⟩ => show win0_12.index t 1 * 256 ≤ (i 1 : Nat) ∧ (i 1 : Nat) < win0_12.index t 1 * 256 + 256
                rw [h1]; omega
    | ⟨2, _⟩ => show win0_12.index t 2 * 128 ≤ (i 2 : Nat) ∧ (i 2 : Nat) < win0_12.index t 2 * 128 + 128
                rw [h2]; omega
/-- A step flushes its block of the activations. -/
theorem flushed_13 (hD : (dataK m c).Real) (t : Fin cfg0.N) :
    (dats m 0 c).flushed 13 t = ((cfg0.win 13).blk t).view.read (Elt Ideal) ((dataK m c).actArr : Buf (Elt Ideal) ((c : Thread nD τ).loc main_v6_2)) := by
  obtain ⟨h0, h1, h2⟩ := (ix_out t).2
  show (cfg0.win 13).cut (grid0.coords t) ((dats m 0 c).after 13 t) = _
  rw [after0_13]
  funext y
  rw [View.read_apply]
  have hy : y = ix3 (n0 := 8) (n1 := 256) (n2 := 128) (y 0) (y 1) (y 2) := eq_ix3 y
  refine Eq.trans (b := act (grid0.coords t) (ins m c t) (used m c t.val t.isLt) (ix3 (n0 := 8) (n1 := 256) (n2 := 128) (y 0) (y 1) (y 2))) ?_ ?_
  · show act (grid0.coords t) (ins m c t) (used m c t.val t.isLt) _ = _
    congr 1
  refine (act_eq (reads m c t) (inv m c hD t.val t.isLt) (y 0) (y 2) (y 1)).trans ?_
  obtain ⟨c0, c1⟩ := co_eq t
  show (dataK m c).act _ _ _ = (dataK m c).act _ _ _
  congr 1
  · apply Fin.ext
    show 8 * ((grid0.coords t) 0).val + (y 0).val = win0_13.index t 0 * 8 + 1 * (y 0).val
    rw [h0, c0]; omega
  · show 128 * ((grid0.coords t) 1).val + (y 2).val = win0_13.index t 2 * 128 + 1 * (y 2).val
    rw [h2, c1]; omega
  · apply Fin.ext
    show (y 1).val = win0_13.index t 1 * 256 + 1 * (y 1).val
    rw [h1]; omega

/-- The activation array at the end. -/
theorem final_13 (hD : (dataK m c).Real) : (dats m 0 c).arrAt 13 cfg0.N = ((dataK m c).actArr : Buf (Elt Ideal) ((c : Thread nD τ).loc main_v6_2)) :=
  (dats m 0 c).arrAt_eq_of_cover 13 _ (fun t _ => flushed_13 m c hD t) fun i => by
    have i0 : (i 0 : Nat) < 32 := (i 0).isLt
    have i1 : (i 1 : Nat) < 256 := (i 1).isLt
    have i2 : (i 2 : Nat) < 2048 := (i 2).isLt
    have hN : grid0.N = 64 := N_0
    have hlt : 16 * ((i 0 : Nat) / 8) + (i 2 : Nat) / 128 < grid0.N := by omega
    refine ⟨⟨16 * ((i 0 : Nat) / 8) + (i 2 : Nat) / 128, hlt⟩, flush0_13 _, ?_⟩
    generalize ht : (⟨16 * ((i 0 : Nat) / 8) + (i 2 : Nat) / 128, hlt⟩ : Fin grid0.N) = t
    have hv : t.val = 16 * ((i 0 : Nat) / 8) + (i 2 : Nat) / 128 := by rw [← ht]
    obtain ⟨h0, h1, h2⟩ := (ix_out t).2
    show i ∈ ((View.whole main_v6_2).slice (win0_13.rect t)).set
    rw [View.set_slice_whole, Rect.mem_set_unit]
    intro a
    match a with
    | ⟨0, _⟩ => show win0_13.index t 0 * 8 ≤ (i 0 : Nat) ∧ (i 0 : Nat) < win0_13.index t 0 * 8 + 8
                rw [h0]; omega
    | ⟨1, _⟩ => show win0_13.index t 1 * 256 ≤ (i 1 : Nat) ∧ (i 1 : Nat) < win0_13.index t 1 * 256 + 256
                rw [h1]; omega
    | ⟨2, _⟩ => show win0_13.index t 2 * 128 ≤ (i 2 : Nat) ∧ (i 2 : Nat) < win0_13.index t 2 * 128 + 128
                rw [h2]; omega

/-! ## The ring's result -/

/-- A tile of the scratch buffer, read. -/
theorem tile_read (g : Fin 2) (b : Fin 8) (e : HbBuf (F := Ideal) c scM5) (f : Fin 788) (r : Fin 128) :
    (tile g b).view.read (Elt Ideal) e (ix2 f r) = (e : S2x8x788x128.Idx → EReal) (ix4 g b f r) := by
  refine (congrFun (Memref.read_squeeze_slice scM5 _ _ squeezes_S1x1x788x128_S788x128 (show S1x1x788x128.ShapeCasts S788x128 from by decide) _) (ix2 f r)).trans ?_
  refine (shapeCast_apply _ _ _ (ix4 (0 : Fin 1) (0 : Fin 1) f r) (by
    rw [Shape.rowMajor_val_two, Shape.rowMajor_val_four]; show ((0 * 1 + 0) * 788 + f.val) * 128 + r.val = f.val * 128 + r.val; omega)).trans ?_
  show e _ = e _
  congr 1
  funext a
  apply Fin.ext
  match a with
  | ⟨0, _⟩ => show g.val + 1 * 0 = g.val; omega
  | ⟨1, _⟩ => show b.val + 1 * 0 = b.val; omega
  | ⟨2, _⟩ => show 0 + 1 * f.val = f.val; omega
  | ⟨3, _⟩ => show 0 + 1 * r.val = r.val; omega

/-- A piece of the output, read. -/
theorem piece_read (u : Fin 64) (b : Fin 8) (e : HbBuf (F := Ideal) c hbM) (f : Fin 788) (r : Fin 128) :
    (piece u b).view.read (Elt Ideal) e (ix2 f r) = e (ix5 f (⟨u.val / 16, by omega⟩ : Fin 4) (⟨u.val % 16, by omega⟩ : Fin 16) b r) := by
  refine (congrFun (Memref.read_squeeze_slice hbM _ _ squeezes_S788x1x1x1x128_S788x128 (show S788x1x1x1x128.ShapeCasts S788x128 from by decide) _) (ix2 f r)).trans ?_
  refine (shapeCast_apply _ _ _ (ix5 f (0 : Fin 1) (0 : Fin 1) (0 : Fin 1) r) (by
    rw [Shape.rowMajor_val_two, Shape.rowMajor_val_five]; show (((f.val * 1 + 0) * 1 + 0) * 1 + 0) * 128 + r.val = f.val * 128 + r.val; omega)).trans ?_
  show e _ = e _
  congr 1
  funext a
  apply Fin.ext
  match a with
  | ⟨0, _⟩ => show 0 + 1 * f.val = f.val; omega
  | ⟨1, _⟩ => show u.val / 16 + 1 * 0 = u.val / 16; omega
  | ⟨2, _⟩ => show u.val % 16 + 1 * 0 = u.val % 16; omega
  | ⟨3, _⟩ => show b.val + 1 * 0 = b.val; omega
  | ⟨4, _⟩ => show 0 + 1 * r.val = r.val; omega

/-- The ring's output array, entry by entry. -/
theorem outAll_apply (hD : (dataK m c).Real) (f : Fin 788) (g : Fin 4) (j : Fin 16) (b : Fin 8) (r : Fin 128) :
    (outAll c (v0of m c) (Ev m c) : S788x4x16x8x128.Idx → EReal) (ix5 f g j b r) = (dataK m c).out (sub g b) (128 * j.val + r.val) f := by
  have hN : grid0.N = 64 := N_0
  have hu : 16 * g.val + j.val < 64 := by omega
  have e1 : stepOf (ix5 f g j b r) = ⟨16 * g.val + j.val, hu⟩ := rfl
  have e2 : membOf (ix5 f g j b r) = b := rfl
  unfold outAll
  rw [e1, e2]
  have h := piece_read c ⟨16 * g.val + j.val, hu⟩ b (landed c (v0of m c) (Ev m c) ⟨16 * g.val + j.val, hu⟩ (Ring.sl 2 (16 * g.val + j.val)) b) f r
  have hg : (⟨(16 * g.val + j.val) / 16, by omega⟩ : Fin 4) = g := Fin.ext (by show (16 * g.val + j.val) / 16 = g.val; omega)
  have hj : (⟨(16 * g.val + j.val) % 16, by omega⟩ : Fin 16) = j := Fin.ext (by show (16 * g.val + j.val) % 16 = j.val; omega)
  rw [show (ix5 f (⟨(16 * g.val + j.val) / 16, by omega⟩ : Fin 4) (⟨(16 * g.val + j.val) % 16, by omega⟩ : Fin 16) b r : S788x4x16x8x128.Idx) = ix5 f g j b r by rw [hg, hj]] at h
  refine h.symm.trans ?_
  unfold landed
  refine (congrFun (View.read_writes_whole _ _ _) (ix2 f r)).trans ?_
  refine (tile_read c _ _ _ f r).trans ?_
  refine (slab_apply _ _ c _ _ rfl b f r).trans ?_
  have ht : 16 * g.val + j.val < grid0.N := by omega
  rw [row_eq hD (reads m c ⟨16 * g.val + j.val, ht⟩) (inv m c hD _ ht)]
  obtain ⟨c0, c1⟩ := co_eq ⟨16 * g.val + j.val, ht⟩
  congr 1
  · apply Fin.ext
    show 8 * ((grid0.coords ⟨16 * g.val + j.val, ht⟩) 0).val + b.val = 8 * g.val + b.val
    rw [c0]; show 8 * ((16 * g.val + j.val) / 16) + b.val = _; omega
  · rw [c1]; show 128 * ((16 * g.val + j.val) % 16) + r.val = _; omega

/-- The encoder's output, as the later host lines leave it. -/
theorem final_out (hD : (dataK m c).Real) : (StableHlo.after hostOps1 (endVals m c) (Proc.devRef .tc main_v8) : S32x2048x788.Idx → EReal) = (dataK m c).outArr := by
  have e0 : endVals m c (Proc.devRef .tc main_v6_0) = outAll c (v0of m c) (Ev m c) := by
    refine (Pipeline.withArrays_of_ne _ c _ _ main_v6_0 (by exact (by decide : ∀ w, Pipeline.arrRef spec0 w ≠ main_v6_0))).trans ?_
    exact (Pipeline.withR_of_mem _ _ _ _ main_v6_0 (by simp [R])).trans (Gv_main m c)
  have e : (StableHlo.after hostOps1 (endVals m c) (Proc.devRef .tc main_v8) : S32x2048x788.Idx → EReal)
      = shapeCast S32x2048x788 (transpose S4x8x16x128x788 [1, 3, 2, 4, 0] (outAll c (v0of m c) (Ev m c) : S788x4x16x8x128.Idx → EReal) transposes_S788x4x16x8x128_S4x8x16x128x788_1_3_2_4_0) shapeCasts_S4x8x16x128x788_S32x2048x788 := by
    rw [← e0]
    after_results_simp
    rfl
  rw [e]
  funext q
  obtain ⟨n, T, f, rfl⟩ : ∃ n T f, q = ix3 (n0 := 32) (n1 := 2048) (n2 := 788) n T f := ⟨_, _, _, eq_ix3 q⟩
  refine (shapeCast_apply _ _ _ (ix5 (⟨n.val / 8, by omega⟩ : Fin 4) (⟨n.val % 8, by omega⟩ : Fin 8) (⟨T.val / 128, by omega⟩ : Fin 16) (⟨T.val % 128, by omega⟩ : Fin 128) f) (by
    rw [Shape.rowMajor_val_five, Shape.rowMajor_val_three]
    show (((n.val / 8 * 8 + n.val % 8) * 16 + T.val / 128) * 128 + T.val % 128) * 788 + f.val = (n.val * 2048 + T.val) * 788 + f.val
    omega)).trans ?_
  refine (transpose_apply _ _ _ _ (ix5 f (⟨n.val / 8, by omega⟩ : Fin 4) (⟨T.val / 128, by omega⟩ : Fin 16) (⟨n.val % 8, by omega⟩ : Fin 8) (⟨T.val % 128, by omega⟩ : Fin 128)) (fun b => by
    match b with
    | ⟨0, _⟩ => rfl
    | ⟨1, _⟩ => rfl
    | ⟨2, _⟩ => rfl
    | ⟨3, _⟩ => rfl
    | ⟨4, _⟩ => rfl)).trans ?_
  rw [outAll_apply m c hD]
  show (dataK m c).out _ _ _ = (dataK m c).out _ _ _
  congr 1
  · exact Fin.ext (by show 8 * (n.val / 8) + n.val % 8 = n.val; omega)
  · show 128 * (T.val / 128) + T.val % 128 = T.val; omega

end Cert.KernelIdeal.Enc

end

end
-- ==== Proof.KernelIdeal.Results.lean ====
/-
  The kernel's run with its results: the encoder's output, the indices and the activations of the launched arguments.
-/
module

public import proofs.«01_k».proof.Proof.KernelIdeal.Frame
public import proofs.«01_k».proof.Proof.KernelIdeal.Arr

@[expose] public section

set_option maxRecDepth 16384

noncomputable section

namespace Cert.KernelIdeal.Enc

open Idealize.ShloMosaic Idealize.ShloMosaic.TcCoe
open Idealize.SL.Sem
open Cert.KernelIdeal Cert.KernelIdeal.Gen Cert.Enc

variable (m : (ℓ : Loc nD τ sig) → Buf (Elt Ideal) ℓ) (ρ : Dev nD → PrngReg)

set_option maxHeartbeats 1600000 in
/-- Every execution on real arguments ends with the three results of those arguments, and the arguments as launched. -/
theorem results (hD : ∀ c, (dataK m c).Real) : θ_run defs (onTc (τ := τ) (main (F := Ideal))) ⟨m, fun _ => 0, ρ⟩ (fun r => ∀ c : Dev nD,
      r.2.mem ((c.tc : Thread nD τ).loc main_v8) = ((dataK m c).outArr : S32x2048x788.Idx → EReal)
      ∧ r.2.mem ((c.tc : Thread nD τ).loc main_v6_1) = ((dataK m c).idxArr : S32x256x2048.Idx → BitVec 32)
      ∧ r.2.mem ((c.tc : Thread nD τ).loc main_v6_2) = ((dataK m c).actArr : S32x256x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1 c).2 main_v8 (Pipeline.mem_restRefs_of main_v8 (by decide) (by decide))).trans (final_out m c (hD c)),
    ((h.1 c).1 12).trans (final_12 m c (hD c)),
    ((h.1 c).1 13).trans (final_13 m c (hD c)),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).1 5).trans (((dats m 0 c).arrAt_in 5 rfl _).trans ((A_eq m c 5).trans (V_main_arg5 m c))),
    ((h.1 c).2 main_arg6 (Pipeline.mem_restRefs_of main_arg6 (by decide) (by decide))).trans (end_arg6 m c),
    ((h.1 c).1 7).trans (((dats m 0 c).arrAt_in 7 rfl _).trans ((A_eq m c 7).trans (V_main_arg7 m c))),
    ((h.1 c).2 main_arg8 (Pipeline.mem_restRefs_of main_arg8 (by decide) (by decide))).trans (end_arg8 m c),
    ((h.1 c).1 9).trans (((dats m 0 c).arrAt_in 9 rfl _).trans ((A_eq m c 9).trans (V_main_arg9 m c))),
    ((h.1 c).2 main_arg10 (Pipeline.mem_restRefs_of main_arg10 (by decide) (by decide))).trans (end_arg10 m c)⟩) (run m ρ)

end Cert.KernelIdeal.Enc

end

end
-- ==== Proof.Reference.Keep.lean ====
/-
  The reference's frame: its host lines and its one loop write none of the arguments, so each ends as it was launched; it has no
  semaphores.
-/
module

public import proofs.«01_k».proof.Proof.Gen.ReferenceIdeal.Run
public import Idealize.ShloMosaic.Lib.Quiescent

@[expose] public section

set_option maxRecDepth 16384

noncomputable section

namespace Cert.ReferenceIdeal.Enc

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]

variable (m : (ℓ : Loc nD τ sig) → Buf (Elt F) ℓ) (ρ : Dev nD → PrngReg)

/-- The reference each operation of `hostOps0_5` writes, in order. -/
abbrev hostOps0_5_W : List (Ref sig .tc) := [main_v28, main_v29, main_cst_4, main_v30, main_v31]
/-- They write nothing else. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_call7_v0, main_v32]
/-- They write nothing else. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_cst_5, main_v33, main_v34, main_v35, main_v36, main_c_6, main_v37, main_v38]
/-- They write nothing else. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_call8_v0, main_v39]
/-- They write nothing else. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_call9_call0_cst, main_call9_call0_v0, main_v40]
/-- They write nothing else. -/
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_cst_7, main_v41, main_v42, main_c_8, main_v43, main_v44, main_v45, main_v46, main_v47, main_v48, main_v49, main_v50, main_cst_9, main_v51, main_v52, main_cst_10, main_v53, main_v54, main_v55, main_v56, main_v57, main_cst_11, main_v58, main_v59, main_cst_12, main_v60, main_v61, main_v62, main_v63, main_cst_13, main_v64, main_v65, main_v66, main_v67, main_v68, main_cst_14, main_v69, main_v70, main_cst_15, main_v71, main_v72, main_v73, main_v74, main_v75, main_cst_16, main_v76, main_v77, main_cst_17, main_v78, main_v79, main_v80, main_v81, main_cst_18, main_v82, main_v83, main_v84, main_v85, main_v86, main_cst_19, main_v87, main_v88, main_cst_20, main_v89, main_v90, main_v91, main_v92, main_v93, main_cst_21, main_v94, main_v95, main_cst_22, main_v96, main_v97, main_v98, main_v99, main_cst_23, main_v100, main_v101, main_v102, main_v103, main_v104, main_v105]
/-- They write nothing else. -/
theorem hostOps0_10_writes : (hostOps0_10 : List (HloOp τ sig (Elt F))).Forall fun op => op.writes ⊆ (hostOps0_10_W.map (Proc.devRef (τ := τ) .tc)).toFinset :=
  StableHlo.forall_writes_sub_of_map rfl

/-- The references the body's lines write. -/
abbrev bodyW : List (Ref sig .tc) :=
  while0Ops0_W ++ while0Ops0_1_W ++ while0Ops0_2_W ++ while0Ops0_3_W ++ while0Ops0_4_W ++ while0Ops0_5_W ++ while0Ops0_6_W ++ while0Ops0_7_W

/-- One trip of the loop leaves a buffer that neither its test nor its body writes. -/
theorem trip_keep (X : Valuation τ sig (Elt F)) (b : Ref sig .tc) (h : b ∉ condOps_W ++ bodyW) :
    afterL bodyI (after condOps X) (Proc.devRef .tc b) = X (Proc.devRef .tc b) := by
  simp only [bodyW, List.mem_append, not_or] at h
  obtain ⟨hc, ⟨⟨⟨⟨⟨⟨h0, h1⟩, h2⟩, h3⟩, h4⟩, h5⟩, h6⟩, h7⟩ := h
  simp only [afterL_cons, afterL_nil]
  rw [after_of_writes_sub _ _ while0Ops0_7_writes h7, after_of_writes_sub _ _ while0Ops0_6_writes h6,
    after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0,
    after_of_writes_sub _ _ condOps_writes hc]

/-- So does any number of trips. -/
theorem atK_keep (c : Dev nD) (b : Ref sig .tc) (h : b ∉ condOps_W ++ bodyW) :
    ∀ k, atK m k c (Proc.devRef .tc b) = entryContents preI m c (Proc.devRef .tc b)
  | 0 => rfl
  | k + 1 => (trip_keep (atK m k c) b h).trans (atK_keep c b h k)

/-- The whole program leaves a buffer that none of its lines writes. -/
theorem final_keep (c : Dev nD) (b : Ref sig .tc) (h : b ∉ condOps_W ++ bodyW)
    (hp : b ∉ hostOps0_W ++ hostOps0_1_W ++ hostOps0_2_W ++ hostOps0_3_W ++ hostOps0_4_W)
    (hq : b ∉ hostOps0_5_W ++ hostOps0_6_W ++ hostOps0_7_W ++ hostOps0_8_W ++ hostOps0_9_W ++ hostOps0_10_W) :
    finalContents condOps preI bodyI postI 2048 m c (Proc.devRef .tc b) = m ((c.tc : Thread nD τ).loc b) := by
  simp only [List.mem_append, not_or] at hp hq
  obtain ⟨⟨⟨⟨p0, p1⟩, p2⟩, p3⟩, p4⟩ := hp
  obtain ⟨⟨⟨⟨⟨q5, q6⟩, q7⟩, q8⟩, q9⟩, q10⟩ := hq
  have hc : b ∉ condOps_W := fun hb => h (List.mem_append_left _ hb)
  simp only [finalContents, afterL_cons, afterL_nil]
  rw [after_of_writes_sub _ _ hostOps0_10_writes q10, after_of_writes_sub _ _ hostOps0_9_writes q9,
    after_of_writes_sub _ _ hostOps0_8_writes q8, after_of_writes_sub _ _ hostOps0_7_writes q7,
    after_of_writes_sub _ _ hostOps0_6_writes q6, after_of_writes_sub _ _ hostOps0_5_writes q5,
    after_of_writes_sub _ _ condOps_writes hc]
  refine (atK_keep m c b h 2048).trans ?_
  simp only [entryContents, afterL_cons, afterL_nil]
  rw [after_of_writes_sub _ _ hostOps0_4_writes p4, after_of_writes_sub _ _ hostOps0_3_writes p3,
    after_of_writes_sub _ _ hostOps0_2_writes p2, after_of_writes_sub _ _ hostOps0_1_writes p1,
    after_of_writes_sub _ _ hostOps0_writes p0]

/-- THE FRAME: every execution of the reference ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h c main_arg0 rfl).trans (final_keep m c main_arg0 (by decide +kernel) (by decide +kernel) (by decide +kernel)),
    (h c main_arg1 rfl).trans (final_keep m c main_arg1 (by decide +kernel) (by decide +kernel) (by decide +kernel)),
    (h c main_arg2 rfl).trans (final_keep m c main_arg2 (by decide +kernel) (by decide +kernel) (by decide +kernel)),
    (h c main_arg3 rfl).trans (final_keep m c main_arg3 (by decide +kernel) (by decide +kernel) (by decide +kernel)),
    (h c main_arg4 rfl).trans (final_keep m c main_arg4 (by decide +kernel) (by decide +kernel) (by decide +kernel)),
    (h c main_arg5 rfl).trans (final_keep m c main_arg5 (by decide +kernel) (by decide +kernel) (by decide +kernel)),
    (h c main_arg6 rfl).trans (final_keep m c main_arg6 (by decide +kernel) (by decide +kernel) (by decide +kernel)),
    (h c main_arg7 rfl).trans (final_keep m c main_arg7 (by decide +kernel) (by decide +kernel) (by decide +kernel)),
    (h c main_arg8 rfl).trans (final_keep m c main_arg8 (by decide +kernel) (by decide +kernel) (by decide +kernel)),
    (h c main_arg9 rfl).trans (final_keep m c main_arg9 (by decide +kernel) (by decide +kernel) (by decide +kernel)),
    (h c main_arg10 rfl).trans (final_keep m c main_arg10 (by decide +kernel) (by decide +kernel) (by decide +kernel))⟩,
    Idealize.ShloMosaic.sem_eq_zero_of_no_sems (by decide) r.2⟩) (run_fold m ρ)

end Cert.ReferenceIdeal.Enc

end

end
-- ==== Proof.Reference.Read.lean ====
module

public import proofs.«01_k».proof.Proof.Reference.Keep

@[expose] public section

set_option maxRecDepth 16384

noncomputable section

namespace Cert.ReferenceIdeal.Enc

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]

/-! ## The reference's lines, composed -/

/-- The mean along the channels. -/
def meanR (x : FVec F S32x2048x256 .f32) : FVec F S32x2048x1 .f32 :=
  Host.divf (broadcastInDim S32x2048x1 ![0, 1] bcast_S32x2048_S32x2048x1_0_1 (Host.reduceAdd x (constant S_ .f32 0x00000000#32) reducesTo_S32x2048x256_S32x2048_d2 h_S_))
    (broadcastInDim S32x2048x1 ![] bcast_S_S32x2048x1 (constant S_ .f32 0x43800000#32))
/-- The values less their mean. -/
def cenR (x : FVec F S32x2048x256 .f32) : FVec F S32x2048x256 .f32 :=
  subf x (broadcastInDim S32x2048x256 ![0, 1, 2] bcast_S32x2048x1_S32x2048x256_0_1_2 (meanR x))
/-- Normalisation along the channels. -/
def lnR (x : FVec F S32x2048x256 .f32) : FVec F S32x2048x256 .f32 :=
  mulf (cenR x) (broadcastInDim S32x2048x256 ![0, 1, 2] bcast_S32x2048x1_S32x2048x256_0_1_2
    (Host.rsqrt (addf (meanR (mulf (cenR x) (cenR x))) (broadcastInDim S32x2048x1 ![] bcast_S_S32x2048x1 (constant S_ .f32 0x3727C5AC#32)))))

/-- The times. -/
def tmR : IVec S1x2048x1 32 := broadcastInDim S1x2048x1 ![1] bcast_S2048_S1x2048x1_1 (iotaInDim S2048 32 0)
/-- The times before the last. -/
def ltR : IVec S1x2048x1 1 := cmpi .slt tmR (broadcastInDim S1x2048x1 ![] bcast_S_S1x2048x1 (constantI S_ 32 2047#32))
/-- The activations of the stacked maxima. -/
def actR (y : FVec F S2048x32x256 .f32) : FVec F S32x2048x256 .f32 :=
  select (broadcastInDim S32x2048x256 ![0, 1, 2] bcast_S1x2048x1_S32x2048x256_0_1_2 ltR)
    (maximumf (transpose S32x2048x256 [1, 0, 2] y transposes_S2048x32x256_S32x2048x256_1_0_2) (broadcastInDim S32x2048x256 ![] bcast_S_S32x2048x256 (constant S_ .f32 0x00000000#32)))
    (transpose S32x2048x256 [1, 0, 2] y transposes_S2048x32x256_S32x2048x256_1_0_2)
/-- The indices of the stacked maxima and their positions. -/
def idxR (y : FVec F S2048x32x256 .f32) (z : IVec S2048x32x256 32) : IVec S32x2048x256 32 :=
  select (andi (broadcastInDim S32x2048x256 ![0, 1, 2] bcast_S1x2048x1_S32x2048x256_0_1_2 ltR)
      (cmpf .ole (transpose S32x2048x256 [1, 0, 2] y transposes_S2048x32x256_S32x2048x256_1_0_2) (broadcastInDim S32x2048x256 ![] bcast_S_S32x2048x256 (constant S_ .f32 0x00000000#32))))
    (broadcastInDim S32x2048x256 ![0, 1, 2] bcast_S1x2048x1_S32x2048x256_0_1_2 (subi tmR (broadcastInDim S1x2048x1 ![] bcast_S_S1x2048x1 (constantI S_ 32 2047#32))))
    (transpose S32x2048x256 [1, 0, 2] z transposes_S2048x32x256_S32x2048x256_1_0_2)
/-- The running sums. -/
def csR (x : FVec F S32x2048x256 .f32) : FVec F S32x2048x256 .f32 :=
  Host.reduceWindowAdd ![1, 2048, 1] ![1, 1, 1] ![0, 2047, 0] ![0, 0, 0] x (broadcastInDim S_ ![] bcast_S_S_ (constant S_ .f32 0x00000000#32)) reduceWindows_S32x2048x256_S32x2048x256_w1s1p0_0_w2048s1p2047_0_w1s1p0_0 h_S_
/-- The sums over the window's length. -/
def avR (x : FVec F S32x2048x256 .f32) : FVec F S32x2048x256 .f32 :=
  Host.divf (csR x) (broadcastInDim S32x2048x256 ![] bcast_S_S32x2048x256 (constant S_ .f32 0x45000000#32))
/-- The sums over the root of the time. -/
def sqR (x : FVec F S32x2048x256 .f32) : FVec F S32x2048x256 .f32 :=
  mulf (csR x) (broadcastInDim S32x2048x256 ![0, 1, 2] bcast_S1x2048x1_S32x2048x256_0_1_2
    (Host.rsqrt (sitofp .f32 (addi tmR (broadcastInDim S1x2048x1 ![] bcast_S_S1x2048x1 (constantI S_ 32 1#32))))))
/-- The demography. -/
def demR (b0 : FVec F S32x8 .f32) (b5 : FVec F S8x40 .f32) (b6 : FVec F S40 .f32) (b7 : FVec F S40x20 .f32) (b8 : FVec F S20 .f32) : FVec F S32x20 .f32 :=
  maximumf (addf (Host.dotGeneral dot_S32x40_S40x20_S32x20_1_0_0_1_n_n none
      (maximumf (addf (Host.dotGeneral dot_S32x8_S8x40_S32x40_1_0_0_1_n_n none b0 b5)
        (broadcastInDim S32x40 ![0, 1] bcast_S1x40_S32x40_0_1 (broadcastInDim S1x40 ![1] bcast_S40_S1x40_1 b6)))
        (broadcastInDim S32x40 ![] bcast_S_S32x40 (constant S_ .f32 0x00000000#32))) b7)
      (broadcastInDim S32x20 ![0, 1] bcast_S1x20_S32x20_0_1 (broadcastInDim S1x20 ![1] bcast_S20_S1x20_1 b8)))
    (broadcastInDim S32x20 ![] bcast_S_S32x20 (constant S_ .f32 0x00000000#32))
/-- The demography at each time. -/
def demT (w : FVec F S32x20 .f32) : FVec F S32x2048x20 .f32 :=
  broadcastInDim S32x2048x20 ![0, 1, 2] bcast_S32x1x20_S32x2048x20_0_1_2 (broadcastInDim S32x1x20 ![0, 2] bcast_S32x20_S32x1x20_0_2 w)
/-- The linear layer's input. -/
def catR (b1 b2 b3 b4 : FVec F S32x2048x256 .f32) (w : FVec F S32x2048x20 .f32) : FVec F S32x2048x1044 .f32 :=
  concatenate S32x2048x1044 2 [⟨S32x2048x256, b1⟩, ⟨S32x2048x256, b2⟩, ⟨S32x2048x256, b3⟩, ⟨S32x2048x256, b4⟩, ⟨S32x2048x20, w⟩]
    concatenates_S32x2048x256_S32x2048x256_S32x2048x256_S32x2048x256_S32x2048x20_S32x2048x1044_d2
/-- The linear layer. -/
def linR (u : FVec F S32x2048x1044 .f32) (b9 : FVec F S1044x256 .f32) (b10 : FVec F S256 .f32) : FVec F S32x2048x256 .f32 :=
  addf (Host.dotGeneral dot_S32x2048x1044_S1044x256_S32x2048x256_2_0_01_1_n_n none u b9)
    (broadcastInDim S32x2048x256 ![0, 1, 2] bcast_S1x1x256_S32x2048x256_0_1_2 (broadcastInDim S1x1x256 ![2] bcast_S256_S1x1x256_2 b10))

variable (m : (ℓ : Loc nD τ sig) → Buf (Elt F) ℓ) (c : Dev nD)

/-- The demography of the launched arguments. -/
def demM : FVec F S32x2048x20 .f32 :=
  demT (demR (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))
/-- The linear layer of the launched arguments. -/
def linM : FVec F S32x2048x256 .f32 :=
  linR (catR (m ((c.tc : Thread nD τ).loc main_arg1)) (m ((c.tc : Thread nD τ).loc main_arg2)) (m ((c.tc : Thread nD τ).loc main_arg3)) (m ((c.tc : Thread nD τ).loc main_arg4)) (demM m c))
    (m ((c.tc : Thread nD τ).loc main_arg9)) (m ((c.tc : Thread nD τ).loc main_arg10))

/-! ## The loop's entry -/

/-- The demography along the times. -/
theorem entry_v11 : entryContents preI m c (Proc.devRef .tc main_v11) = demM m c := by
  simp only [entryContents, afterL_cons, afterL_nil]
  after_reads_simp
  rfl
/-- The linear layer. -/
theorem entry_v16 : entryContents preI m c (Proc.devRef .tc main_v16) = linM m c := by
  simp only [entryContents, afterL_cons, afterL_nil]
  after_reads_simp
  rfl
/-- The times. -/
theorem entry_v18 : entryContents preI m c (Proc.devRef .tc main_v18) = tmR := by
  simp only [entryContents, afterL_cons, afterL_nil]
  after_reads_simp
  rfl
/-- The times before the last. -/
theorem entry_v20 : entryContents preI m c (Proc.devRef .tc main_v20) = ltR := by
  simp only [entryContents, afterL_cons, afterL_nil]
  after_reads_simp
  rfl
/-- The loop's rows: the linear layer with times first. -/
theorem entry_0 : entryContents preI m c (Proc.devRef .tc main_v27_0) = transpose S2048x32x256 [1, 0, 2] (linM m c) transposes_S32x2048x256_S2048x32x256_1_0_2 := by
  simp only [entryContents, afterL_cons, afterL_nil]
  after_reads_simp
  rfl
/-- The maximum starts as the first time's row. -/
theorem entry_2 : entryContents preI m c (Proc.devRef .tc main_v27_2)
    = shapeCast S32x256 (extractStridedSlice S32x1x256 ![0, 0, 0] (linM m c) slices_S32x2048x256_S32x1x256_0_0_0) shapeCasts_S32x1x256_S32x256 := by
  simp only [entryContents, afterL_cons, afterL_nil]
  after_reads_simp
  rfl
/-- The position starts at zero. -/
theorem entry_3 : entryContents preI m c (Proc.devRef .tc main_v27_3) = fun _ => (0#32 : BitVec 32) := by
  simp only [entryContents, afterL_cons, afterL_nil]
  after_reads_simp
  rfl
/-- The time counter starts at zero. -/
theorem entry_4 : entryContents preI m c (Proc.devRef .tc main_v27_4) = fun _ => (0#32 : BitVec 32) := by
  simp only [entryContents, afterL_cons, afterL_nil]
  after_reads_simp
  rfl

/-! ## After the loop -/

variable (W : Valuation τ sig (Elt F)) (h18 : W (Proc.devRef .tc main_v18) = tmR) (h20 : W (Proc.devRef .tc main_v20) = ltR)

include h18 h20 in
/-- The activations, from the stacked maxima. -/
theorem post_v49 : afterL postI W (Proc.devRef .tc main_v49) = transpose S32x256x2048 [0, 2, 1] (actR (W (Proc.devRef .tc main_v27_5))) transposes_S32x2048x256_S32x256x2048_0_2_1 := by
  simp only [afterL_cons, afterL_nil]
  after_reads_simp
  rw [h20]
  rfl
include h18 h20 in
/-- The indices, from the stacked maxima and positions. -/
theorem post_v50 : afterL postI W (Proc.devRef .tc main_v50) = transpose S32x256x2048 [0, 2, 1] (idxR (W (Proc.devRef .tc main_v27_5)) (W (Proc.devRef .tc main_v27_6))) transposes_S32x2048x256_S32x256x2048_0_2_1 := by
  simp only [afterL_cons, afterL_nil]
  after_reads_simp
  rw [h20, h18]
  rfl
/-- Equal pieces concatenate alike. -/
theorem cat4 (p q r p' q' r' : FVec F S32x2048x256 .f32) (w w' : FVec F S32x2048x20 .f32) (hp : p = p') (hq : q = q') (hr : r = r') (hw : w = w') :
    concatenate S32x2048x788 2 [⟨S32x2048x256, p⟩, ⟨S32x2048x256, q⟩, ⟨S32x2048x256, r⟩, ⟨S32x2048x20, w⟩] concatenates_S32x2048x256_S32x2048x256_S32x2048x256_S32x2048x20_S32x2048x788_d2
      = concatenate S32x2048x788 2 [⟨S32x2048x256, p'⟩, ⟨S32x2048x256, q'⟩, ⟨S32x2048x256, r'⟩, ⟨S32x2048x20, w'⟩] concatenates_S32x2048x256_S32x2048x256_S32x2048x256_S32x2048x20_S32x2048x788_d2 := by
  subst hp hq hr hw; rfl
include h18 h20 in
/-- The output: the three normalised rows and the demography. -/
theorem post_v105 : afterL postI W (Proc.devRef .tc main_v105) = concatenate S32x2048x788 2
    [⟨S32x2048x256, lnR (actR (W (Proc.devRef .tc main_v27_5)))⟩, ⟨S32x2048x256, lnR (avR (W (Proc.devRef .tc main_v16)))⟩,
      ⟨S32x2048x256, lnR (sqR (W (Proc.devRef .tc main_v16)))⟩, ⟨S32x2048x20, W (Proc.devRef .tc main_v11)⟩]
    concatenates_S32x2048x256_S32x2048x256_S32x2048x256_S32x2048x20_S32x2048x788_d2 := by
  simp only [afterL_cons, afterL_nil]
  after_reads_simp
  refine cat4 _ _ _ _ _ _ _ _ ?_ ?_ ?_ ?_
  · show upto hostOps0_10 _ 81 (Proc.devRef .tc main_v68) = _
    after_reads_simp
    rw [h20]
    rfl
  · show upto hostOps0_10 _ 81 (Proc.devRef .tc main_v86) = _
    after_reads_simp
    rfl
  · show upto hostOps0_10 _ 81 (Proc.devRef .tc main_v104) = _
    after_reads_simp
    rw [h18]
    rfl
  · show upto hostOps0_10 _ 81 (Proc.devRef .tc main_v11) = _
    after_reads_simp

end Cert.ReferenceIdeal.Enc

end

end
-- ==== Proof.Reference.Scan.lean ====
module

public import proofs.«01_k».proof.Proof.Reference.Read
public import proofs.«01_k».proof.Proof.Math.Data
public import Idealize.ShloMosaic.Lib.ValueIdx
public import Idealize.ShloMosaic.Lib.IdealHost
public import Idealize.ShloMosaic.Lib.ValueLayout
public import Idealize.ShloMosaic.Lib.Pipeline.Value
public import Idealize.ShloMosaic.PureOps.Ideal.Laws

@[expose] public section

set_option maxRecDepth 16384

noncomputable section

namespace Cert.ReferenceIdeal.Enc

open Idealize.ShloMosaic Idealize.ShloMosaic.TcCoe Idealize.ShloMosaic.StableHlo Idealize.ShloMosaic.ValueIdx
open Cert.ReferenceIdeal Cert.ReferenceIdeal.Gen Cert.ReferenceIdeal.Value Cert.Enc

/-! ## A row read and written at the counter -/

/-- The start a slice at the counter is clamped to. -/
theorem start_eq (k : ℕ) (hk : k < 2048) : (min (max (BitVec.ofNat 32 k).toInt 0) ((2048 - 1 : ℕ) : ℤ)).toNat = k := by
  have : (BitVec.ofNat 32 k).toInt = (k : ℤ) := by
    rw [BitVec.toInt_eq_toNat_of_lt (by rw [BitVec.toNat_ofNat]; omega), BitVec.toNat_ofNat, Nat.mod_eq_of_lt (by omega)]
  rw [this]
  omega

variable (V : Valuation τ sig (Elt Ideal)) (k : ℕ) (hk : k < 2048) (hc : V (Proc.devRef .tc main_v27_1) = fun _ => BitVec.ofNat 32 k)

include hc in
/-- The row the trip reads is the counter's. -/
theorem row_apply (n : Fin 32) (d : Fin 256) :
    (res_main_while0b_v106 V : S32x256.Idx → EReal) (ix2 n d) = (V (Proc.devRef .tc main_v27_0) : S2048x32x256.Idx → EReal) (ix3 (⟨k, hk⟩ : Fin 2048) n d) := by
  unfold res_main_while0b_v106
  rw [hc]
  refine (shapeCast_apply _ _ _ (ix3 (0 : Fin 1) n d) (by
    rw [Shape.rowMajor_val_three, Shape.rowMajor_val_two]; show (0 * 32 + n.val) * 256 + d.val = n.val * 256 + d.val; omega)).trans ?_
  unfold Host.dynamicSlice extractStridedSlice
  refine congrArg (V (Proc.devRef .tc main_v27_0) : S2048x32x256.Idx → EReal) (funext fun a => Fin.ext ?_)
  match a with
  | ⟨0, _⟩ => show (min (max (BitVec.ofNat 32 k).toInt 0) ((2048 - 1 : ℕ) : ℤ)).toNat + 0 = k; rw [start_eq k hk]; rfl
  | ⟨1, _⟩ => exact Nat.zero_add _
  | ⟨2, _⟩ => exact Nat.zero_add _

include hk in
/-- An update at the counter writes its row and leaves the others. -/
theorem upd_apply {α : Type} (y : S2048x32x256.Idx → α) (u : S32x256.Idx → α) (s : Fin 3 → ℤ) (h0 : s 0 = (BitVec.ofNat 32 k).toInt) (h1 : s 1 = 0) (h2 : s 2 = 0)
    (T : Fin 2048) (n : Fin 32) (d : Fin 256) :
    Host.dynamicUpdateSlice y (broadcastInDim S1x32x256 ![1, 2] bcast_S32x256_S1x32x256_1_2 u) s updateFits_S2048x32x256_S1x32x256 (ix3 T n d)
      = if T.val = k then u (ix2 n d) else y (ix3 T n d) := by
  have e0 : (min (max (s 0) 0) ((2048 - 1 : ℕ) : ℤ)).toNat = k := by rw [h0]; exact start_eq k hk
  have e1 : (min (max (s 1) 0) ((32 - 32 : ℕ) : ℤ)).toNat = 0 := by rw [h1]; rfl
  have e2 : (min (max (s 2) 0) ((256 - 256 : ℕ) : ℤ)).toNat = 0 := by rw [h2]; rfl
  unfold Host.dynamicUpdateSlice updateSlice
  by_cases hT : T.val = k
  · rw [if_pos hT, dif_pos (fun a => by
      match a with
      | ⟨0, _⟩ => show (min (max (s 0) 0) ((2048 - 1 : ℕ) : ℤ)).toNat ≤ T.val ∧ T.val < (min (max (s 0) 0) ((2048 - 1 : ℕ) : ℤ)).toNat + 1
                  rw [e0]; omega
      | ⟨1, _⟩ => show (min (max (s 1) 0) ((32 - 32 : ℕ) : ℤ)).toNat ≤ n.val ∧ n.val < (min (max (s 1) 0) ((32 - 32 : ℕ) : ℤ)).toNat + 32
                  rw [e1]; omega
      | ⟨2, _⟩ => show (min (max (s 2) 0) ((256 - 256 : ℕ) : ℤ)).toNat ≤ d.val ∧ d.val < (min (max (s 2) 0) ((256 - 256 : ℕ) : ℤ)).toNat + 256
                  rw [e2]; omega)]
    refine broadcastInDim_apply _ _ _ _ (ix2 n d) (fun a => ?_)
    match a with
    | ⟨0, _⟩ => show n.val = n.val - (min (max (s 1) 0) ((32 - 32 : ℕ) : ℤ)).toNat; rw [e1]; rfl
    | ⟨1, _⟩ => show d.val = d.val - (min (max (s 2) 0) ((256 - 256 : ℕ) : ℤ)).toNat; rw [e2]; rfl
  · rw [if_neg hT, dif_neg (fun h => hT (by
      have h := h ⟨0, by decide⟩
      have h : (min (max (s 0) 0) ((2048 - 1 : ℕ) : ℤ)).toNat ≤ T.val ∧ T.val < (min (max (s 0) 0) ((2048 - 1 : ℕ) : ℤ)).toNat + 1 := h
      rw [e0] at h; omega))]

/-! ## The loop -/

variable (m : (ℓ : Loc nD τ sig) → Buf (Elt Ideal) ℓ) (c : Dev nD)

/-- The carried buffers before trip `k`. -/
abbrev sq (k : ℕ) : Valuation τ sig (Elt Ideal) := STEP^[k] (entryContents preI m c)

/-- One more trip. -/
theorem sq_succ (k : ℕ) : sq m c (k + 1) = STEP (sq m c k) := Function.iterate_succ_apply' _ _ _

/-- The loop leaves its rows. -/
theorem sq_0 : ∀ k, sq m c k (Proc.devRef .tc main_v27_0) = entryContents preI m c (Proc.devRef .tc main_v27_0)
  | 0 => rfl
  | k + 1 => by rw [sq_succ, STEP_main_v27_0, sq_0 k]
/-- The counter counts the trips. -/
theorem sq_1 : ∀ k, sq m c k (Proc.devRef .tc main_v27_1) = fun _ => BitVec.ofNat 32 k
  | 0 => ctr_entry m c
  | k + 1 => by
    rw [sq_succ, STEP_main_v27_1]
    unfold step_main_v27_1
    rw [sq_1 k]
    funext j
    show BitVec.ofNat 32 k + 1#32 = BitVec.ofNat 32 (k + 1)
    rw [BitVec.ofNat_add]
/-- The counter counts the trips. -/
theorem sq_4 : ∀ k, sq m c k (Proc.devRef .tc main_v27_4) = fun _ => BitVec.ofNat 32 k
  | 0 => entry_4 m c
  | k + 1 => by
    rw [sq_succ, STEP_main_v27_4]
    unfold step_main_v27_4
    rw [sq_4 k]
    funext j
    show BitVec.ofNat 32 k + 1#32 = BitVec.ofNat 32 (k + 1)
    rw [BitVec.ofNat_add]

/-- What the scan carries: the maximum and its position over the times before `k`, the first time counted from the start. -/
structure Carried (x : Fin 32 → Fin 256 → ℕ → EReal) (W : Valuation τ sig (Elt Ideal)) (k : ℕ) : Prop where
  mx : ∀ n d, (W (Proc.devRef .tc main_v27_2) : S32x256.Idx → EReal) (ix2 n d) = mxE (x n d) (max k 1)
  ag : ∀ n d, (W (Proc.devRef .tc main_v27_3) : S32x256.Idx → BitVec 32) (ix2 n d) = BitVec.ofInt 32 (agI (x n d) (max k 1))
  ys : ∀ (T : Fin 2048) n d, T.val < k → (W (Proc.devRef .tc main_v27_5) : S2048x32x256.Idx → EReal) (ix3 T n d) = mxE (x n d) (T.val + 1)
  zs : ∀ (T : Fin 2048) n d, T.val < k → (W (Proc.devRef .tc main_v27_6) : S2048x32x256.Idx → BitVec 32) (ix3 T n d) = BitVec.ofInt 32 (agI (x n d) (T.val + 1))

variable (x : Fin 32 → Fin 256 → ℕ → EReal)

/-- The row's comparison keeps the carried value where it is at least the new one. -/
theorem keep_iff (a b : EReal) : (FloatOps.cmpf (F := Ideal) (φ := .f32) .oge a b : BitVec 1) = 1 ↔ b ≤ a := by
  show BitVec.ofBool (decide (b ≤ a)) = 1 ↔ b ≤ a
  by_cases h : b ≤ a <;> simp [h]

/-- A trip takes the next row into the maximum and its position, and stacks both. -/
theorem carried_step (W : Valuation τ sig (Elt Ideal)) (k : ℕ) (hk : k < 2048) (hc : W (Proc.devRef .tc main_v27_1) = fun _ => BitVec.ofNat 32 k)
    (ht : W (Proc.devRef .tc main_v27_4) = fun _ => BitVec.ofNat 32 k)
    (hx : ∀ n d, (W (Proc.devRef .tc main_v27_0) : S2048x32x256.Idx → EReal) (ix3 (⟨k, hk⟩ : Fin 2048) n d) = x n d k)
    (h : Carried x W k) : Carried x (STEP W) (k + 1) := by
  have hm : ∀ n d, (res_main_while0b_v108 W : S32x256.Idx → EReal) (ix2 n d) = mxE (x n d) (k + 1)
      ∧ (res_main_while0b_v109 W : S32x256.Idx → BitVec 32) (ix2 n d) = BitVec.ofInt 32 (agI (x n d) (k + 1)) := by
    intro n d
    have hr := (row_apply W k hk hc n d).trans (hx n d)
    have ha := h.mx n d
    have hb := h.ag n d
    have e8 : (res_main_while0b_v108 W : S32x256.Idx → EReal) (ix2 n d)
        = Scalar.select (FloatOps.cmpf (F := Ideal) (φ := .f32) .oge ((W (Proc.devRef .tc main_v27_2) : S32x256.Idx → EReal) (ix2 n d)) ((res_main_while0b_v106 W : S32x256.Idx → EReal) (ix2 n d)))
          ((W (Proc.devRef .tc main_v27_2) : S32x256.Idx → EReal) (ix2 n d)) ((res_main_while0b_v106 W : S32x256.Idx → EReal) (ix2 n d)) := rfl
    have e9 : (res_main_while0b_v109 W : S32x256.Idx → BitVec 32) (ix2 n d)
        = Scalar.select (FloatOps.cmpf (F := Ideal) (φ := .f32) .oge ((W (Proc.devRef .tc main_v27_2) : S32x256.Idx → EReal) (ix2 n d)) ((res_main_while0b_v106 W : S32x256.Idx → EReal) (ix2 n d)))
          ((W (Proc.devRef .tc main_v27_3) : S32x256.Idx → BitVec 32) (ix2 n d)) (BitVec.ofNat 32 k) := by
      have : (W (Proc.devRef .tc main_v27_4) : S_.Idx → BitVec 32) = fun _ => BitVec.ofNat 32 k := ht
      unfold res_main_while0b_v109 res_main_while0b_v107
      rw [ht]
      rfl
    rw [hr, ha] at e8 e9
    rw [hb] at e9
    rw [e8, e9]
    by_cases hle : x n d k ≤ mxE (x n d) (max k 1)
    · have hk1 : mxE (x n d) (k + 1) = mxE (x n d) (max k 1) ∧ agI (x n d) (k + 1) = agI (x n d) (max k 1) := by
        rcases Nat.eq_zero_or_pos k with h0 | h0
        · subst h0; exact ⟨rfl, rfl⟩
        · rw [Nat.max_eq_left h0] at hle ⊢
          refine ⟨max_eq_left hle, ?_⟩
          show (if mxE (x n d) k < x n d k then (k : ℤ) else agI (x n d) k) = _
          rw [if_neg (not_lt.2 hle)]
      rw [hk1.1, hk1.2]
      unfold Scalar.select
      rw [if_pos ((keep_iff _ _).2 hle), if_pos ((keep_iff _ _).2 hle)]
      exact ⟨rfl, rfl⟩
    · have h0 : 0 < k := by
        rcases Nat.eq_zero_or_pos k with h0 | h0
        · subst h0; exact absurd (le_max_right _ _) hle
        · exact h0
      rw [Nat.max_eq_left h0] at hle ⊢
      have hlt := not_le.1 hle
      unfold Scalar.select
      rw [if_neg (fun e => hle ((keep_iff _ _).1 e)), if_neg (fun e => hle ((keep_iff _ _).1 e))]
      refine ⟨(max_eq_right hlt.le).symm, ?_⟩
      show _ = BitVec.ofInt 32 (if mxE (x n d) k < x n d k then (k : ℤ) else agI (x n d) k)
      rw [if_pos hlt]
      exact (BitVec.ofInt_natCast 32 k).symm
  have hmax : max (k + 1) 1 = k + 1 := by omega
  refine ⟨fun n d => ?_, fun n d => ?_, fun T n d hT => ?_, fun T n d hT => ?_⟩
  · rw [STEP_main_v27_2, hmax]; exact (hm n d).1
  · rw [STEP_main_v27_3, hmax]; exact (hm n d).2
  · rw [STEP_main_v27_5]
    refine (upd_apply k hk _ _ _ (by
      show (((W (Proc.devRef .tc main_v27_1) : S_.Idx → BitVec 32)) (Shape.Idx.first h_S_)).toInt = _
      rw [hc]) rfl rfl T n d).trans ?_
    split_ifs with e
    · rw [e]; exact (hm n d).1
    · exact h.ys T n d (by omega)
  · rw [STEP_main_v27_6]
    refine (upd_apply k hk _ _ _ (by
      show (((W (Proc.devRef .tc main_v27_1) : S_.Idx → BitVec 32)) (Shape.Idx.first h_S_)).toInt = _
      rw [hc]) rfl rfl T n d).trans ?_
    split_ifs with e
    · rw [e]; exact (hm n d).2
    · exact h.zs T n d (by omega)

/-- The loop's stacks hold every prefix's maximum and its position. -/
theorem carried (hx : ∀ n d (T : Fin 2048), (linM m c : S32x2048x256.Idx → EReal) (ix3 n T d) = x n d T.val) (h0 : ∀ n d, ⊥ < x n d 0) :
    ∀ k, k ≤ 2048 → Carried x (sq m c k) k
  | 0, _ => by
    refine ⟨fun n d => ?_, fun n d => ?_, fun T n d hT => absurd hT (Nat.not_lt_zero _), fun T n d hT => absurd hT (Nat.not_lt_zero _)⟩
    · show (entryContents preI m c (Proc.devRef .tc main_v27_2) : S32x256.Idx → EReal) (ix2 n d) = max ⊥ (x n d 0)
      rw [entry_2, max_eq_right bot_le]
      refine (shapeCast_apply _ _ _ (ix3 n (0 : Fin 1) d) (by
        rw [Shape.rowMajor_val_three, Shape.rowMajor_val_two]; show (n.val * 1 + 0) * 256 + d.val = n.val * 256 + d.val; omega)).trans ?_
      refine Eq.trans ?_ (hx n d 0)
      unfold extractStridedSlice
      refine congrArg (linM m c : S32x2048x256.Idx → EReal) (funext fun a => Fin.ext ?_)
      match a with
      | ⟨0, _⟩ => exact Nat.zero_add _
      | ⟨1, _⟩ => exact Nat.zero_add _
      | ⟨2, _⟩ => exact Nat.zero_add _
    · show (entryContents preI m c (Proc.devRef .tc main_v27_3) : S32x256.Idx → BitVec 32) (ix2 n d) = BitVec.ofInt 32 (if ⊥ < x n d 0 then ((0 : ℕ) : ℤ) else -1)
      rw [entry_3, if_pos (h0 n d)]
      rfl
  | k + 1, hk => by
    rw [sq_succ]
    refine carried_step x _ k (by omega) (sq_1 m c k) (sq_4 m c k) (fun n d => ?_) (carried hx h0 k (by omega))
    rw [sq_0, entry_0]
    refine (transpose_apply _ _ _ _ (ix3 n (⟨k, by omega⟩ : Fin 2048) d) (fun b => by
      match b with
      | ⟨0, _⟩ => rfl
      | ⟨1, _⟩ => rfl
      | ⟨2, _⟩ => rfl)).trans ?_
    exact hx n d ⟨k, by omega⟩

end Cert.ReferenceIdeal.Enc

end

end
-- ==== Proof.Reference.Val.lean ====
module

public import proofs.«01_k».proof.Proof.Reference.Scan
public import proofs.«01_k».proof.Proof.Math.Args
public import Idealize.ShloMosaic.Lib.StableHlo.Predicate

@[expose] public section

set_option maxRecDepth 16384

noncomputable section

namespace Cert.ReferenceIdeal.Enc

open Idealize.ShloMosaic Idealize.ShloMosaic.TcCoe Idealize.ShloMosaic.StableHlo Idealize.ShloMosaic.ValueIdx
open Cert.ReferenceIdeal Cert.ReferenceIdeal.Gen Cert.ReferenceIdeal.Value Cert.Enc

/-! ## Broadcasts at an index -/

section Layout
variable {α : Type}

/-- A scalar broadcast, at an index. -/
theorem bc_scalar {t : Shape} (h : S_.BroadcastsInDim t ![]) (v : S_.Idx → α) (j : t.Idx) : broadcastInDim t ![] h v j = v ix0 :=
  broadcastInDim_scalar_apply h v j

/-- A broadcast of the times, at an index. -/
theorem bc_time (v : S1x2048x1.Idx → α) (n : Fin 32) (T : Fin 2048) (d : Fin 256) :
    broadcastInDim S32x2048x256 ![0, 1, 2] bcast_S1x2048x1_S32x2048x256_0_1_2 v (ix3 n T d) = v (ix3 (0 : Fin 1) T (0 : Fin 1)) :=
  broadcastInDim_apply _ _ _ _ _ (fun a => by
    match a with
    | ⟨0, _⟩ => rfl
    | ⟨1, _⟩ => rfl
    | ⟨2, _⟩ => rfl)

/-- A broadcast over the channels, at an index. -/
theorem bc_row (v : S32x2048x1.Idx → α) (n : Fin 32) (T : Fin 2048) (d : Fin 256) :
    broadcastInDim S32x2048x256 ![0, 1, 2] bcast_S32x2048x1_S32x2048x256_0_1_2 v (ix3 n T d) = v (ix3 n T (0 : Fin 1)) :=
  broadcastInDim_apply _ _ _ _ _ (fun a => by
    match a with
    | ⟨0, _⟩ => rfl
    | ⟨1, _⟩ => rfl
    | ⟨2, _⟩ => rfl)

/-- A unit axis kept at the end, at an index. -/
theorem bc_keep (v : S32x2048.Idx → α) (n : Fin 32) (T : Fin 2048) :
    broadcastInDim S32x2048x1 ![0, 1] bcast_S32x2048_S32x2048x1_0_1 v (ix3 n T (0 : Fin 1)) = v (ix2 n T) :=
  broadcastInDim_apply _ _ _ _ _ (fun a => by
    match a with
    | ⟨0, _⟩ => rfl
    | ⟨1, _⟩ => rfl)

/-- The transpose, at an index. -/
theorem tr_102 (v : S2048x32x256.Idx → α) (n : Fin 32) (T : Fin 2048) (d : Fin 256) :
    transpose S32x2048x256 [1, 0, 2] v transposes_S2048x32x256_S32x2048x256_1_0_2 (ix3 n T d) = v (ix3 T n d) :=
  transpose_apply _ _ _ _ _ (fun b => by
    match b with
    | ⟨0, _⟩ => rfl
    | ⟨1, _⟩ => rfl
    | ⟨2, _⟩ => rfl)

/-- The transpose, at an index. -/
theorem tr_021 (v : S32x2048x256.Idx → α) (n : Fin 32) (d : Fin 256) (T : Fin 2048) :
    transpose S32x256x2048 [0, 2, 1] v transposes_S32x2048x256_S32x256x2048_0_2_1 (ix3 n d T) = v (ix3 n T d) :=
  transpose_apply _ _ _ _ _ (fun b => by
    match b with
    | ⟨0, _⟩ => rfl
    | ⟨1, _⟩ => rfl
    | ⟨2, _⟩ => rfl)

end Layout

/-! ## The layers -/

/-- The product, entry by entry. -/
theorem dotD1 (l : FVec Ideal S32x8 .f32) (r : FVec Ideal S8x40 .f32) (i : Fin 32) (j : Fin 40) :
    Host.dotGeneral dot_S32x8_S8x40_S32x40_1_0_0_1_n_n none l r (ix2 i j) = ∑ k : Fin 8, l (ix2 i k) * r (ix2 k j) := by
  refine (Ideal.dotGeneral_apply _ _ _ l r (ix2 i j)).trans ?_
  refine Fintype.sum_equiv (contrEquiv1 dot_S32x8_S8x40_S32x40_1_0_0_1_n_n 8 rfl rfl) _ _ (fun q => ?_)
  refine congrArg₂ (· * ·) (congrArg l ?_) (congrArg r ?_) <;>
    · funext a; match a with
      | ⟨0, _⟩ => rfl
      | ⟨1, _⟩ => rfl

/-- The product, entry by entry. -/
theorem dotD2 (l : FVec Ideal S32x40 .f32) (r : FVec Ideal S40x20 .f32) (i : Fin 32) (j : Fin 20) :
    Host.dotGeneral dot_S32x40_S40x20_S32x20_1_0_0_1_n_n none l r (ix2 i j) = ∑ k : Fin 40, l (ix2 i k) * r (ix2 k j) := by
  refine (Ideal.dotGeneral_apply _ _ _ l r (ix2 i j)).trans ?_
  refine Fintype.sum_equiv (contrEquiv1 dot_S32x40_S40x20_S32x20_1_0_0_1_n_n 40 rfl rfl) _ _ (fun q => ?_)
  refine congrArg₂ (· * ·) (congrArg l ?_) (congrArg r ?_) <;>
    · funext a; match a with
      | ⟨0, _⟩ => rfl
      | ⟨1, _⟩ => rfl

/-- The product, entry by entry. -/
theorem dotD3 (l : FVec Ideal S32x2048x1044 .f32) (r : FVec Ideal S1044x256 .f32) (n : Fin 32) (T : Fin 2048) (d : Fin 256) :
    Host.dotGeneral dot_S32x2048x1044_S1044x256_S32x2048x256_2_0_01_1_n_n none l r (ix3 n T d) = ∑ k : Fin 1044, l (ix3 n T k) * r (ix2 k d) := by
  refine (Ideal.dotGeneral_apply _ _ _ l r (ix3 n T d)).trans ?_
  refine Fintype.sum_equiv (contrEquiv1 dot_S32x2048x1044_S1044x256_S32x2048x256_2_0_01_1_n_n 1044 rfl rfl) _ _ (fun q => ?_)
  refine congrArg₂ (· * ·) (congrArg l ?_) (congrArg r ?_)
  · funext a; match a with
      | ⟨0, _⟩ => rfl
      | ⟨1, _⟩ => rfl
      | ⟨2, _⟩ => rfl
  · funext a; match a with
      | ⟨0, _⟩ => rfl
      | ⟨1, _⟩ => rfl

variable (b0 : FVec Ideal S32x8 .f32) (b1 b2 b3 b4 : FVec Ideal S32x2048x256 .f32) (b5 : FVec Ideal S8x40 .f32) (b6 : FVec Ideal S40 .f32)
  (b7 : FVec Ideal S40x20 .f32) (b8 : FVec Ideal S20 .f32) (b9 : FVec Ideal S1044x256 .f32) (b10 : FVec Ideal S256 .f32)

/-- The demography, entry by entry. -/
theorem demR_apply (n : Fin 32) (e : Fin 20) : demR b0 b5 b6 b7 b8 (ix2 n e) = (Data.of b0 b1 b2 b3 b4 b5 b6 b7 b8 b9 b10).dem n e := by
  unfold demR
  rw [maximumf_apply, addf_apply, dotD2]
  refine congrArg₂ max (congrArg₂ (· + ·) (Finset.sum_congr rfl fun k _ => ?_) ?_) ((bc_scalar _ _ _).trans Ideal.ofBits_zero_f32)
  · refine congrArg (· * b7 (ix2 k e)) ?_
    rw [maximumf_apply, addf_apply, dotD1]
    refine congrArg₂ max (congrArg₂ (· + ·) (Finset.sum_congr rfl fun p _ => rfl) ?_) ((bc_scalar _ _ _).trans Ideal.ofBits_zero_f32)
    refine (broadcastInDim_apply _ _ _ _ (ix2 (0 : Fin 1) k) (fun a => by
      match a with
      | ⟨0, _⟩ => rfl
      | ⟨1, _⟩ => rfl)).trans ?_
    exact broadcastInDim_apply _ _ _ _ (ix1 k) (fun a => by
      match a with
      | ⟨0, _⟩ => rfl)
  · refine (broadcastInDim_apply _ _ _ _ (ix2 (0 : Fin 1) e) (fun a => by
      match a with
      | ⟨0, _⟩ => rfl
      | ⟨1, _⟩ => rfl)).trans ?_
    exact broadcastInDim_apply _ _ _ _ (ix1 e) (fun a => by
      match a with
      | ⟨0, _⟩ => rfl)

/-- The demography along the times, entry by entry. -/
theorem demT_apply (w : FVec Ideal S32x20 .f32) (n : Fin 32) (T : Fin 2048) (e : Fin 20) : demT w (ix3 n T e) = w (ix2 n e) := by
  unfold demT
  refine (broadcastInDim_apply _ _ _ _ (ix3 n (0 : Fin 1) e) (fun a => by
    match a with
    | ⟨0, _⟩ => rfl
    | ⟨1, _⟩ => rfl
    | ⟨2, _⟩ => rfl)).trans ?_
  exact broadcastInDim_apply _ _ _ _ (ix2 n e) (fun a => by
    match a with
    | ⟨0, _⟩ => rfl
    | ⟨1, _⟩ => rfl)

/-- A sum over the linear layer's inputs, by the pieces they come from. -/
theorem sum_1044 (f : Fin 1044 → EReal) : ∑ k, f k = ((((∑ k : Fin 256, f ⟨k.val, by omega⟩) + ∑ k : Fin 256, f ⟨256 + k.val, by omega⟩)
    + ∑ k : Fin 256, f ⟨512 + k.val, by omega⟩) + ∑ k : Fin 256, f ⟨768 + k.val, by omega⟩) + ∑ e : Fin 20, f ⟨1024 + e.val, by omega⟩ := by
  refine (Fin.sum_univ_add (a := 1024) (b := 20) f).trans (congrArg₂ (· + ·) ?_ rfl)
  refine (Fin.sum_univ_add (a := 768) (b := 256) _).trans (congrArg₂ (· + ·) ?_ rfl)
  refine (Fin.sum_univ_add (a := 512) (b := 256) _).trans (congrArg₂ (· + ·) ?_ rfl)
  exact Fin.sum_univ_add (a := 256) (b := 256) _

section Cat
variable (w : FVec Ideal S32x2048x20 .f32) (n : Fin 32) (T : Fin 2048)

/-- The linear layer's input where this piece is. -/
theorem cat_0 (k : Fin 256) : catR b1 b2 b3 b4 w (ix3 n T (⟨k.val, by omega⟩ : Fin 1044)) = b1 (ix3 n T k) := by
  unfold catR
  exact concatenate_apply_piece (t := S32x2048x1044) 2 [⟨S32x2048x256, b1⟩, ⟨S32x2048x256, b2⟩, ⟨S32x2048x256, b3⟩, ⟨S32x2048x256, b4⟩, ⟨S32x2048x20, w⟩] _ _ 0 (by show 0 < 5; decide) S32x2048x256 b1 rfl rfl 0 rfl (ix3 n T k) (fun b hb => by
    match b with
    | ⟨0, _⟩ => rfl
    | ⟨1, _⟩ => rfl
    | ⟨2, _⟩ => exact absurd rfl hb) (Nat.zero_add _)
/-- The linear layer's input where this piece is. -/
theorem cat_1 (k : Fin 256) : catR b1 b2 b3 b4 w (ix3 n T (⟨256 + k.val, by omega⟩ : Fin 1044)) = b2 (ix3 n T k) := by
  unfold catR
  exact concatenate_apply_piece (t := S32x2048x1044) 2 [⟨S32x2048x256, b1⟩, ⟨S32x2048x256, b2⟩, ⟨S32x2048x256, b3⟩, ⟨S32x2048x256, b4⟩, ⟨S32x2048x20, w⟩] _ _ 1 (by show 1 < 5; decide) S32x2048x256 b2 rfl rfl 256 rfl (ix3 n T k) (fun b hb => by
    match b with
    | ⟨0, _⟩ => rfl
    | ⟨1, _⟩ => rfl
    | ⟨2, _⟩ => exact absurd rfl hb) rfl
/-- The linear layer's input where this piece is. -/
theorem cat_2 (k : Fin 256) : catR b1 b2 b3 b4 w (ix3 n T (⟨512 + k.val, by omega⟩ : Fin 1044)) = b3 (ix3 n T k) := by
  unfold catR
  exact concatenate_apply_piece (t := S32x2048x1044) 2 [⟨S32x2048x256, b1⟩, ⟨S32x2048x256, b2⟩, ⟨S32x2048x256, b3⟩, ⟨S32x2048x256, b4⟩, ⟨S32x2048x20, w⟩] _ _ 2 (by show 2 < 5; decide) S32x2048x256 b3 rfl rfl 512 rfl (ix3 n T k) (fun b hb => by
    match b with
    | ⟨0, _⟩ => rfl
    | ⟨1, _⟩ => rfl
    | ⟨2, _⟩ => exact absurd rfl hb) rfl
/-- The linear layer's input where this piece is. -/
theorem cat_3 (k : Fin 256) : catR b1 b2 b3 b4 w (ix3 n T (⟨768 + k.val, by omega⟩ : Fin 1044)) = b4 (ix3 n T k) := by
  unfold catR
  exact concatenate_apply_piece (t := S32x2048x1044) 2 [⟨S32x2048x256, b1⟩, ⟨S32x2048x256, b2⟩, ⟨S32x2048x256, b3⟩, ⟨S32x2048x256, b4⟩, ⟨S32x2048x20, w⟩] _ _ 3 (by show 3 < 5; decide) S32x2048x256 b4 rfl rfl 768 rfl (ix3 n T k) (fun b hb => by
    match b with
    | ⟨0, _⟩ => rfl
    | ⟨1, _⟩ => rfl
    | ⟨2, _⟩ => exact absurd rfl hb) rfl
/-- The linear layer's input where this piece is. -/
theorem cat_4 (e : Fin 20) : catR b1 b2 b3 b4 w (ix3 n T (⟨1024 + e.val, by omega⟩ : Fin 1044)) = w (ix3 n T e) := by
  unfold catR
  exact concatenate_apply_piece (t := S32x2048x1044) 2 [⟨S32x2048x256, b1⟩, ⟨S32x2048x256, b2⟩, ⟨S32x2048x256, b3⟩, ⟨S32x2048x256, b4⟩, ⟨S32x2048x20, w⟩] _ _ 4 (by show 4 < 5; decide) S32x2048x20 w rfl rfl 1024 rfl (ix3 n T e) (fun b hb => by
    match b with
    | ⟨0, _⟩ => rfl
    | ⟨1, _⟩ => rfl
    | ⟨2, _⟩ => exact absurd rfl hb) rfl

end Cat

/-- The linear layer at a subject, time and channel. -/
theorem linR_apply (n : Fin 32) (T : Fin 2048) (d : Fin 256) :
    linR (catR b1 b2 b3 b4 (demT (demR b0 b5 b6 b7 b8))) b9 b10 (ix3 n T d) = (Data.of b0 b1 b2 b3 b4 b5 b6 b7 b8 b9 b10).x n d T.val := by
  unfold linR
  rw [addf_apply, dotD3, sum_1044]
  simp only [cat_0, cat_1, cat_2, cat_3, cat_4, demT_apply, demR_apply b0 b1 b2 b3 b4 b5 b6 b7 b8 b9 b10]
  unfold Data.x
  rw [dif_pos T.isLt, add_assoc]
  refine congrArg₂ (· + ·) rfl (congrArg₂ (· + ·) rfl ?_)
  refine (broadcastInDim_apply _ _ _ _ (ix3 (0 : Fin 1) (0 : Fin 1) d) (fun a => by
    match a with
    | ⟨0, _⟩ => rfl
    | ⟨1, _⟩ => rfl
    | ⟨2, _⟩ => rfl)).trans ?_
  exact broadcastInDim_apply _ _ _ _ (ix1 d) (fun a => by
    match a with
    | ⟨0, _⟩ => rfl)

/-! ## Normalisation -/

/-- The sum over the channels. -/
theorem sum_apply (x : FVec Ideal S32x2048x256 .f32) (n : Fin 32) (T : Fin 2048) :
    (Host.reduceAdd x (constant S_ .f32 0x00000000#32) reducesTo_S32x2048x256_S32x2048_d2 h_S_ : FVec Ideal S32x2048 .f32) (ix2 n T)
      = (0 : EReal) + ∑ d : Fin 256, x (ix3 n T d) := by
  have h : S32x2048x256.Reduces [2] S32x2048 := by decide
  refine (Ideal.hostReduceAdd_single reducesTo_S32x2048x256_S32x2048_d2 h x _ (ix2 n T)).trans ?_
  refine congrArg₂ (· + ·) Ideal.ofBits_zero_f32 (Finset.sum_congr rfl fun d _ => congrArg x ?_)
  funext a
  match a with
  | ⟨0, _⟩ => rfl
  | ⟨1, _⟩ => rfl
  | ⟨2, _⟩ => rfl

/-- The mean over the channels. -/
theorem meanR_apply (x : FVec Ideal S32x2048x256 .f32) (n : Fin 32) (T : Fin 2048) :
    meanR x (ix3 n T (0 : Fin 1)) = Ideal.div (0 + ∑ d : Fin 256, x (ix3 n T d)) (Ideal.ofBits .f32 0x43800000#32) := by
  unfold meanR
  show Ideal.div _ _ = _
  refine congrArg₂ Ideal.div ((bc_keep _ n T).trans (sum_apply x n T)) (bc_scalar _ _ _)

/-- The entry less the mean. -/
theorem cenR_apply (x : FVec Ideal S32x2048x256 .f32) (n : Fin 32) (T : Fin 2048) (d : Fin 256) :
    cenR x (ix3 n T d) = x (ix3 n T d) - Ideal.div (0 + ∑ d : Fin 256, x (ix3 n T d)) (Ideal.ofBits .f32 0x43800000#32) := by
  unfold cenR
  show x _ - _ = _
  exact congrArg (x (ix3 n T d) - ·) ((bc_row _ n T d).trans (meanR_apply x n T))

/-- The normalisation, entry by entry. -/
theorem lnR_apply (x : FVec Ideal S32x2048x256 .f32) (n : Fin 32) (T : Fin 2048) (d : Fin 256) :
    lnR x (ix3 n T d) = rLN (fun d => x (ix3 n T d)) (Ideal.ofBits .f32 0x3727C5AC#32) d := by
  unfold lnR rLN
  show cenR x _ * _ = _
  refine congrArg₂ (· * ·) (cenR_apply x n T d) ((bc_row _ n T d).trans ?_)
  show Ideal.rsqrt ((meanR (F := Ideal) _ _ : EReal) + _) = _
  refine congrArg Ideal.rsqrt (congrArg₂ (· + ·) ((meanR_apply _ n T).trans ?_) (bc_scalar _ _ _))
  refine congrArg (fun s => Ideal.div (0 + s) _) (Finset.sum_congr rfl fun k _ => ?_)
  show cenR x _ * cenR x _ = _
  rw [cenR_apply]

/-! ## Times -/

/-- The time at an index. -/
theorem tmR_apply (T : Fin 2048) : tmR (ix3 (0 : Fin 1) T (0 : Fin 1)) = BitVec.ofNat 32 T.val := by
  unfold tmR
  refine (broadcastInDim_apply _ _ _ _ (ix1 T) (fun a => by
    match a with
    | ⟨0, _⟩ => rfl)).trans ?_
  rfl

/-- Where the time is before the last. -/
theorem ltR_apply (T : Fin 2048) : ltR (ix3 (0 : Fin 1) T (0 : Fin 1)) = 1 ↔ T.val < 2047 := by
  have e : ltR (ix3 (0 : Fin 1) T (0 : Fin 1)) = BitVec.ofBool ((BitVec.ofNat 32 T.val).slt (BitVec.ofNat 32 2047)) := by
    unfold ltR
    show IntOp.cmpi .slt _ _ = _
    rw [tmR_apply]
    rfl
  rw [e]
  exact Idealize.ShloMosaic.StableHlo.Predicate.slt_ofNat_iff T.val 2047 (by omega) (by omega)

/-! ## Activations and indices -/

variable (y : FVec Ideal S2048x32x256 .f32) (z : IVec S2048x32x256 32)

/-- The activation, entry by entry. -/
theorem actR_apply (n : Fin 32) (T : Fin 2048) (d : Fin 256) : actR y (ix3 n T d) = actE (y (ix3 T n d)) T.val := by
  unfold actR actE
  show Scalar.select (broadcastInDim S32x2048x256 ![0, 1, 2] bcast_S1x2048x1_S32x2048x256_0_1_2 ltR (ix3 n T d))
    (max (transpose S32x2048x256 [1, 0, 2] y transposes_S2048x32x256_S32x2048x256_1_0_2 (ix3 n T d)) _) _ = _
  rw [bc_time, tr_102, bc_scalar]
  unfold Scalar.select
  have e0 : (constant S_ .f32 0x00000000#32 : FVec Ideal S_ .f32) ix0 = (0 : EReal) := Ideal.ofBits_zero_f32
  rw [e0]
  by_cases h : T.val < 2047
  · rw [if_pos ((ltR_apply T).2 h), if_pos h]
  · rw [if_neg (fun e => h ((ltR_apply T).1 e)), if_neg h]

/-- The index, entry by entry. -/
theorem idxR_apply (n : Fin 32) (T : Fin 2048) (d : Fin 256) : idxR y z (ix3 n T d) = idxE (y (ix3 T n d)) (z (ix3 T n d)) T.val := by
  unfold idxR idxE
  show Scalar.select (IntOp.andi (broadcastInDim S32x2048x256 ![0, 1, 2] bcast_S1x2048x1_S32x2048x256_0_1_2 ltR (ix3 n T d))
    (BitVec.ofBool (decide ((transpose S32x2048x256 [1, 0, 2] y transposes_S2048x32x256_S32x2048x256_1_0_2 (ix3 n T d) : EReal) ≤ broadcastInDim S32x2048x256 ![] bcast_S_S32x2048x256 (constant (F := Ideal) S_ .f32 0x00000000#32) (ix3 n T d)))))
    (broadcastInDim S32x2048x256 ![0, 1, 2] bcast_S1x2048x1_S32x2048x256_0_1_2 (subi tmR (broadcastInDim S1x2048x1 ![] bcast_S_S1x2048x1 (constantI S_ 32 2047#32))) (ix3 n T d))
    (transpose S32x2048x256 [1, 0, 2] z transposes_S2048x32x256_S32x2048x256_1_0_2 (ix3 n T d)) = _
  rw [bc_time, tr_102, tr_102, bc_scalar, bc_time]
  have e0 : (constant S_ .f32 0x00000000#32 : FVec Ideal S_ .f32) ix0 = (0 : EReal) := Ideal.ofBits_zero_f32
  have e1 : subi tmR (broadcastInDim S1x2048x1 ![] bcast_S_S1x2048x1 (constantI S_ 32 2047#32)) (ix3 (0 : Fin 1) T (0 : Fin 1)) = BitVec.ofNat 32 T.val - 2047#32 := by
    show tmR _ - _ = _
    rw [tmR_apply, bc_scalar]
    rfl
  rw [e0, e1]
  unfold Scalar.select
  have hc : IntOp.andi (ltR (ix3 (0 : Fin 1) T (0 : Fin 1))) (BitVec.ofBool (decide ((y (ix3 T n d) : EReal) ≤ 0))) = 1 ↔ T.val < 2047 ∧ (y (ix3 T n d) : EReal) ≤ 0 := by
    refine IntOp.andi_eq_one.trans (and_congr (ltR_apply T) ?_)
    by_cases h : (y (ix3 T n d) : EReal) ≤ 0 <;> simp [h]
  by_cases h : T.val < 2047 ∧ (y (ix3 T n d) : EReal) ≤ 0
  · rw [if_pos (hc.2 h), if_pos h]
  · rw [if_neg (fun e => h (hc.1 e)), if_neg h]

/-! ## Running sums -/

/-- A fold of additions is a sum. -/
theorem foldl_add {ι : Type} (g : ι → EReal) : ∀ (l : List ι) (v : EReal), l.foldl (fun r n => r + g n) v = v + (l.map g).sum
  | [], v => (add_zero v).symm
  | a :: l, v => by
    rw [List.foldl_cons, foldl_add g l, List.map_cons, List.sum_cons, add_assoc]

/-- A window of 2048 that ends at a time, padded by zeros, sums the times up to it. -/
theorem win_sum (f : ℕ → EReal) (T : ℕ) (hT : T < 2048) :
    ∑ k : Fin 2048, (if 2047 ≤ T + k.val then f (T + k.val - 2047) else 0) = ∑ s ∈ Finset.range (T + 1), f s := by
  rw [Finset.sum_fin_eq_sum_range]
  rw [show 2048 = (2047 - T) + (T + 1) from by omega, Finset.sum_range_add]
  have e1 : ∑ s ∈ Finset.range (2047 - T), (if h : s < 2047 - T + (T + 1) then (if 2047 ≤ T + s then f (T + s - 2047) else 0) else 0) = 0 := by
    refine Finset.sum_eq_zero fun s hs => ?_
    have := Finset.mem_range.1 hs
    rw [dif_pos (by omega), if_neg (by show ¬ 2047 ≤ T + s; omega)]
  rw [e1, zero_add]
  refine Finset.sum_congr rfl fun s hs => ?_
  have := Finset.mem_range.1 hs
  rw [dif_pos (by omega), if_pos (by show 2047 ≤ T + (2047 - T + s); omega)]
  refine congrArg f ?_
  show T + (2047 - T + s) - 2047 = s
  omega

/-- A window's sum: the initial value, then each position's element. -/
theorem winAdd_eq {s t u : Shape} (window strides lo hi : Fin s.rank → ℕ) (x : FVec Ideal s .f32) (init : u.Idx → EReal) (h : s.ReduceWindows window strides lo hi t)
    (hu : 0 < u.numel) (j : t.Idx) :
    (Host.reduceWindowAdd (F := Ideal) (φ := .f32) window strides lo hi x init h hu j : EReal)
      = init (Shape.Idx.first hu) + ∑ i : (⟨s.rank, window⟩ : Shape).Idx,
        if hin : ∀ a, lo a ≤ (j (a.cast h.1.symm)).val * strides a + (i a).val ∧ (j (a.cast h.1.symm)).val * strides a + (i a).val - lo a < s.size a
          then (x (fun a => ⟨(j (a.cast h.1.symm)).val * strides a + (i a).val - lo a, (hin a).2⟩) : EReal) else init (Shape.Idx.first hu) := by
  rw [← Equiv.sum_comp (⟨s.rank, window⟩ : Shape).rowMajor.symm, Fin.sum_univ_def, ← foldl_add]
  unfold Host.reduceWindowAdd
  rw [Ideal.hostReduceWindowAdd_def]
  unfold Ideal.hostReduceWindowAdd Host.reduceWindow
  refine congrArg (fun g : EReal → Fin (⟨s.rank, window⟩ : Shape).numel → EReal => List.foldl g _ _) (funext fun r => funext fun n => congrArg (fun y : EReal => r + y) ?_)
  split
  · rfl
  · rfl

variable (x : FVec Ideal S32x2048x256 .f32) (f : Fin 32 → Fin 256 → ℕ → EReal) (hf : ∀ n d (T : Fin 2048), x (ix3 n T d) = f n d T.val)

/-- The window's positions are the times. -/
def winEquiv : (⟨3, ![1, 2048, 1]⟩ : Shape).Idx ≃ Fin 2048 where
  toFun i := i 1
  invFun k := ix3 (0 : Fin 1) k (0 : Fin 1)
  left_inv i := by
    funext a
    match a with
    | ⟨0, _⟩ => exact Fin.ext (by have : (i 0 : Fin 1).val < 1 := (i 0).isLt; show 0 = (i 0 : Fin 1).val; omega)
    | ⟨1, _⟩ => rfl
    | ⟨2, _⟩ => exact Fin.ext (by have : (i 2 : Fin 1).val < 1 := (i 2).isLt; show 0 = (i 2 : Fin 1).val; omega)
  right_inv k := rfl

include hf in
/-- The running sum, entry by entry. -/
theorem csR_apply (n : Fin 32) (T : Fin 2048) (d : Fin 256) : csR x (ix3 n T d) = csE (f n d) (T.val + 1) := by
  have e0 : (broadcastInDim S_ ![] bcast_S_S_ (constant (F := Ideal) S_ .f32 0x00000000#32) : S_.Idx → EReal) (Shape.Idx.first h_S_) = 0 :=
    (bc_scalar _ _ _).trans Ideal.ofBits_zero_f32
  unfold csR
  have e := winAdd_eq (s := S32x2048x256) (t := S32x2048x256) (u := S_) ![1, 2048, 1] ![1, 1, 1] ![0, 2047, 0] ![0, 0, 0] x
    (broadcastInDim S_ ![] bcast_S_S_ (constant (F := Ideal) S_ .f32 0x00000000#32)) reduceWindows_S32x2048x256_S32x2048x256_w1s1p0_0_w2048s1p2047_0_w1s1p0_0 h_S_ (ix3 n T d)
  rw [e0, zero_add] at e
  refine e.trans ?_
  refine (Fintype.sum_equiv winEquiv _ (fun k : Fin 2048 => if 2047 ≤ T.val + k.val then f n d (T.val + k.val - 2047) else 0) (fun i => ?_)).trans
    (win_sum (f n d) T.val T.isLt)
  obtain ⟨k, rfl⟩ := winEquiv.symm.surjective i
  rw [Equiv.apply_symm_apply]
  by_cases h : 2047 ≤ T.val + k.val
  · rw [if_pos h]
    refine (dif_pos (fun a => by
      match a with
      | ⟨0, _⟩ => exact ⟨Nat.zero_le _, show n.val * 1 + 0 - 0 < 32 by omega⟩
      | ⟨1, _⟩ => exact ⟨show 2047 ≤ T.val * 1 + k.val by omega, show T.val * 1 + k.val - 2047 < 2048 by omega⟩
      | ⟨2, _⟩ => exact ⟨Nat.zero_le _, show d.val * 1 + 0 - 0 < 256 by omega⟩)).trans ?_
    refine Eq.trans (congrArg x ?_) (hf n d ⟨T.val + k.val - 2047, by omega⟩)
    funext a
    apply Fin.ext
    match a with
    | ⟨0, _⟩ => show n.val * 1 + 0 - 0 = n.val; omega
    | ⟨1, _⟩ => show T.val * 1 + k.val - 2047 = T.val + k.val - 2047; omega
    | ⟨2, _⟩ => show d.val * 1 + 0 - 0 = d.val; omega
  · rw [if_neg h]
    refine dif_neg (fun hin => h ?_)
    have := (hin ⟨1, by decide⟩).1
    have : 2047 ≤ T.val * 1 + k.val := this
    omega

include hf in
/-- The average, entry by entry. -/
theorem avR_apply (n : Fin 32) (T : Fin 2048) (d : Fin 256) :
    avR x (ix3 n T d) = Ideal.div (csE (f n d) (T.val + 1)) (Ideal.ofBits .f32 0x45000000#32) := by
  unfold avR
  show Ideal.div _ _ = _
  exact congrArg₂ Ideal.div (csR_apply x f hf n T d) (bc_scalar _ _ _)

include hf in
/-- The sum over the root of the count, entry by entry. -/
theorem sqR_apply (n : Fin 32) (T : Fin 2048) (d : Fin 256) :
    sqR x (ix3 n T d) = csE (f n d) (T.val + 1) * Ideal.rsqrt (((T.val + 1 : ℕ) : ℝ) : EReal) := by
  unfold sqR
  show csR x _ * _ = _
  refine congrArg₂ (· * ·) (csR_apply x f hf n T d) ((bc_time _ n T d).trans ?_)
  show Ideal.rsqrt (((addi tmR _ (ix3 (0 : Fin 1) T (0 : Fin 1)) : BitVec 32).toInt : ℝ) : EReal) = _
  have e1 : (addi tmR (broadcastInDim S1x2048x1 ![] bcast_S_S1x2048x1 (constantI S_ 32 1#32)) (ix3 (0 : Fin 1) T (0 : Fin 1)) : BitVec 32).toInt = ((T.val + 1 : ℕ) : ℤ) := by
    have : (addi tmR (broadcastInDim S1x2048x1 ![] bcast_S_S1x2048x1 (constantI S_ 32 1#32)) (ix3 (0 : Fin 1) T (0 : Fin 1)) : BitVec 32) = BitVec.ofNat 32 (T.val + 1) := by
      show tmR _ + _ = _
      rw [tmR_apply, bc_scalar, BitVec.ofNat_add]
      rfl
    rw [this, BitVec.toInt_eq_toNat_of_lt (by rw [BitVec.toNat_ofNat]; omega), BitVec.toNat_ofNat, Nat.mod_eq_of_lt (by omega)]
  rw [e1]
  norm_cast

end Cert.ReferenceIdeal.Enc

end

end
-- ==== Proof.Reference.Final.lean ====
/-
  What the reference's program leaves in its three results, entry by entry: the encoder's output, the indices and the activations
  of the launched arguments.
-/
module

public import proofs.«01_k».proof.Proof.Reference.Val
public import proofs.«01_k».proof.Proof.Reference.Keep

@[expose] public section

set_option maxRecDepth 16384

noncomputable section

namespace Cert.ReferenceIdeal.Enc

open Idealize.ShloMosaic Idealize.ShloMosaic.TcCoe Idealize.ShloMosaic.StableHlo Idealize.ShloMosaic.ValueIdx
open Cert.ReferenceIdeal Cert.ReferenceIdeal.Gen Cert.ReferenceIdeal.Value Cert.Enc

variable (m : (ℓ : Loc nD τ sig) → Buf (Elt Ideal) ℓ) (c : Dev nD)

/-- The launched arguments' entries. -/
def dataR : Data := Data.of (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9)) (m ((c.tc : Thread nD τ).loc main_arg10))

/-- The buffers as the loop leaves them. -/
def endLoop : Valuation τ sig (Elt Ideal) := after condOps (atK m 2048 c)

/-- A buffer the loop does not write holds what it held at the loop's entry. -/
theorem endLoop_keep (b : Ref sig .tc) (h : b ∉ condOps_W ++ bodyW) : endLoop m c (Proc.devRef .tc b) = entryContents preI m c (Proc.devRef .tc b) :=
  (after_of_writes_sub condOps _ condOps_writes (fun hb => h (List.mem_append_left _ hb))).trans (atK_keep m c b h 2048)

/-- What the loop leaves there. -/
theorem endLoop_v11 : endLoop m c (Proc.devRef .tc main_v11) = demM m c := (endLoop_keep m c main_v11 (by decide +kernel)).trans (entry_v11 m c)
/-- What the loop leaves there. -/
theorem endLoop_v16 : endLoop m c (Proc.devRef .tc main_v16) = linM m c := (endLoop_keep m c main_v16 (by decide +kernel)).trans (entry_v16 m c)
/-- What the loop leaves there. -/
theorem endLoop_v18 : endLoop m c (Proc.devRef .tc main_v18) = tmR := (endLoop_keep m c main_v18 (by decide +kernel)).trans (entry_v18 m c)
/-- What the loop leaves there. -/
theorem endLoop_v20 : endLoop m c (Proc.devRef .tc main_v20) = ltR := (endLoop_keep m c main_v20 (by decide +kernel)).trans (entry_v20 m c)

/-- The linear layer of the launched arguments. -/
theorem lin_eq (n : Fin 32) (d : Fin 256) (T : Fin 2048) : (linM m c : S32x2048x256.Idx → EReal) (ix3 n T d) = (dataR m c).x n d T.val :=
  linR_apply _ _ _ _ _ _ _ _ _ _ _ n T d

/-- The demography of the launched arguments. -/
theorem dem_eq (n : Fin 32) (T : Fin 2048) (e : Fin 20) : (demM m c : S32x2048x20.Idx → EReal) (ix3 n T e) = (dataR m c).dem n e :=
  (demT_apply _ n T e).trans (demR_apply _ _ _ _ _ _ _ _ _ _ _ n e)

variable (hD : (dataR m c).Real)

include hD in
/-- The loop's stacked maxima and positions. -/
theorem stacked_eq (T : Fin 2048) (n : Fin 32) (d : Fin 256) :
    (endLoop m c (Proc.devRef .tc main_v27_5) : S2048x32x256.Idx → EReal) (ix3 T n d) = mxE ((dataR m c).x n d) (T.val + 1)
      ∧ (endLoop m c (Proc.devRef .tc main_v27_6) : S2048x32x256.Idx → BitVec 32) (ix3 T n d) = BitVec.ofInt 32 (agI ((dataR m c).x n d) (T.val + 1)) := by
  have h := carried m c (fun n d => (dataR m c).x n d) (fun n d T => lin_eq m c n d T) (fun n d => (hD.x n d 0).bot_lt) 2048 le_rfl
  have e5 : endLoop m c (Proc.devRef .tc main_v27_5) = sq m c 2048 (Proc.devRef .tc main_v27_5) :=
    (cond_keeps _ main_v27_5 (by decide)).trans (atK_agree m c 2048 main_v27_5 (by decide))
  have e6 : endLoop m c (Proc.devRef .tc main_v27_6) = sq m c 2048 (Proc.devRef .tc main_v27_6) :=
    (cond_keeps _ main_v27_6 (by decide)).trans (atK_agree m c 2048 main_v27_6 (by decide))
  exact ⟨(congrFun e5 _).trans (h.ys T n d T.isLt), (congrFun e6 _).trans (h.zs T n d T.isLt)⟩

include hD in
/-- The reference's activations with channels last. -/
theorem act_eq (n : Fin 32) (T : Fin 2048) (d : Fin 256) :
    (actR (F := Ideal) (endLoop m c (Proc.devRef .tc main_v27_5)) (ix3 n T d) : EReal) = (dataR m c).act n T.val d :=
  (actR_apply _ n T d).trans (congrArg (actE · T.val) (stacked_eq m c hD T n d).1)

include hD in
/-- The reference's activations. -/
theorem final_v49 : finalContents condOps preI bodyI postI 2048 m c (Proc.devRef .tc main_v49) = ((dataR m c).actArr : S32x256x2048.Idx → EReal) := by
  refine (post_v49 (endLoop m c) (endLoop_v18 m c) (endLoop_v20 m c)).trans ?_
  funext q
  obtain ⟨n, d, T, rfl⟩ : ∃ n d T, q = ix3 (n0 := 32) (n1 := 256) (n2 := 2048) n d T := ⟨_, _, _, eq_ix3 q⟩
  exact (tr_021 _ n d T).trans (act_eq m c hD n T d)

include hD in
/-- The reference's indices. -/
theorem final_v50 : finalContents condOps preI bodyI postI 2048 m c (Proc.devRef .tc main_v50) = ((dataR m c).idxArr : S32x256x2048.Idx → BitVec 32) := by
  refine (post_v50 (endLoop m c) (endLoop_v18 m c) (endLoop_v20 m c)).trans ?_
  funext q
  obtain ⟨n, d, T, rfl⟩ : ∃ n d T, q = ix3 (n0 := 32) (n1 := 256) (n2 := 2048) n d T := ⟨_, _, _, eq_ix3 q⟩
  exact (tr_021 _ n d T).trans ((idxR_apply _ _ n T d).trans (congrArg₂ (idxE · · T.val) (stacked_eq m c hD T n d).1 (stacked_eq m c hD T n d).2))

section Cat
variable (p q r : FVec Ideal S32x2048x256 .f32) (w : FVec Ideal S32x2048x20 .f32) (n : Fin 32) (T : Fin 2048) (f : Fin 788)

/-- The output's four pieces at a feature. -/
theorem cat788 : (concatenate S32x2048x788 2 [⟨S32x2048x256, p⟩, ⟨S32x2048x256, q⟩, ⟨S32x2048x256, r⟩, ⟨S32x2048x20, w⟩]
    concatenates_S32x2048x256_S32x2048x256_S32x2048x256_S32x2048x20_S32x2048x788_d2 : S32x2048x788.Idx → EReal) (ix3 n T f)
      = if h0 : f.val < 256 then p (ix3 n T (⟨f.val, h0⟩ : Fin 256))
        else if h1 : f.val < 512 then q (ix3 n T (⟨f.val - 256, by omega⟩ : Fin 256))
        else if h2 : f.val < 768 then r (ix3 n T (⟨f.val - 512, by omega⟩ : Fin 256))
        else w (ix3 n T (⟨f.val - 768, by omega⟩ : Fin 20)) := by
  split_ifs with h0 h1 h2
  · exact concatenate_apply_piece (t := S32x2048x788) 2 [⟨S32x2048x256, p⟩, ⟨S32x2048x256, q⟩, ⟨S32x2048x256, r⟩, ⟨S32x2048x20, w⟩] _ _ 0 (by show 0 < 4; decide) S32x2048x256 p rfl rfl 0 rfl
      (ix3 n T (⟨f.val, h0⟩ : Fin 256)) (fun b hb => by
        match b with
        | ⟨0, _⟩ => rfl
        | ⟨1, _⟩ => rfl
        | ⟨2, _⟩ => exact absurd rfl hb) (Nat.zero_add _)
  · exact concatenate_apply_piece (t := S32x2048x788) 2 [⟨S32x2048x256, p⟩, ⟨S32x2048x256, q⟩, ⟨S32x2048x256, r⟩, ⟨S32x2048x20, w⟩] _ _ 1 (by show 1 < 4; decide) S32x2048x256 q rfl rfl 256 rfl
      (ix3 n T (⟨f.val - 256, by omega⟩ : Fin 256)) (fun b hb => by
        match b with
        | ⟨0, _⟩ => rfl
        | ⟨1, _⟩ => rfl
        | ⟨2, _⟩ => exact absurd rfl hb) (by show 256 + (f.val - 256) = f.val; omega)
  · exact concatenate_apply_piece (t := S32x2048x788) 2 [⟨S32x2048x256, p⟩, ⟨S32x2048x256, q⟩, ⟨S32x2048x256, r⟩, ⟨S32x2048x20, w⟩] _ _ 2 (by show 2 < 4; decide) S32x2048x256 r rfl rfl 512 rfl
      (ix3 n T (⟨f.val - 512, by omega⟩ : Fin 256)) (fun b hb => by
        match b with
        | ⟨0, _⟩ => rfl
        | ⟨1, _⟩ => rfl
        | ⟨2, _⟩ => exact absurd rfl hb) (by show 512 + (f.val - 512) = f.val; omega)
  · exact concatenate_apply_piece (t := S32x2048x788) 2 [⟨S32x2048x256, p⟩, ⟨S32x2048x256, q⟩, ⟨S32x2048x256, r⟩, ⟨S32x2048x20, w⟩] _ _ 3 (by show 3 < 4; decide) S32x2048x20 w rfl rfl 768 rfl
      (ix3 n T (⟨f.val - 768, by omega⟩ : Fin 20)) (fun b hb => by
        match b with
        | ⟨0, _⟩ => rfl
        | ⟨1, _⟩ => rfl
        | ⟨2, _⟩ => exact absurd rfl hb) (by show 768 + (f.val - 768) = f.val; omega)

end Cat

include hD in
/-- The reference's output. -/
theorem final_v105 : finalContents condOps preI bodyI postI 2048 m c (Proc.devRef .tc main_v105) = ((dataR m c).outArr : S32x2048x788.Idx → EReal) := by
  refine (post_v105 (endLoop m c) (endLoop_v18 m c) (endLoop_v20 m c)).trans ?_
  rw [endLoop_v16, endLoop_v11]
  funext z
  obtain ⟨n, T, f, rfl⟩ : ∃ n T f, z = ix3 (n0 := 32) (n1 := 2048) (n2 := 788) n T f := ⟨_, _, _, eq_ix3 z⟩
  refine (cat788 _ _ _ _ n T f).trans ?_
  show _ = (dataR m c).out n T.val f
  unfold Data.out
  split_ifs with h0 h1 h2
  · refine (lnR_apply _ n T _).trans (congrArg (rLN · _ _) (funext fun d => act_eq m c hD n T d))
  · refine (lnR_apply _ n T _).trans (congrArg (rLN · _ _) (funext fun d => ?_))
    exact avR_apply _ _ (fun n d T => lin_eq m c n d T) n T d
  · refine (lnR_apply _ n T _).trans (congrArg (rLN · _ _) (funext fun d => ?_))
    exact sqR_apply _ _ (fun n d T => lin_eq m c n d T) n T d
  · exact dem_eq m c n T _

end Cert.ReferenceIdeal.Enc

end

end
-- ==== Proof.Reference.Results.lean ====
/-
  The reference's run with its results: the encoder's output, the indices and the activations of the launched arguments.
-/
module

public import proofs.«01_k».proof.Proof.Reference.Final

@[expose] public section

set_option maxRecDepth 16384

noncomputable section

namespace Cert.ReferenceIdeal.Enc

open Idealize.ShloMosaic Idealize.ShloMosaic.TcCoe
open Idealize.SL.Sem
open Cert.ReferenceIdeal Cert.ReferenceIdeal.Gen Cert.ReferenceIdeal.Value Cert.Enc

variable (m : (ℓ : Loc nD τ sig) → Buf (Elt Ideal) ℓ) (ρ : Dev nD → PrngReg)

/-- Every execution on real arguments ends with the three results of those arguments, and the arguments as launched. -/
theorem results (hD : ∀ c, (dataR m c).Real) : θ_run defs (onTc (τ := τ) (main (F := Ideal))) ⟨m, fun _ => 0, ρ⟩ (fun r => ∀ c : Dev nD,
      r.2.mem ((c.tc : Thread nD τ).loc main_v105) = ((dataR m c).outArr : S32x2048x788.Idx → EReal)
      ∧ r.2.mem ((c.tc : Thread nD τ).loc main_v50) = ((dataR m c).idxArr : S32x256x2048.Idx → BitVec 32)
      ∧ r.2.mem ((c.tc : Thread nD τ).loc main_v49) = ((dataR m c).actArr : S32x256x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c main_v105 rfl).trans (final_v105 m c (hD c)),
    (h c main_v50 rfl).trans (final_v50 m c (hD c)),
    (h c main_v49 rfl).trans (final_v49 m c (hD c)),
    (h c main_arg0 rfl).trans (final_keep m c main_arg0 (by decide +kernel) (by decide +kernel) (by decide +kernel)),
    (h c main_arg1 rfl).trans (final_keep m c main_arg1 (by decide +kernel) (by decide +kernel) (by decide +kernel)),
    (h c main_arg2 rfl).trans (final_keep m c main_arg2 (by decide +kernel) (by decide +kernel) (by decide +kernel)),
    (h c main_arg3 rfl).trans (final_keep m c main_arg3 (by decide +kernel) (by decide +kernel) (by decide +kernel)),
    (h c main_arg4 rfl).trans (final_keep m c main_arg4 (by decide +kernel) (by decide +kernel) (by decide +kernel)),
    (h c main_arg5 rfl).trans (final_keep m c main_arg5 (by decide +kernel) (by decide +kernel) (by decide +kernel)),
    (h c main_arg6 rfl).trans (final_keep m c main_arg6 (by decide +kernel) (by decide +kernel) (by decide +kernel)),
    (h c main_arg7 rfl).trans (final_keep m c main_arg7 (by decide +kernel) (by decide +kernel) (by decide +kernel)),
    (h c main_arg8 rfl).trans (final_keep m c main_arg8 (by decide +kernel) (by decide +kernel) (by decide +kernel)),
    (h c main_arg9 rfl).trans (final_keep m c main_arg9 (by decide +kernel) (by decide +kernel) (by decide +kernel)),
    (h c main_arg10 rfl).trans (final_keep m c main_arg10 (by decide +kernel) (by decide +kernel) (by decide +kernel))⟩) (run_fold m ρ)

end Cert.ReferenceIdeal.Enc

end

end
-- ==== Proof.Math.Finite.lean ====
module

public import proofs.«01_k».proof.Pre_finite
public import proofs.«01_k».proof.Proof.Math.Args
public import Idealize.ShloMosaic.Lib.ReduceAll
public import Idealize.ShloMosaic.Lib.Pipeline.Value
public import Idealize.ShloMosaic.PureOps.Ideal.Laws

@[expose] public section

noncomputable section

namespace Cert.Enc

open Idealize.ShloMosaic Idealize.ShloMosaic.ValueIdx

/-- Whose absolute value is below infinity is a real number. -/
theorem isR_of_abs (x : EReal) (h : max x (-x) < ⊤) : IsR x := by
  induction x with
  | bot => simp at h
  | coe r => exact ⟨r, rfl⟩
  | top => simp at h

/-- An array whose absolute values are all below infinity has real numbers only. -/
theorem isR_of_all {s u t : Shape} {axes : List (Fin s.rank)} [Subsingleton t.Idx] (b : FVec Ideal s .f32) (hb : (⟨0, ![]⟩ : Shape).BroadcastsInDim s ![]) (init : u.Idx → BitVec 1)
    (h : s.ReducesTo axes t) (hu : 0 < u.numel) (j : t.Idx)
    (e : Host.reduce IntOp.andi (cmpf .olt (Host.absf b) (broadcastInDim s ![] hb (constant (⟨0, ![]⟩ : Shape) .f32 0x7F800000#32))) init h hu j = 1#1) (i : s.Idx) :
    IsR (b i) := by
  have e := Host.reduce_andi_all _ _ _ _ _ e i
  have e : BitVec.ofBool (decide (max (b i : EReal) (-(b i)) < Ideal.ofBits .f32 0x7F800000#32)) = 1#1 := e
  rw [litTop] at e
  refine isR_of_abs _ ?_
  by_contra hn
  rw [decide_eq_false hn] at e
  exact absurd e (by decide)

/-- The side conditions of the precondition's operations. -/
theorem preFacts : Cert.Pre_finite.Facts :=
  ⟨by decide, by decide, by decide, by decide, by decide, by decide, by decide, by decide, by decide, by decide, by decide, by decide, by decide, by decide, by decide, by decide, by decide⟩

/-- There is one scalar index. -/
instance : Subsingleton (⟨0, ![]⟩ : Shape).Idx := ⟨fun a b => funext fun k => k.elim0⟩

/-- Finite arguments are real numbers. -/
theorem real_of_finite [Cert.Pre_finite.Facts] (b0 : FVec Ideal ⟨2, ![32, 8]⟩ .f32) (b1 b2 b3 b4 : FVec Ideal ⟨3, ![32, 2048, 256]⟩ .f32) (b5 : FVec Ideal ⟨2, ![8, 40]⟩ .f32)
    (b6 : FVec Ideal ⟨1, ![40]⟩ .f32) (b7 : FVec Ideal ⟨2, ![40, 20]⟩ .f32) (b8 : FVec Ideal ⟨1, ![20]⟩ .f32) (b9 : FVec Ideal ⟨2, ![1044, 256]⟩ .f32)
    (b10 : FVec Ideal ⟨1, ![256]⟩ .f32) (h : Cert.Pre_finite.fn (F := Ideal) b0 b1 b2 b3 b4 b5 b6 b7 b8 b9 b10 = fun _ => 1#1) :
    (Data.of b0 b1 b2 b3 b4 b5 b6 b7 b8 b9 b10).Real := by
  have h := congrFun h (fun a => a.elim0)
  obtain ⟨h, g10⟩ := IntOp.andi_eq_one.1 h
  obtain ⟨h, g9⟩ := IntOp.andi_eq_one.1 h
  obtain ⟨h, g8⟩ := IntOp.andi_eq_one.1 h
  obtain ⟨h, g7⟩ := IntOp.andi_eq_one.1 h
  obtain ⟨h, g6⟩ := IntOp.andi_eq_one.1 h
  obtain ⟨h, g5⟩ := IntOp.andi_eq_one.1 h
  obtain ⟨h, g4⟩ := IntOp.andi_eq_one.1 h
  obtain ⟨h, g3⟩ := IntOp.andi_eq_one.1 h
  obtain ⟨h, g2⟩ := IntOp.andi_eq_one.1 h
  obtain ⟨h, g1⟩ := IntOp.andi_eq_one.1 h
  obtain ⟨h, g0⟩ := IntOp.andi_eq_one.1 h
  exact ⟨fun n p => isR_of_all b0 _ _ _ _ _ g0 _, fun n t k => isR_of_all b1 _ _ _ _ _ g1 _, fun n t k => isR_of_all b2 _ _ _ _ _ g2 _,
    fun n t k => isR_of_all b3 _ _ _ _ _ g3 _, fun n t k => isR_of_all b4 _ _ _ _ _ g4 _, fun p k => isR_of_all b5 _ _ _ _ _ g5 _,
    fun k => isR_of_all b6 _ _ _ _ _ g6 _, fun k e => isR_of_all b7 _ _ _ _ _ g7 _, fun e => isR_of_all b8 _ _ _ _ _ g8 _,
    fun k d => isR_of_all b9 _ _ _ _ _ g9 _, fun d => isR_of_all b10 _ _ _ _ _ g10 _⟩

end Cert.Enc

end

end
-- ==== Proof.lean ====
/-
  The proof of this directory's claims. The kernel's frame is proved once for each print of the kernel
  (`Proof/KernelIdeal/Frame.lean`, `Proof/Kernel/Frame.lean`); the reference's in `Proof/Reference/Keep.lean`. The results, each
  program's as the same function of the arguments' entries (`Proof/Math/Data.lean`), are in `Proof/KernelIdeal/Results.lean` and
  `Proof/Reference/Results.lean`.
-/
module

public import proofs.«01_k».proof.Defs
public import proofs.«01_k».proof.Proof.KernelIdeal.Results
public import proofs.«01_k».proof.Proof.Kernel.Frame
public import proofs.«01_k».proof.Proof.Reference.Results
public import proofs.«01_k».proof.Proof.Math.Finite

@[expose] public section

noncomputable section

namespace Cert.Proof

open Idealize.ShloMosaic Idealize.ShloMosaic.TcCoe Idealize.SL.Sem

/-- A device's arguments are real where the precondition holds. -/
theorem real (m : (ℓ : Loc Cert.KernelIdeal.nD Cert.KernelIdeal.τ Cert.KernelIdeal.sig) → Buf (Elt Ideal) ℓ)
    (h : Cert.Pre_KernelIdeal_finite (hPre_finite := Cert.Enc.preFacts) m) (c : Dev Cert.KernelIdeal.nD) : (Cert.KernelIdeal.Enc.dataK m c).Real :=
  haveI := Cert.Enc.preFacts; Cert.Enc.real_of_finite _ _ _ _ _ _ _ _ _ _ _ (h c)

/-- The kernel and the reference, on equal finite arguments, end with equal results. -/
theorem algebraic : Cert.algebraic_KernelIdeal_ReferenceIdeal_pre_finite (hKernelIdeal := Cert.KernelIdeal.Gen.facts) (hReferenceIdeal := Cert.ReferenceIdeal.Gen.facts)
    (hPre_finite := Cert.Enc.preFacts) := by
  intro m g m' g' hpre hargs
  have hD := real m hpre
  have e : ∀ c : Dev Cert.KernelIdeal.nD, Cert.ReferenceIdeal.Enc.dataR m' c = Cert.KernelIdeal.Enc.dataK m c := fun c => by
    obtain ⟨h0, h1, h2, h3, h4, h5, h6, h7, h8, h9, h10⟩ := hargs c
    unfold Cert.ReferenceIdeal.Enc.dataR Cert.KernelIdeal.Enc.dataK
    rw [h0, h1, h2, h3, h4, h5, h6, h7, h8, h9, h10]
  have hD' : ∀ c, (Cert.ReferenceIdeal.Enc.dataR m' c).Real := fun c => by rw [e c]; exact hD c
  refine ⟨fun c => ((Cert.KernelIdeal.Enc.dataK m c).outArr : Cert.KernelIdeal.S32x2048x788.Idx → EReal),
    fun c => ((Cert.KernelIdeal.Enc.dataK m c).idxArr : Cert.KernelIdeal.S32x256x2048.Idx → BitVec 32),
    fun c => ((Cert.KernelIdeal.Enc.dataK m c).actArr : Cert.KernelIdeal.S32x256x2048.Idx → EReal),
    Cert.KernelIdeal.Enc.results m g hD, ?_⟩
  have h := Cert.ReferenceIdeal.Enc.results m' g' hD'
  simp only [e] at h
  exact h

/-- Everything the certificate claims. -/
theorem claim : Cert.Claim :=
  ⟨Cert.Kernel.Gen.facts, Cert.KernelIdeal.Gen.facts, Cert.ReferenceIdeal.Gen.facts, Cert.Enc.preFacts,
    fun m ρ _ => Cert.Kernel.Enc.frame m ρ,
    fun m ρ _ => Cert.KernelIdeal.Enc.frame m ρ,
    fun m ρ _ => Cert.KernelIdeal.Enc.frame m ρ,
    fun m ρ _ => Cert.ReferenceIdeal.Enc.frame m ρ,
    fun m ρ _ => Cert.ReferenceIdeal.Enc.frame m ρ,
    trivial, algebraic⟩

end Cert.Proof

end

end
